-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_DXn (m : (ℓ : Loc Cert.DXn.nD Cert.DXn.τ Cert.DXn.sig) → Buf (Elt Bits) ℓ) : Prop :=
  True

def Pre_DXnIdeal (m : (ℓ : Loc Cert.DXnIdeal.nD Cert.DXnIdeal.τ Cert.DXnIdeal.sig) → Buf (Elt Ideal) ℓ) : Prop :=
  True

def Pre_DXnRefIdeal (m : (ℓ : Loc Cert.DXnRefIdeal.nD Cert.DXnRefIdeal.τ Cert.DXnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1))
      ∧ r.2.sem = fun _ => 0)

def quiescent_DXn [hDXn : Cert.DXn.Facts] : Prop :=
  ∀ (m : (ℓ : Loc Cert.DXn.nD Cert.DXn.τ Cert.DXn.sig) → Buf (Elt Bits) ℓ) (g : Dev Cert.DXn.nD → PrngReg), Pre_DXn m →
    θ_run (Cert.DXn.defs (F := Bits)) (onTc (τ := Cert.DXn.τ) (Cert.DXn.main (F := Bits))) ⟨m, fun _ => 0, g⟩ (fun r => (∀ c : Dev Cert.DXn.nD,
      r.2.mem ((c.tc : Thread Cert.DXn.nD Cert.DXn.τ).loc Cert.DXn.main_arg0) = m ((c.tc : Thread Cert.DXn.nD Cert.DXn.τ).loc Cert.DXn.main_arg0)
      ∧ r.2.mem ((c.tc : Thread Cert.DXn.nD Cert.DXn.τ).loc Cert.DXn.main_arg1) = m ((c.tc : Thread Cert.DXn.nD Cert.DXn.τ).loc Cert.DXn.main_arg1))
      ∧ r.2.sem = fun _ => 0)

def quiescent_DXnIdeal [hDXnIdeal : Cert.DXnIdeal.Facts] : Prop :=
  ∀ (m : (ℓ : Loc Cert.DXnIdeal.nD Cert.DXnIdeal.τ Cert.DXnIdeal.sig) → Buf (Elt Ideal) ℓ) (g : Dev Cert.DXnIdeal.nD → PrngReg), Pre_DXnIdeal m →
    θ_run (Cert.DXnIdeal.defs (F := Ideal)) (onTc (τ := Cert.DXnIdeal.τ) (Cert.DXnIdeal.main (F := Ideal))) ⟨m, fun _ => 0, g⟩ (fun r => (∀ c : Dev Cert.DXnIdeal.nD,
      r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
      ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1))
      ∧ r.2.sem = fun _ => 0)

def quiescent_DXnRefIdeal [hDXnRefIdeal : Cert.DXnRefIdeal.Facts] : Prop :=
  ∀ (m : (ℓ : Loc Cert.DXnRefIdeal.nD Cert.DXnRefIdeal.τ Cert.DXnRefIdeal.sig) → Buf (Elt Ideal) ℓ) (g : Dev Cert.DXnRefIdeal.nD → PrngReg), Pre_DXnRefIdeal m →
    θ_run (Cert.DXnRefIdeal.defs (F := Ideal)) (onTc (τ := Cert.DXnRefIdeal.τ) (Cert.DXnRefIdeal.main (F := Ideal))) ⟨m, fun _ => 0, g⟩ (fun r => (∀ c : Dev Cert.DXnRefIdeal.nD,
      r.2.mem ((c.tc : Thread Cert.DXnRefIdeal.nD Cert.DXnRefIdeal.τ).loc Cert.DXnRefIdeal.main_arg0) = m ((c.tc : Thread Cert.DXnRefIdeal.nD Cert.DXnRefIdeal.τ).loc Cert.DXnRefIdeal.main_arg0)
      ∧ r.2.mem ((c.tc : Thread Cert.DXnRefIdeal.nD Cert.DXnRefIdeal.τ).loc Cert.DXnRefIdeal.main_arg1) = m ((c.tc : Thread Cert.DXnRefIdeal.nD Cert.DXnRefIdeal.τ).loc Cert.DXnRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v34) = v0 c
          ∧ r.2.mem ((c.tc : Thread Cert.NormRefIdeal.nD Cert.NormRefIdeal.τ).loc Cert.NormRefIdeal.main_v35) = v1 c
          ∧ r.2.mem ((c.tc : Thread Cert.NormRefIdeal.nD Cert.NormRefIdeal.τ).loc Cert.NormRefIdeal.main_v17) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)) →
    ∃ (v0 : (c : Dev Cert.NormFirstIdeal.nD) → Buf (Elt Ideal) ((c.tc : Thread Cert.NormFirstIdeal.nD Cert.NormFirstIdeal.τ).loc Cert.NormFirstIdeal.main_v0_0)) (v1 : (c : Dev Cert.NormFirstIdeal.nD) → Buf (Elt Ideal) ((c.tc : Thread Cert.NormFirstIdeal.nD Cert.NormFirstIdeal.τ).loc Cert.NormFirstIdeal.main_v0_1)) (v2 : (c : Dev Cert.NormFirstIdeal.nD) → Buf (Elt Ideal) ((c.tc : Thread Cert.NormFirstIdeal.nD Cert.NormFirstIdeal.τ).loc Cert.NormFirstIdeal.main_v0_2)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0_0) = v0 c
          ∧ r.2.mem ((c.tc : Thread Cert.NormFirstIdeal.nD Cert.NormFirstIdeal.τ).loc Cert.NormFirstIdeal.main_v0_1) = v1 c
          ∧ r.2.mem ((c.tc : Thread Cert.NormFirstIdeal.nD Cert.NormFirstIdeal.τ).loc Cert.NormFirstIdeal.main_v0_2) = v2 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v35) = v0 c
          ∧ r.2.mem ((c.tc : Thread Cert.NormFirstRefIdeal.nD Cert.NormFirstRefIdeal.τ).loc Cert.NormFirstRefIdeal.main_v36) = v1 c
          ∧ r.2.mem ((c.tc : Thread Cert.NormFirstRefIdeal.nD Cert.NormFirstRefIdeal.τ).loc Cert.NormFirstRefIdeal.main_v17) = v2 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v16) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_v22) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v6) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v7) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1))

def preserves_DXn_DXnIdeal : Prop :=
  True

def algebraic_DXnIdeal_DXnRefIdeal [hDXnIdeal : Cert.DXnIdeal.Facts] [hDXnRefIdeal : Cert.DXnRefIdeal.Facts] : Prop :=
  ∀ (m : (ℓ : Loc Cert.DXnIdeal.nD Cert.DXnIdeal.τ Cert.DXnIdeal.sig) → Buf (Elt Ideal) ℓ) (g : Dev Cert.DXnIdeal.nD → PrngReg)
    (m' : (ℓ : Loc Cert.DXnRefIdeal.nD Cert.DXnRefIdeal.τ Cert.DXnRefIdeal.sig) → Buf (Elt Ideal) ℓ) (g' : Dev Cert.DXnRefIdeal.nD → PrngReg), Pre_DXnIdeal m →
    (∀ c : Dev Cert.DXnIdeal.nD,
      m' ((c.tc : Thread Cert.DXnRefIdeal.nD Cert.DXnRefIdeal.τ).loc Cert.DXnRefIdeal.main_arg0) = m ((c.tc : Thread Cert.DXnIdeal.nD Cert.DXnIdeal.τ).loc Cert.DXnIdeal.main_arg0)
      ∧ m' ((c.tc : Thread Cert.DXnRefIdeal.nD Cert.DXnRefIdeal.τ).loc Cert.DXnRefIdeal.main_arg1) = m ((c.tc : Thread Cert.DXnIdeal.nD Cert.DXnIdeal.τ).loc Cert.DXnIdeal.main_arg1)) →
    ∃ (v0 : (c : Dev Cert.DXnIdeal.nD) → Buf (Elt Ideal) ((c.tc : Thread Cert.DXnIdeal.nD Cert.DXnIdeal.τ).loc Cert.DXnIdeal.main_v0)),
      θ_run (Cert.DXnIdeal.defs (F := Ideal)) (onTc (τ := Cert.DXnIdeal.τ) (Cert.DXnIdeal.main (F := Ideal))) ⟨m, fun _ => 0, g⟩ (fun r => ∀ c : Dev Cert.DXnIdeal.nD,
          r.2.mem ((c.tc : Thread Cert.DXnIdeal.nD Cert.DXnIdeal.τ).loc Cert.DXnIdeal.main_v0) = v0 c
          ∧ r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
          ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1))
      ∧ θ_run (Cert.DXnRefIdeal.defs (F := Ideal)) (onTc (τ := Cert.DXnRefIdeal.τ) (Cert.DXnRefIdeal.main (F := Ideal))) ⟨m', fun _ => 0, g'⟩ (fun r => ∀ c : Dev Cert.DXnRefIdeal.nD,
          r.2.mem ((c.tc : Thread Cert.DXnRefIdeal.nD Cert.DXnRefIdeal.τ).loc Cert.DXnRefIdeal.main_v4) = v0 c
          ∧ r.2.mem ((c.tc : Thread Cert.DXnRefIdeal.nD Cert.DXnRefIdeal.τ).loc Cert.DXnRefIdeal.main_arg0) = m' ((c.tc : Thread Cert.DXnRefIdeal.nD Cert.DXnRefIdeal.τ).loc Cert.DXnRefIdeal.main_arg0)
          ∧ r.2.mem ((c.tc : Thread Cert.DXnRefIdeal.nD Cert.DXnRefIdeal.τ).loc Cert.DXnRefIdeal.main_arg1) = m' ((c.tc : Thread Cert.DXnRefIdeal.nD Cert.DXnRefIdeal.τ).loc Cert.DXnRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v34) = v0 c
          ∧ r.2.mem ((c.tc : Thread Cert.AdamInRefIdeal.nD Cert.AdamInRefIdeal.τ).loc Cert.AdamInRefIdeal.main_v35) = v1 c
          ∧ r.2.mem ((c.tc : Thread Cert.AdamInRefIdeal.nD Cert.AdamInRefIdeal.τ).loc Cert.AdamInRefIdeal.main_v36) = v2 c
          ∧ r.2.mem ((c.tc : Thread Cert.AdamInRefIdeal.nD Cert.AdamInRefIdeal.τ).loc Cert.AdamInRefIdeal.main_v37) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)) (v3 : (c : Dev Cert.AdamOutIdeal.nD) → Buf (Elt Ideal) ((c.tc : Thread Cert.AdamOutIdeal.nD Cert.AdamOutIdeal.τ).loc Cert.AdamOutIdeal.main_v3_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_v3_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v31) = v0 c
          ∧ r.2.mem ((c.tc : Thread Cert.AdamOutRefIdeal.nD Cert.AdamOutRefIdeal.τ).loc Cert.AdamOutRefIdeal.main_v32) = v1 c
          ∧ r.2.mem ((c.tc : Thread Cert.AdamOutRefIdeal.nD Cert.AdamOutRefIdeal.τ).loc Cert.AdamOutRefIdeal.main_v33) = v2 c
          ∧ r.2.mem ((c.tc : Thread Cert.AdamOutRefIdeal.nD Cert.AdamOutRefIdeal.τ).loc Cert.AdamOutRefIdeal.main_v34) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)) (v3 : (c : Dev Cert.AdamMetaIdeal.nD) → Buf (Elt Ideal) ((c.tc : Thread Cert.AdamMetaIdeal.nD Cert.AdamMetaIdeal.τ).loc Cert.AdamMetaIdeal.main_v0_3)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_v0_3) = v3 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v0) = v0 c
          ∧ r.2.mem ((c.tc : Thread Cert.AdamMetaRefIdeal.nD Cert.AdamMetaRefIdeal.τ).loc Cert.AdamMetaRefIdeal.main_v24) = v1 c
          ∧ r.2.mem ((c.tc : Thread Cert.AdamMetaRefIdeal.nD Cert.AdamMetaRefIdeal.τ).loc Cert.AdamMetaRefIdeal.main_v5) = v2 c
          ∧ r.2.mem ((c.tc : Thread Cert.AdamMetaRefIdeal.nD Cert.AdamMetaRefIdeal.τ).loc Cert.AdamMetaRefIdeal.main_v11) = v3 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v3_0)) (v1 : (c : Dev Cert.AdamNormIdeal.nD) → Buf (Elt Ideal) ((c.tc : Thread Cert.AdamNormIdeal.nD Cert.AdamNormIdeal.τ).loc Cert.AdamNormIdeal.main_v3_1)) (v2 : (c : Dev Cert.AdamNormIdeal.nD) → Buf (Elt Ideal) ((c.tc : Thread Cert.AdamNormIdeal.nD Cert.AdamNormIdeal.τ).loc Cert.AdamNormIdeal.main_v3_2)) (v3 : (c : Dev Cert.AdamNormIdeal.nD) → Buf (Elt Ideal) ((c.tc : Thread Cert.AdamNormIdeal.nD Cert.AdamNormIdeal.τ).loc Cert.AdamNormIdeal.main_v3_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v3_0) = v0 c
          ∧ r.2.mem ((c.tc : Thread Cert.AdamNormIdeal.nD Cert.AdamNormIdeal.τ).loc Cert.AdamNormIdeal.main_v3_1) = v1 c
          ∧ r.2.mem ((c.tc : Thread Cert.AdamNormIdeal.nD Cert.AdamNormIdeal.τ).loc Cert.AdamNormIdeal.main_v3_2) = v2 c
          ∧ r.2.mem ((c.tc : Thread Cert.AdamNormIdeal.nD Cert.AdamNormIdeal.τ).loc Cert.AdamNormIdeal.main_v3_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v26) = v0 c
          ∧ r.2.mem ((c.tc : Thread Cert.AdamNormRefIdeal.nD Cert.AdamNormRefIdeal.τ).loc Cert.AdamNormRefIdeal.main_v27) = v1 c
          ∧ r.2.mem ((c.tc : Thread Cert.AdamNormRefIdeal.nD Cert.AdamNormRefIdeal.τ).loc Cert.AdamNormRefIdeal.main_v28) = v2 c
          ∧ r.2.mem ((c.tc : Thread Cert.AdamNormRefIdeal.nD Cert.AdamNormRefIdeal.τ).loc Cert.AdamNormRefIdeal.main_v29) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)) →
    ∃ (v0 : (c : Dev Cert.AdamSmallIdeal.nD) → Buf (Elt Ideal) ((c.tc : Thread Cert.AdamSmallIdeal.nD Cert.AdamSmallIdeal.τ).loc Cert.AdamSmallIdeal.main_v30_0)) (v1 : (c : Dev Cert.AdamSmallIdeal.nD) → Buf (Elt Ideal) ((c.tc : Thread Cert.AdamSmallIdeal.nD Cert.AdamSmallIdeal.τ).loc Cert.AdamSmallIdeal.main_v30_1)) (v2 : (c : Dev Cert.AdamSmallIdeal.nD) → Buf (Elt Ideal) ((c.tc : Thread Cert.AdamSmallIdeal.nD Cert.AdamSmallIdeal.τ).loc Cert.AdamSmallIdeal.main_v30_2)) (v3 : (c : Dev Cert.AdamSmallIdeal.nD) → Buf (Elt Ideal) ((c.tc : Thread Cert.AdamSmallIdeal.nD Cert.AdamSmallIdeal.τ).loc Cert.AdamSmallIdeal.main_v30_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v30_0) = v0 c
          ∧ r.2.mem ((c.tc : Thread Cert.AdamSmallIdeal.nD Cert.AdamSmallIdeal.τ).loc Cert.AdamSmallIdeal.main_v30_1) = v1 c
          ∧ r.2.mem ((c.tc : Thread Cert.AdamSmallIdeal.nD Cert.AdamSmallIdeal.τ).loc Cert.AdamSmallIdeal.main_v30_2) = v2 c
          ∧ r.2.mem ((c.tc : Thread Cert.AdamSmallIdeal.nD Cert.AdamSmallIdeal.τ).loc Cert.AdamSmallIdeal.main_v30_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v10) = v0 c
          ∧ r.2.mem ((c.tc : Thread Cert.AdamSmallRefIdeal.nD Cert.AdamSmallRefIdeal.τ).loc Cert.AdamSmallRefIdeal.main_v54) = v1 c
          ∧ r.2.mem ((c.tc : Thread Cert.AdamSmallRefIdeal.nD Cert.AdamSmallRefIdeal.τ).loc Cert.AdamSmallRefIdeal.main_v35) = v2 c
          ∧ r.2.mem ((c.tc : Thread Cert.AdamSmallRefIdeal.nD Cert.AdamSmallRefIdeal.τ).loc Cert.AdamSmallRefIdeal.main_v41) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v98_0)) (v1 : (c : Dev Cert.AttnIdeal.nD) → Buf (Elt Ideal) ((c.tc : Thread Cert.AttnIdeal.nD Cert.AttnIdeal.τ).loc Cert.AttnIdeal.main_v98_1)) (v2 : (c : Dev Cert.AttnIdeal.nD) → Buf (Elt Ideal) ((c.tc : Thread Cert.AttnIdeal.nD Cert.AttnIdeal.τ).loc Cert.AttnIdeal.main_v98_2)) (v3 : (c : Dev Cert.AttnIdeal.nD) → Buf (Elt Ideal) ((c.tc : Thread Cert.AttnIdeal.nD Cert.AttnIdeal.τ).loc Cert.AttnIdeal.main_v98_3)) (v4 : (c : Dev Cert.AttnIdeal.nD) → Buf (Elt Ideal) ((c.tc : Thread Cert.AttnIdeal.nD Cert.AttnIdeal.τ).loc Cert.AttnIdeal.main_v98_4)) (v5 : (c : Dev Cert.AttnIdeal.nD) → Buf (Elt Ideal) ((c.tc : Thread Cert.AttnIdeal.nD Cert.AttnIdeal.τ).loc Cert.AttnIdeal.main_v98_5)) (v6 : (c : Dev Cert.AttnIdeal.nD) → Buf (Elt Ideal) ((c.tc : Thread Cert.AttnIdeal.nD Cert.AttnIdeal.τ).loc Cert.AttnIdeal.main_v98_6)) (v7 : (c : Dev Cert.AttnIdeal.nD) → Buf (Elt Ideal) ((c.tc : Thread Cert.AttnIdeal.nD Cert.AttnIdeal.τ).loc Cert.AttnIdeal.main_v98_7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v98_0) = v0 c
          ∧ r.2.mem ((c.tc : Thread Cert.AttnIdeal.nD Cert.AttnIdeal.τ).loc Cert.AttnIdeal.main_v98_1) = v1 c
          ∧ r.2.mem ((c.tc : Thread Cert.AttnIdeal.nD Cert.AttnIdeal.τ).loc Cert.AttnIdeal.main_v98_2) = v2 c
          ∧ r.2.mem ((c.tc : Thread Cert.AttnIdeal.nD Cert.AttnIdeal.τ).loc Cert.AttnIdeal.main_v98_3) = v3 c
          ∧ r.2.mem ((c.tc : Thread Cert.AttnIdeal.nD Cert.AttnIdeal.τ).loc Cert.AttnIdeal.main_v98_4) = v4 c
          ∧ r.2.mem ((c.tc : Thread Cert.AttnIdeal.nD Cert.AttnIdeal.τ).loc Cert.AttnIdeal.main_v98_5) = v5 c
          ∧ r.2.mem ((c.tc : Thread Cert.AttnIdeal.nD Cert.AttnIdeal.τ).loc Cert.AttnIdeal.main_v98_6) = v6 c
          ∧ r.2.mem ((c.tc : Thread Cert.AttnIdeal.nD Cert.AttnIdeal.τ).loc Cert.AttnIdeal.main_v98_7) = v7 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v152) = v0 c
          ∧ r.2.mem ((c.tc : Thread Cert.AttnRefIdeal.nD Cert.AttnRefIdeal.τ).loc Cert.AttnRefIdeal.main_v164) = v1 c
          ∧ r.2.mem ((c.tc : Thread Cert.AttnRefIdeal.nD Cert.AttnRefIdeal.τ).loc Cert.AttnRefIdeal.main_v165) = v2 c
          ∧ r.2.mem ((c.tc : Thread Cert.AttnRefIdeal.nD Cert.AttnRefIdeal.τ).loc Cert.AttnRefIdeal.main_v156) = v3 c
          ∧ r.2.mem ((c.tc : Thread Cert.AttnRefIdeal.nD Cert.AttnRefIdeal.τ).loc Cert.AttnRefIdeal.main_v157) = v4 c
          ∧ r.2.mem ((c.tc : Thread Cert.AttnRefIdeal.nD Cert.AttnRefIdeal.τ).loc Cert.AttnRefIdeal.main_v168) = v5 c
          ∧ r.2.mem ((c.tc : Thread Cert.AttnRefIdeal.nD Cert.AttnRefIdeal.τ).loc Cert.AttnRefIdeal.main_v160) = v6 c
          ∧ r.2.mem ((c.tc : Thread Cert.AttnRefIdeal.nD Cert.AttnRefIdeal.τ).loc Cert.AttnRefIdeal.main_v170) = v7 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def Claim : Prop :=
  ∃ (hNorm : Cert.Norm.Facts) (hNormIdeal : Cert.NormIdeal.Facts) (hNormRefIdeal : Cert.NormRefIdeal.Facts) (hNormFirst : Cert.NormFirst.Facts) (hNormFirstIdeal : Cert.NormFirstIdeal.Facts) (hNormFirstRefIdeal : Cert.NormFirstRefIdeal.Facts) (hLoss : Cert.Loss.Facts) (hLossIdeal : Cert.LossIdeal.Facts) (hLossRefIdeal : Cert.LossRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hDMixed : Cert.DMixed.Facts) (hDMixedIdeal : Cert.DMixedIdeal.Facts) (hDMixedRefIdeal : Cert.DMixedRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwInB : Cert.DwInB.Facts) (hDwInBIdeal : Cert.DwInBIdeal.Facts) (hDwInBRefIdeal : Cert.DwInBRefIdeal.Facts) (hDXn : Cert.DXn.Facts) (hDXnIdeal : Cert.DXnIdeal.Facts) (hDXnRefIdeal : Cert.DXnRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamMeta : Cert.AdamMeta.Facts) (hAdamMetaIdeal : Cert.AdamMetaIdeal.Facts) (hAdamMetaRefIdeal : Cert.AdamMetaRefIdeal.Facts) (hAdamNorm : Cert.AdamNorm.Facts) (hAdamNormIdeal : Cert.AdamNormIdeal.Facts) (hAdamNormRefIdeal : Cert.AdamNormRefIdeal.Facts) (hAdamSmall : Cert.AdamSmall.Facts) (hAdamSmallIdeal : Cert.AdamSmallIdeal.Facts) (hAdamSmallRefIdeal : Cert.AdamSmallRefIdeal.Facts) (hAttn : Cert.Attn.Facts) (hAttnIdeal : Cert.AttnIdeal.Facts) (hAttnRefIdeal : Cert.AttnRefIdeal.Facts) (hPre_finite : Cert.Pre_finite.Facts),
    quiescent_Norm (hNorm := hNorm)
    ∧ quiescent_NormIdeal (hNormIdeal := hNormIdeal)
    ∧ quiescent_NormRefIdeal (hNormRefIdeal := hNormRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_Loss (hLoss := hLoss)
    ∧ quiescent_LossIdeal (hLossIdeal := hLossIdeal)
    ∧ quiescent_LossRefIdeal (hLossRefIdeal := hLossRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_DXn (hDXn := hDXn)
    ∧ quiescent_DXnIdeal (hDXnIdeal := hDXnIdeal)
    ∧ quiescent_DXnRefIdeal (hDXnRefIdeal := hDXnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ preserves_Norm_NormIdeal
    ∧ algebraic_NormIdeal_NormRefIdeal (hNormIdeal := hNormIdeal) (hNormRefIdeal := hNormRefIdeal)
    ∧ preserves_NormFirst_NormFirstIdeal
    ∧ algebraic_NormFirstIdeal_NormFirstRefIdeal (hNormFirstIdeal := hNormFirstIdeal) (hNormFirstRefIdeal := hNormFirstRefIdeal)
    ∧ preserves_Loss_LossIdeal
    ∧ algebraic_LossIdeal_LossRefIdeal (hLossIdeal := hLossIdeal) (hLossRefIdeal := hLossRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_DMixed_DMixedIdeal
    ∧ algebraic_DMixedIdeal_DMixedRefIdeal (hDMixedIdeal := hDMixedIdeal) (hDMixedRefIdeal := hDMixedRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_DwInB_DwInBIdeal
    ∧ algebraic_DwInBIdeal_DwInBRefIdeal (hDwInBIdeal := hDwInBIdeal) (hDwInBRefIdeal := hDwInBRefIdeal)
    ∧ preserves_DXn_DXnIdeal
    ∧ algebraic_DXnIdeal_DXnRefIdeal (hDXnIdeal := hDXnIdeal) (hDXnRefIdeal := hDXnRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Attn_AttnIdeal
    ∧ algebraic_AttnIdeal_AttnRefIdeal_pre_finite (hAttnIdeal := hAttnIdeal) (hAttnRefIdeal := hAttnRefIdeal) (hPre_finite := hPre_finite)
-- ==== Pre_finite.lean ====
abbrev S8320x1024 : Shape := ⟨2, ![8320, 1024]⟩
abbrev S8320x256 : Shape := ⟨2, ![8320, 256]⟩
abbrev S16 : Shape := ⟨1, ![16]⟩
abbrev S_ : Shape := ⟨0, ![]⟩

class Facts : Prop where
  bcast_S_S8320x1024 : S_.BroadcastsInDim S8320x1024 (![] : Fin 0 → Fin S8320x1024.rank)
  bcast_S_S8320x256 : S_.BroadcastsInDim S8320x256 (![] : Fin 0 → Fin S8320x256.rank)
  bcast_S_S16 : S_.BroadcastsInDim S16 (![] : Fin 0 → Fin S16.rank)

variable [Facts]

def fn_part1 {F : FTy → Type} [FloatOps F] (main_arg3 : FVec F S16 .f32) (main_arg4 : FVec F S8320x1024 .f32) (main_v4 : IVec S8320x1024 1) (main_v9 : IVec S8320x256 1) (main_v14 : IVec S8320x256 1) (main_v16 : IVec S16 1) : IVec S8320x1024 1 × IVec S8320x256 1 × IVec S8320x256 1 × IVec S16 1 × IVec S8320x1024 1 :=
  let main_cst_6 : FVec F S_ .f32 := constant S_ .f32 0x7F800000#32
  let main_v17 : FVec F S16 .f32 := broadcastInDim S16 ![] bcast_S_S16 main_cst_6
  let main_v18 : IVec S16 1 := cmpf .olt main_arg3 main_v17
  let main_v19 : IVec S16 1 := andi main_v16 main_v18
  let main_cst_7 : FVec F S_ .f32 := constant S_ .f32 0xFF800000#32
  let main_v20 : FVec F S8320x1024 .f32 := broadcastInDim S8320x1024 ![] bcast_S_S8320x1024 main_cst_7
  let main_v21 : IVec S8320x1024 1 := cmpf .ogt main_arg4 main_v20
  let main_cst_8 : FVec F S_ .f32 := constant S_ .f32 0x7F800000#32
  let main_v22 : FVec F S8320x1024 .f32 := broadcastInDim S8320x1024 ![] bcast_S_S8320x1024 main_cst_8
  let main_v23 : IVec S8320x1024 1 := cmpf .olt main_arg4 main_v22
  let main_v24 : IVec S8320x1024 1 := andi main_v21 main_v23
  (main_v4, main_v9, main_v14, main_v19, main_v24)

def fn {F : FTy → Type} [FloatOps F] (main_arg0 : FVec F S8320x1024 .bf16) (main_arg1 : FVec F S8320x256 .bf16) (main_arg2 : FVec F S8320x256 .bf16) (main_arg3 : FVec F S16 .f32) (main_arg4 : FVec F S8320x1024 .f32) : IVec S8320x1024 1 × IVec S8320x256 1 × IVec S8320x256 1 × IVec S16 1 × IVec S8320x1024 1 :=
  let main_cst : FVec F S_ .bf16 := constant S_ .bf16 0xFF80#16
  let main_v0 : FVec F S8320x1024 .bf16 := broadcastInDim S8320x1024 ![] bcast_S_S8320x1024 main_cst
  let main_v1 : IVec S8320x1024 1 := cmpf .ogt main_arg0 main_v0
  let main_cst_0 : FVec F S_ .bf16 := constant S_ .bf16 0x7F80#16
  let main_v2 : FVec F S8320x1024 .bf16 := broadcastInDim S8320x1024 ![] bcast_S_S8320x1024 main_cst_0
  let main_v3 : IVec S8320x1024 1 := cmpf .olt main_arg0 main_v2
  let main_v4 : IVec S8320x1024 1 := andi main_v1 main_v3
  let main_cst_1 : FVec F S_ .bf16 := constant S_ .bf16 0xFF80#16
  let main_v5 : FVec F S8320x256 .bf16 := broadcastInDim S8320x256 ![] bcast_S_S8320x256 main_cst_1
  let main_v6 : IVec S8320x256 1 := cmpf .ogt main_arg1 main_v5
  let main_cst_2 : FVec F S_ .bf16 := constant S_ .bf16 0x7F80#16
  let main_v7 : FVec F S8320x256 .bf16 := broadcastInDim S8320x256 ![] bcast_S_S8320x256 main_cst_2
  let main_v8 : IVec S8320x256 1 := cmpf .olt main_arg1 main_v7
  let main_v9 : IVec S8320x256 1 := andi main_v6 main_v8
  let main_cst_3 : FVec F S_ .bf16 := constant S_ .bf16 0xFF80#16
  let main_v10 : FVec F S8320x256 .bf16 := broadcastInDim S8320x256 ![] bcast_S_S8320x256 main_cst_3
  let main_v11 : IVec S8320x256 1 := cmpf .ogt main_arg2 main_v10
  let main_cst_4 : FVec F S_ .bf16 := constant S_ .bf16 0x7F80#16
  let main_v12 : FVec F S8320x256 .bf16 := broadcastInDim S8320x256 ![] bcast_S_S8320x256 main_cst_4
  let main_v13 : IVec S8320x256 1 := cmpf .olt main_arg2 main_v12
  let main_v14 : IVec S8320x256 1 := andi main_v11 main_v13
  let main_cst_5 : FVec F S_ .f32 := constant S_ .f32 0xFF800000#32
  let main_v15 : FVec F S16 .f32 := broadcastInDim S16 ![] bcast_S_S16 main_cst_5
  let main_v16 : IVec S16 1 := cmpf .ogt main_arg3 main_v15
  fn_part1 (F := F) main_arg3 main_arg4 main_v4 main_v9 main_v14 main_v16
-- ==== Norm.lean ====
abbrev S8320x2048 : Shape := ⟨2, ![8320, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x2048, .f32⟩
  | .hbm, ⟨3, _⟩ => ⟨S8320x2048, .f32⟩
  | .hbm, ⟨4, _⟩ => ⟨S8320x2048, .f32⟩
  | .hbm, ⟨5, _⟩ => ⟨S8320x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x2048, .f32⟩
  | .hbm, ⟨3, _⟩ => ⟨S8320x2048, .f32⟩
  | .hbm, ⟨4, _⟩ => ⟨S8320x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S_, .f32⟩
  | .hbm, ⟨41, _⟩ => ⟨S8320, .f32⟩
  | .hbm, ⟨42, _⟩ => ⟨S8320x2048, .f32⟩
  | .hbm, ⟨43, _⟩ => ⟨S8320x2048, .f32⟩
  | .hbm, ⟨44, _⟩ => ⟨S8320x2048, .f32⟩
  | .hbm, ⟨45, _⟩ => ⟨S8320x2048, .f32⟩
  | .hbm, ⟨46, _⟩ => ⟨S8320x2048, .f32⟩
  | .hbm, ⟨47, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== NormFirst.lean ====
abbrev S8320x2048 : Shape := ⟨2, ![8320, 2048]⟩
abbrev S1x2048 : Shape := ⟨2, ![1, 2048]⟩
abbrev S8192x2048 : Shape := ⟨2, ![8192, 2048]⟩
abbrev S16x2048 : Shape := ⟨2, ![16, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x2048, .f32⟩
  | .hbm, ⟨3, _⟩ => ⟨S8320x2048, .f32⟩
  | .hbm, ⟨4, _⟩ => ⟨S8192x2048, .f32⟩
  | .hbm, ⟨5, _⟩ => ⟨S16x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S16x2048, .f32⟩
  | .local _ .vmem, ⟨10, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormFirstRefIdeal.lean ====
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩
abbrev S8192x2048 : Shape := ⟨2, ![8192, 2048]⟩
abbrev S16x2048 : Shape := ⟨2, ![16, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x2048, .f32⟩
  | .hbm, ⟨3, _⟩ => ⟨S8320x2048, .f32⟩
  | .hbm, ⟨4, _⟩ => ⟨S8320x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S_, .f32⟩
  | .hbm, ⟨41, _⟩ => ⟨S8320, .f32⟩
  | .hbm, ⟨42, _⟩ => ⟨S8320x2048, .f32⟩
  | .hbm, ⟨43, _⟩ => ⟨S8320x2048, .f32⟩
  | .hbm, ⟨44, _⟩ => ⟨S8320x2048, .f32⟩
  | .hbm, ⟨45, _⟩ => ⟨S8320x2048, .f32⟩
  | .hbm, ⟨46, _⟩ => ⟨S8320x2048, .f32⟩
  | .hbm, ⟨47, _⟩ => ⟨S8192x2048, .f32⟩
  | .hbm, ⟨48, _⟩ => ⟨S16x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Loss.lean ====
abbrev S8320x2048 : Shape := ⟨2, ![8320, 2048]⟩
abbrev S8192x2048 : Shape := ⟨2, ![8192, 2048]⟩
abbrev S1x2048 : Shape := ⟨2, ![1, 2048]⟩
abbrev S128x2048 : Shape := ⟨2, ![128, 2048]⟩
abbrev S2048 : Shape := ⟨1, ![2048]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S8192x2048, .f32⟩
  | .hbm, ⟨2, _⟩ => ⟨S8320x2048, .f32⟩
  | .hbm, ⟨3, _⟩ => ⟨S8320x2048, .bf16⟩
  | .hbm, ⟨4, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S8320x2048 : Shape := ⟨2, ![8320, 2048]⟩
abbrev S8192x2048 : Shape := ⟨2, ![8192, 2048]⟩
abbrev S_ : Shape := ⟨0, ![]⟩
abbrev S8192 : Shape := ⟨1, ![8192]⟩
abbrev S2048 : Shape := ⟨1, ![2048]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8320x2048, .f32⟩
  | .hbm, ⟨28, _⟩ => ⟨S8320x2048, .bf16⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== InProj.lean ====
abbrev S8320x2048 : Shape := ⟨2, ![8320, 2048]⟩
abbrev S2048x5376 : Shape := ⟨2, ![2048, 5376]⟩
abbrev S8320x5376 : Shape := ⟨2, ![8320, 5376]⟩
abbrev S1664x2048 : Shape := ⟨2, ![1664, 2048]⟩
abbrev S2048x768 : Shape := ⟨2, ![2048, 768]⟩
abbrev S1664x768 : Shape := ⟨2, ![1664, 768]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .f32⟩
  | .local _ .vmem, ⟨0, _⟩ => ⟨S1664x2048, .bf16⟩
  | .local _ .vmem, ⟨1, _⟩ => ⟨S1664x2048, .bf16⟩
  | .local _ .vmem, ⟨2, _⟩ => ⟨S2048x768, .bf16⟩
  | .local _ .vmem, ⟨3, _⟩ => ⟨S2048x768, .bf16⟩
  | .local _ .vmem, ⟨4, _⟩ => ⟨S1664x768, .f32⟩
  | .local _ .vmem, ⟨5, _⟩ => ⟨S1664x768, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8320x2048 : Shape := ⟨2, ![8320, 2048]⟩
abbrev S2048x5376 : Shape := ⟨2, ![2048, 5376]⟩
abbrev S8320x5376 : Shape := ⟨2, ![8320, 5376]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x2048, .f32⟩
  | .hbm, ⟨3, _⟩ => ⟨S2048x5376, .f32⟩
  | .hbm, ⟨4, _⟩ => ⟨S8320x5376, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8320x2048 : Shape := ⟨2, ![8320, 2048]⟩
abbrev S2048x2048 : Shape := ⟨2, ![2048, 2048]⟩
abbrev S640x2048 : Shape := ⟨2, ![640, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S640x2048, .f32⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8320x2048 : Shape := ⟨2, ![8320, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320x2048, .f32⟩
  | .hbm, ⟨4, _⟩ => ⟨S2048x2048, .f32⟩
  | .hbm, ⟨5, _⟩ => ⟨S8320x2048, .f32⟩
  | .hbm, ⟨6, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMixed.lean ====
abbrev S8320x2048 : Shape := ⟨2, ![8320, 2048]⟩
abbrev S2048x2048 : Shape := ⟨2, ![2048, 2048]⟩
abbrev S640x2048 : Shape := ⟨2, ![640, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S640x2048, .f32⟩
  | .local _ .vmem, ⟨4, _⟩ => ⟨S640x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S8320x2048 : Shape := ⟨2, ![8320, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S_, .f32⟩
  | .hbm, ⟨3, _⟩ => ⟨S8320x2048, .f32⟩
  | .hbm, ⟨4, _⟩ => ⟨S_, .f32⟩
  | .hbm, ⟨5, _⟩ => ⟨S8320x2048, .f32⟩
  | .hbm, ⟨6, _⟩ => ⟨S2048x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DwOut.lean ====
abbrev S8320x2048 : Shape := ⟨2, ![8320, 2048]⟩
abbrev S2048x2048 : Shape := ⟨2, ![2048, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S_, .f32⟩
  | .hbm, ⟨3, _⟩ => ⟨S2048x2048, .f32⟩
  | .hbm, ⟨4, _⟩ => ⟨S_, .f32⟩
  | .hbm, ⟨5, _⟩ => ⟨S8320x2048, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwIn.lean ====
abbrev S8320x2048 : Shape := ⟨2, ![8320, 2048]⟩
abbrev S8320x5376 : Shape := ⟨2, ![8320, 5376]⟩
abbrev S1024x5376 : Shape := ⟨2, ![1024, 5376]⟩
abbrev S1664x1024 : Shape := ⟨2, ![1664, 1024]⟩
abbrev S1664x896 : Shape := ⟨2, ![1664, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x5376, .bf16⟩
  | .hbm, ⟨2, _⟩ => ⟨S1024x5376, .bf16⟩
  | .local _ .vmem, ⟨0, _⟩ => ⟨S1664x1024, .bf16⟩
  | .local _ .vmem, ⟨1, _⟩ => ⟨S1664x1024, .bf16⟩
  | .local _ .vmem, ⟨2, _⟩ => ⟨S1664x896, .bf16⟩
  | .local _ .vmem, ⟨3, _⟩ => ⟨S1664x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8320x2048 : Shape := ⟨2, ![8320, 2048]⟩
abbrev S8320x5376 : Shape := ⟨2, ![8320, 5376]⟩
abbrev S_ : Shape := ⟨0, ![]⟩
abbrev S2048x5376 : Shape := ⟨2, ![2048, 5376]⟩
abbrev S5376x2048 : Shape := ⟨2, ![5376, 2048]⟩
abbrev S1024x5376 : Shape := ⟨2, ![1024, 5376]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x5376, .bf16⟩
  | .hbm, ⟨2, _⟩ => ⟨S_, .f32⟩
  | .hbm, ⟨3, _⟩ => ⟨S2048x5376, .f32⟩
  | .hbm, ⟨4, _⟩ => ⟨S8320x2048, .f32⟩
  | .hbm, ⟨5, _⟩ => ⟨S8320x5376, .f32⟩
  | .hbm, ⟨6, _⟩ => ⟨S8320x5376, .f32⟩
  | .hbm, ⟨7, _⟩ => ⟨S5376x2048, .f32⟩
  | .hbm, ⟨8, _⟩ => ⟨S2048x5376, .f32⟩
  | .hbm, ⟨9, _⟩ => ⟨S1024x5376, .f32⟩
  | .hbm, ⟨10, _⟩ => ⟨S1024x5376, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInB.lean ====
abbrev S8320x2048 : Shape := ⟨2, ![8320, 2048]⟩
abbrev S8320x5376 : Shape := ⟨2, ![8320, 5376]⟩
abbrev S1024x5376 : Shape := ⟨2, ![1024, 5376]⟩
abbrev S1664x1024 : Shape := ⟨2, ![1664, 1024]⟩
abbrev S1664x896 : Shape := ⟨2, ![1664, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x5376, .bf16⟩
  | .hbm, ⟨2, _⟩ => ⟨S1024x5376, .bf16⟩
  | .local _ .vmem, ⟨0, _⟩ => ⟨S1664x1024, .bf16⟩
  | .local _ .vmem, ⟨1, _⟩ => ⟨S1664x1024, .bf16⟩
  | .local _ .vmem, ⟨2, _⟩ => ⟨S1664x896, .bf16⟩
  | .local _ .vmem, ⟨3, _⟩ => ⟨S1664x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInBRefIdeal.lean ====
abbrev S8320x2048 : Shape := ⟨2, ![8320, 2048]⟩
abbrev S8320x5376 : Shape := ⟨2, ![8320, 5376]⟩
abbrev S_ : Shape := ⟨0, ![]⟩
abbrev S2048x5376 : Shape := ⟨2, ![2048, 5376]⟩
abbrev S5376x2048 : Shape := ⟨2, ![5376, 2048]⟩
abbrev S1024x5376 : Shape := ⟨2, ![1024, 5376]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x5376, .bf16⟩
  | .hbm, ⟨2, _⟩ => ⟨S_, .f32⟩
  | .hbm, ⟨3, _⟩ => ⟨S2048x5376, .f32⟩
  | .hbm, ⟨4, _⟩ => ⟨S8320x2048, .f32⟩
  | .hbm, ⟨5, _⟩ => ⟨S8320x5376, .f32⟩
  | .hbm, ⟨6, _⟩ => ⟨S8320x5376, .f32⟩
  | .hbm, ⟨7, _⟩ => ⟨S5376x2048, .f32⟩
  | .hbm, ⟨8, _⟩ => ⟨S2048x5376, .f32⟩
  | .hbm, ⟨9, _⟩ => ⟨S1024x5376, .f32⟩
  | .hbm, ⟨10, _⟩ => ⟨S1024x5376, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DXn.lean ====
abbrev S8320x5376 : Shape := ⟨2, ![8320, 5376]⟩
abbrev S2048x5376 : Shape := ⟨2, ![2048, 5376]⟩
abbrev S8320x2048 : Shape := ⟨2, ![8320, 2048]⟩
abbrev S640x5376 : Shape := ⟨2, ![640, 5376]⟩
abbrev S512x5376 : Shape := ⟨2, ![512, 5376]⟩
abbrev S640x512 : Shape := ⟨2, ![640, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x5376, .bf16⟩
  | .hbm, ⟨1, _⟩ => ⟨S2048x5376, .bf16⟩
  | .hbm, ⟨2, _⟩ => ⟨S8320x2048, .f32⟩
  | .local _ .vmem, ⟨0, _⟩ => ⟨S640x5376, .bf16⟩
  | .local _ .vmem, ⟨1, _⟩ => ⟨S640x5376, .bf16⟩
  | .local _ .vmem, ⟨2, _⟩ => ⟨S512x5376, .bf16⟩
  | .local _ .vmem, ⟨3, _⟩ => ⟨S512x5376, .bf16⟩
  | .local _ .vmem, ⟨4, _⟩ => ⟨S640x512, .f32⟩
  | .local _ .vmem, ⟨5, _⟩ => ⟨S640x512, .f32⟩
  | _, _ => ⟨S8320x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXnRefIdeal.lean ====
abbrev S8320x5376 : Shape := ⟨2, ![8320, 5376]⟩
abbrev S2048x5376 : Shape := ⟨2, ![2048, 5376]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x5376, .bf16⟩
  | .hbm, ⟨1, _⟩ => ⟨S2048x5376, .bf16⟩
  | .hbm, ⟨2, _⟩ => ⟨S_, .f32⟩
  | .hbm, ⟨3, _⟩ => ⟨S8320x2048, .f32⟩
  | .hbm, ⟨4, _⟩ => ⟨S2048x5376, .f32⟩
  | .hbm, ⟨5, _⟩ => ⟨S8320x5376, .f32⟩
  | .hbm, ⟨6, _⟩ => ⟨S8320x5376, .f32⟩
  | .hbm, ⟨7, _⟩ => ⟨S8320x2048, .f32⟩
  | _, _ => ⟨S8320x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamIn.lean ====
abbrev S8x1024x672 : Shape := ⟨3, ![8, 1024, 672]⟩
abbrev S2x2048x672 : Shape := ⟨3, ![2, 2048, 672]⟩
abbrev S4096x672 : Shape := ⟨2, ![4096, 672]⟩
abbrev S8x128x672 : Shape := ⟨3, ![8, 128, 672]⟩
abbrev S128x672 : Shape := ⟨2, ![128, 672]⟩
abbrev S1x128x672 : Shape := ⟨3, ![1, 128, 672]⟩

abbrev nBuf : Space → Nat
  | .hbm => 14
  | .vmem => 22
  | .smem => 0
  | _ => 0

abbrev bufTy : (tb : Table) → Fin (tcTables nBuf tb) → BufTy
  | .hbm, ⟨0, _⟩ => ⟨S8x1024x672, .bf16⟩
  | .hbm, ⟨1, _⟩ => ⟨S8x1024x672, .bf16⟩
  | .hbm, ⟨2, _⟩ => ⟨S8x1024x672, .bf16⟩
  | .hbm, ⟨3, _⟩ => ⟨S8x1024x672, .bf16⟩
  | .hbm, ⟨4, _⟩ => ⟨S2x2048x672, .f32⟩
  | .hbm, ⟨5, _⟩ => ⟨S2x2048x672, .f32⟩
  | .hbm, ⟨6, _⟩ => ⟨S2x2048x672, .f32⟩
  | .hbm, ⟨7, _⟩ => ⟨S4096x672, .f32⟩
  | .hbm, ⟨8, _⟩ => ⟨S4096x672, .f32⟩
  | .hbm, ⟨9, _⟩ => ⟨S4096x672, .f32⟩
  | .hbm, ⟨10, _⟩ => ⟨S4096x672, .f32⟩
  | .hbm, ⟨11, _⟩ => ⟨S4096x672, .f32⟩
  | .hbm, ⟨12, _⟩ => ⟨S4096x672, .f32⟩
  | .hbm, ⟨13, _⟩ => ⟨S4096x672, .f32⟩
  | .local _ .vmem, ⟨0, _⟩ => ⟨S8x128x672, .bf16⟩
  | .local _ .vmem, ⟨1, _⟩ => ⟨S8x128x672, .bf16⟩
  | .local _ .vmem, ⟨2, _⟩ => ⟨S8x128x672, .bf16⟩
  | .local _ .vmem, ⟨3, _⟩ => ⟨S8x128x672, .bf16⟩
  | .local _ .vmem, ⟨4, _⟩ => ⟨S8x128x672, .bf16⟩
  | .local _ .vmem, ⟨5, _⟩ => ⟨S8x128x672, .bf16⟩
  | .local _ .vmem, ⟨6, _⟩ => ⟨S8x128x672, .bf16⟩
  | .local _ .vmem, ⟨7, _⟩ => ⟨S8x128x672, .bf16⟩
  | .local _ .vmem, ⟨8, _⟩ => ⟨S128x672, .f32⟩
  | .local _ .vmem, ⟨9, _⟩ => ⟨S128x672, .f32⟩
  | .local _ .vmem, ⟨10, _⟩ => ⟨S128x672, .f32⟩
  | .local _ .vmem, ⟨11, _⟩ => ⟨S128x672, .f32⟩
  | .local _ .vmem, ⟨12, _⟩ => ⟨S128x672, .f32⟩
  | .local _ .vmem, ⟨13, _⟩ => ⟨S128x672, .f32⟩
  | .local _ .vmem, ⟨14, _⟩ => ⟨S128x672, .f32⟩
  | .local _ .vmem, ⟨15, _⟩ => ⟨S128x672, .f32⟩
  | .local _ .vmem, ⟨16, _⟩ => ⟨S128x672, .f32⟩
  | .local _ .vmem, ⟨17, _⟩ => ⟨S128x672, .f32⟩
  | .local _ .vmem, ⟨18, _⟩ => ⟨S128x672, .f32⟩
  | .local _ .vmem, ⟨19, _⟩ => ⟨S128x672, .f32⟩
  | .local _ .vmem, ⟨20, _⟩ => ⟨S128x672, .f32⟩
  | .local _ .vmem, ⟨21, _⟩ => ⟨S128x672, .f32⟩
  | _, _ => ⟨S8x1024x672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x672 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x672 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x672 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x672 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x672 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x672 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x672 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInRefIdeal.lean ====
abbrev S8x1024x672 : Shape := ⟨3, ![8, 1024, 672]⟩
abbrev S2x2048x672 : Shape := ⟨3, ![2, 2048, 672]⟩
abbrev S_ : Shape := ⟨0, ![]⟩
abbrev S1024x672 : Shape := ⟨2, ![1024, 672]⟩
abbrev S4096x672 : Shape := ⟨2, ![4096, 672]⟩

abbrev nBuf : Space → Nat
  | .hbm => 58
  | .vmem => 0
  | .smem => 0
  | _ => 0

abbrev bufTy : (tb : Table) → Fin (tcTables nBuf tb) → BufTy
  | .hbm, ⟨0, _⟩ => ⟨S8x1024x672, .bf16⟩
  | .hbm, ⟨1, _⟩ => ⟨S8x1024x672, .bf16⟩
  | .hbm, ⟨2, _⟩ => ⟨S8x1024x672, .bf16⟩
  | .hbm, ⟨3, _⟩ => ⟨S8x1024x672, .bf16⟩
  | .hbm, ⟨4, _⟩ => ⟨S2x2048x672, .f32⟩
  | .hbm, ⟨5, _⟩ => ⟨S2x2048x672, .f32⟩
  | .hbm, ⟨6, _⟩ => ⟨S2x2048x672, .f32⟩
  | .hbm, ⟨7, _⟩ => ⟨S8x1024x672, .f32⟩
  | .hbm, ⟨8, _⟩ => ⟨S_, .f32⟩
  | .hbm, ⟨9, _⟩ => ⟨S1024x672, .f32⟩
  | .hbm, ⟨10, _⟩ => ⟨S8x1024x672, .f32⟩
  | .hbm, ⟨11, _⟩ => ⟨S_, .f32⟩
  | .hbm, ⟨12, _⟩ => ⟨S1024x672, .f32⟩
  | .hbm, ⟨13, _⟩ => ⟨S8x1024x672, .f32⟩
  | .hbm, ⟨14, _⟩ => ⟨S_, .f32⟩
  | .hbm, ⟨15, _⟩ => ⟨S1024x672, .f32⟩
  | .hbm, ⟨16, _⟩ => ⟨S8x1024x672, .f32⟩
  | .hbm, ⟨17, _⟩ => ⟨S_, .f32⟩
  | .hbm, ⟨18, _⟩ => ⟨S1024x672, .f32⟩
  | .hbm, ⟨19, _⟩ => ⟨S4096x672, .f32⟩
  | .hbm, ⟨20, _⟩ => ⟨S2x2048x672, .f32⟩
  | .hbm, ⟨21, _⟩ => ⟨S_, .f32⟩
  | .hbm, ⟨22, _⟩ => ⟨S2x2048x672, .f32⟩
  | .hbm, ⟨23, _⟩ => ⟨S2x2048x672, .f32⟩
  | .hbm, ⟨24, _⟩ => ⟨S_, .f32⟩
  | .hbm, ⟨25, _⟩ => ⟨S2x2048x672, .f32⟩
  | .hbm, ⟨26, _⟩ => ⟨S2x2048x672, .f32⟩
  | .hbm, ⟨27, _⟩ => ⟨S2x2048x672, .f32⟩
  | .hbm, ⟨28, _⟩ => ⟨S_, .f32⟩
  | .hbm, ⟨29, _⟩ => ⟨S2x2048x672, .f32⟩
  | .hbm, ⟨30, _⟩ => ⟨S2x2048x672, .f32⟩
  | .hbm, ⟨31, _⟩ => ⟨S2x2048x672, .f32⟩
  | .hbm, ⟨32, _⟩ => ⟨S_, .f32⟩
  | .hbm, ⟨33, _⟩ => ⟨S2x2048x672, .f32⟩
  | .hbm, ⟨34, _⟩ => ⟨S2x2048x672, .f32⟩
  | .hbm, ⟨35, _⟩ => ⟨S2x2048x672, .f32⟩
  | .hbm, ⟨36, _⟩ => ⟨S_, .f32⟩
  | .hbm, ⟨37, _⟩ => ⟨S2x2048x672, .f32⟩
  | .hbm, ⟨38, _⟩ => ⟨S2x2048x672, .f32⟩
  | .hbm, ⟨39, _⟩ => ⟨S_, .f32⟩
  | .hbm, ⟨40, _⟩ => ⟨S2x2048x672, .f32⟩
  | .hbm, ⟨41, _⟩ => ⟨S2x2048x672, .f32⟩
  | .hbm, ⟨42, _⟩ => ⟨S2x2048x672, .f32⟩
  | .hbm, ⟨43, _⟩ => ⟨S_, .f32⟩
  | .hbm, ⟨44, _⟩ => ⟨S2x2048x672, .f32⟩
  | .hbm, ⟨45, _⟩ => ⟨S2x2048x672, .f32⟩
  | .hbm, ⟨46, _⟩ => ⟨S2x2048x672, .f32⟩
  | .hbm, ⟨47, _⟩ => ⟨S_, .f32⟩
  | .hbm, ⟨48, _⟩ => ⟨S2x2048x672, .f32⟩
  | .hbm, ⟨49, _⟩ => ⟨S2x2048x672, .f32⟩
  | .hbm, ⟨50, _⟩ => ⟨S2x2048x672, .f32⟩
  | .hbm, ⟨51, _⟩ => ⟨S_, .f32⟩
  | .hbm, ⟨52, _⟩ => ⟨S2x2048x672, .f32⟩
  | .hbm, ⟨53, _⟩ => ⟨S2x2048x672, .f32⟩
  | .hbm, ⟨54, _⟩ => ⟨S4096x672, .f32⟩
  | .hbm, ⟨55, _⟩ => ⟨S4096x672, .f32⟩
  | .hbm, ⟨56, _⟩ => ⟨S4096x672, .f32⟩
  | .hbm, ⟨57, _⟩ => ⟨S4096x672, .f32⟩
  | _, _ => ⟨S8x1024x672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== AdamOut.lean ====
abbrev S8x256x2048 : Shape := ⟨3, ![8, 256, 2048]⟩
abbrev S2x256x2048 : Shape := ⟨3, ![2, 256, 2048]⟩
abbrev S512x2048 : Shape := ⟨2, ![512, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 12
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩
abbrev S512x2048 : Shape := ⟨2, ![512, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S512x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== AdamMeta.lean ====
abbrev S8x16x256 : Shape := ⟨3, ![8, 16, 256]⟩
abbrev S16x256 : Shape := ⟨2, ![16, 256]⟩
abbrev S1x16x256 : Shape := ⟨3, ![1, 16, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S8x16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S8x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamMetaRefIdeal.lean ====
abbrev S8x16x256 : Shape := ⟨3, ![8, 16, 256]⟩
abbrev S16x256 : Shape := ⟨2, ![16, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamNorm.lean ====
abbrev S8x32x128 : Shape := ⟨3, ![8, 32, 128]⟩
abbrev S2x2048 : Shape := ⟨2, ![2, 2048]⟩
abbrev S32x128 : Shape := ⟨2, ![32, 128]⟩
abbrev S1x32x128 : Shape := ⟨3, ![1, 32, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x32x128, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamNormRefIdeal.lean ====
abbrev S8x32x128 : Shape := ⟨3, ![8, 32, 128]⟩
abbrev S2x2048 : Shape := ⟨2, ![2, 2048]⟩
abbrev S_ : Shape := ⟨0, ![]⟩
abbrev S32x128 : Shape := ⟨2, ![32, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S32x128, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S_, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S2x2048, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S_, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S_, .f32⟩
  | .hbm, ⟨30, _⟩ => ⟨S2x2048, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S2x2048, .f32⟩
  | .hbm, ⟨35, _⟩ => ⟨S2x2048, .f32⟩
  | .hbm, ⟨36, _⟩ => ⟨S2x2048, .f32⟩
  | .hbm, ⟨37, _⟩ => ⟨S_, .f32⟩
  | .hbm, ⟨38, _⟩ => ⟨S2x2048, .f32⟩
  | .hbm, ⟨39, _⟩ => ⟨S2x2048, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamSmall.lean ====
abbrev S8x1048x128 : Shape := ⟨3, ![8, 1048, 128]⟩
abbrev S2x512 : Shape := ⟨2, ![2, 512]⟩
abbrev S2x64 : Shape := ⟨2, ![2, 64]⟩
abbrev S2x16 : Shape := ⟨2, ![2, 16]⟩
abbrev S2x128 : Shape := ⟨2, ![2, 128]⟩
abbrev S2x4x128x128 : Shape := ⟨4, ![2, 4, 128, 128]⟩
abbrev S1024 : Shape := ⟨1, ![1024]⟩
abbrev S128 : Shape := ⟨1, ![128]⟩
abbrev S32 : Shape := ⟨1, ![32]⟩
abbrev S256 : Shape := ⟨1, ![256]⟩
abbrev S131072 : Shape := ⟨1, ![131072]⟩
abbrev S133664 : Shape := ⟨1, ![133664]⟩
abbrev S_ : Shape := ⟨0, ![]⟩
abbrev S134144 : Shape := ⟨1, ![134144]⟩
abbrev S1048x128 : Shape := ⟨2, ![1048, 128]⟩
abbrev S1x1048x128 : Shape := ⟨3, ![1, 1048, 128]⟩

abbrev nBuf : Space → Nat
  | .hbm => 62
  | .vmem => 8
  | .smem => 0
  | _ => 0

abbrev bufTy : (tb : Table) → Fin (tcTables nBuf tb) → BufTy
  | .hbm, ⟨0, _⟩ => ⟨S8x1048x128, .f32⟩
  | .hbm, ⟨1, _⟩ => ⟨S2x512, .f32⟩
  | .hbm, ⟨2, _⟩ => ⟨S2x64, .f32⟩
  | .hbm, ⟨3, _⟩ => ⟨S2x64, .f32⟩
  | .hbm, ⟨4, _⟩ => ⟨S2x16, .f32⟩
  | .hbm, ⟨5, _⟩ => ⟨S2x128, .f32⟩
  | .hbm, ⟨6, _⟩ => ⟨S2x4x128x128, .f32⟩
  | .hbm, ⟨7, _⟩ => ⟨S2x512, .f32⟩
  | .hbm, ⟨8, _⟩ => ⟨S2x512, .f32⟩
  | .hbm, ⟨9, _⟩ => ⟨S2x64, .f32⟩
  | .hbm, ⟨10, _⟩ => ⟨S2x64, .f32⟩
  | .hbm, ⟨11, _⟩ => ⟨S2x16, .f32⟩
  | .hbm, ⟨12, _⟩ => ⟨S2x128, .f32⟩
  | .hbm, ⟨13, _⟩ => ⟨S2x4x128x128, .f32⟩
  | .hbm, ⟨14, _⟩ => ⟨S2x512, .f32⟩
  | .hbm, ⟨15, _⟩ => ⟨S2x512, .f32⟩
  | .hbm, ⟨16, _⟩ => ⟨S2x64, .f32⟩
  | .hbm, ⟨17, _⟩ => ⟨S2x64, .f32⟩
  | .hbm, ⟨18, _⟩ => ⟨S2x16, .f32⟩
  | .hbm, ⟨19, _⟩ => ⟨S2x128, .f32⟩
  | .hbm, ⟨20, _⟩ => ⟨S2x4x128x128, .f32⟩
  | .hbm, ⟨21, _⟩ => ⟨S2x512, .f32⟩
  | .hbm, ⟨22, _⟩ => ⟨S1024, .f32⟩
  | .hbm, ⟨23, _⟩ => ⟨S128, .f32⟩
  | .hbm, ⟨24, _⟩ => ⟨S128, .f32⟩
  | .hbm, ⟨25, _⟩ => ⟨S32, .f32⟩
  | .hbm, ⟨26, _⟩ => ⟨S256, .f32⟩
  | .hbm, ⟨27, _⟩ => ⟨S131072, .f32⟩
  | .hbm, ⟨28, _⟩ => ⟨S1024, .f32⟩
  | .hbm, ⟨29, _⟩ => ⟨S133664, .f32⟩
  | .hbm, ⟨30, _⟩ => ⟨S_, .i32⟩
  | .hbm, ⟨31, _⟩ => ⟨S_, .f32⟩
  | .hbm, ⟨32, _⟩ => ⟨S134144, .f32⟩
  | .hbm, ⟨33, _⟩ => ⟨S1048x128, .f32⟩
  | .hbm, ⟨34, _⟩ => ⟨S1024, .f32⟩
  | .hbm, ⟨35, _⟩ => ⟨S128, .f32⟩
  | .hbm, ⟨36, _⟩ => ⟨S128, .f32⟩
  | .hbm, ⟨37, _⟩ => ⟨S32, .f32⟩
  | .hbm, ⟨38, _⟩ => ⟨S256, .f32⟩
  | .hbm, ⟨39, _⟩ => ⟨S131072, .f32⟩
  | .hbm, ⟨40, _⟩ => ⟨S1024, .f32⟩
  | .hbm, ⟨41, _⟩ => ⟨S133664, .f32⟩
  | .hbm, ⟨42, _⟩ => ⟨S_, .i32⟩
  | .hbm, ⟨43, _⟩ => ⟨S_, .f32⟩
  | .hbm, ⟨44, _⟩ => ⟨S134144, .f32⟩
  | .hbm, ⟨45, _⟩ => ⟨S1048x128, .f32⟩
  | .hbm, ⟨46, _⟩ => ⟨S1024, .f32⟩
  | .hbm, ⟨47, _⟩ => ⟨S128, .f32⟩
  | .hbm, ⟨48, _⟩ => ⟨S128, .f32⟩
  | .hbm, ⟨49, _⟩ => ⟨S32, .f32⟩
  | .hbm, ⟨50, _⟩ => ⟨S256, .f32⟩
  | .hbm, ⟨51, _⟩ => ⟨S131072, .f32⟩
  | .hbm, ⟨52, _⟩ => ⟨S1024, .f32⟩
  | .hbm, ⟨53, _⟩ => ⟨S133664, .f32⟩
  | .hbm, ⟨54, _⟩ => ⟨S_, .i32⟩
  | .hbm, ⟨55, _⟩ => ⟨S_, .f32⟩
  | .hbm, ⟨56, _⟩ => ⟨S134144, .f32⟩
  | .hbm, ⟨57, _⟩ => ⟨S1048x128, .f32⟩
  | .hbm, ⟨58, _⟩ => ⟨S1048x128, .f32⟩
  | .hbm, ⟨59, _⟩ => ⟨S1048x128, .f32⟩
  | .hbm, ⟨60, _⟩ => ⟨S1048x128, .f32⟩
  | .hbm, ⟨61, _⟩ => ⟨S1048x128, .f32⟩
  | .local _ .vmem, ⟨0, _⟩ => ⟨S8x1048x128, .f32⟩
  | .local _ .vmem, ⟨1, _⟩ => ⟨S1048x128, .f32⟩
  | .local _ .vmem, ⟨2, _⟩ => ⟨S1048x128, .f32⟩
  | .local _ .vmem, ⟨3, _⟩ => ⟨S1048x128, .f32⟩
  | .local _ .vmem, ⟨4, _⟩ => ⟨S1048x128, .f32⟩
  | .local _ .vmem, ⟨5, _⟩ => ⟨S1048x128, .f32⟩
  | .local _ .vmem, ⟨6, _⟩ => ⟨S1048x128, .f32⟩
  | .local _ .vmem, ⟨7, _⟩ => ⟨S1048x128, .f32⟩
  | _, _ => ⟨S8x1048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_call0_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_call1_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_1 : Ref sig .tc := ⟨.hbm, 54, rfl⟩
abbrev main_call2_v0 : Ref sig .tc := ⟨.hbm, 55, rfl⟩
abbrev main_v28 : Ref sig .tc := ⟨.hbm, 56, rfl⟩
abbrev main_v29 : Ref sig .tc := ⟨.hbm, 57, rfl⟩
abbrev main_v30_0 : Ref sig .tc := ⟨.hbm, 58, rfl⟩
abbrev main_v30_1 : Ref sig .tc := ⟨.hbm, 59, rfl⟩
abbrev main_v30_2 : Ref sig .tc := ⟨.hbm, 60, rfl⟩
abbrev main_v30_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x1048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallRefIdeal.lean ====
abbrev S8x1048x128 : Shape := ⟨3, ![8, 1048, 128]⟩
abbrev S2x512 : Shape := ⟨2, ![2, 512]⟩
abbrev S2x64 : Shape := ⟨2, ![2, 64]⟩
abbrev S2x16 : Shape := ⟨2, ![2, 16]⟩
abbrev S2x128 : Shape := ⟨2, ![2, 128]⟩
abbrev S2x4x128x128 : Shape := ⟨4, ![2, 4, 128, 128]⟩
abbrev S1024 : Shape := ⟨1, ![1024]⟩
abbrev S128 : Shape := ⟨1, ![128]⟩
abbrev S32 : Shape := ⟨1, ![32]⟩
abbrev S256 : Shape := ⟨1, ![256]⟩
abbrev S131072 : Shape := ⟨1, ![131072]⟩
abbrev S133664 : Shape := ⟨1, ![133664]⟩
abbrev S_ : Shape := ⟨0, ![]⟩
abbrev S134144 : Shape := ⟨1, ![134144]⟩
abbrev S1048x128 : Shape := ⟨2, ![1048, 128]⟩

abbrev nBuf : Space → Nat
  | .hbm => 93
  | .vmem => 0
  | .smem => 0
  | _ => 0

abbrev bufTy : (tb : Table) → Fin (tcTables nBuf tb) → BufTy
  | .hbm, ⟨0, _⟩ => ⟨S8x1048x128, .f32⟩
  | .hbm, ⟨1, _⟩ => ⟨S2x512, .f32⟩
  | .hbm, ⟨2, _⟩ => ⟨S2x64, .f32⟩
  | .hbm, ⟨3, _⟩ => ⟨S2x64, .f32⟩
  | .hbm, ⟨4, _⟩ => ⟨S2x16, .f32⟩
  | .hbm, ⟨5, _⟩ => ⟨S2x128, .f32⟩
  | .hbm, ⟨6, _⟩ => ⟨S2x4x128x128, .f32⟩
  | .hbm, ⟨7, _⟩ => ⟨S2x512, .f32⟩
  | .hbm, ⟨8, _⟩ => ⟨S2x512, .f32⟩
  | .hbm, ⟨9, _⟩ => ⟨S2x64, .f32⟩
  | .hbm, ⟨10, _⟩ => ⟨S2x64, .f32⟩
  | .hbm, ⟨11, _⟩ => ⟨S2x16, .f32⟩
  | .hbm, ⟨12, _⟩ => ⟨S2x128, .f32⟩
  | .hbm, ⟨13, _⟩ => ⟨S2x4x128x128, .f32⟩
  | .hbm, ⟨14, _⟩ => ⟨S2x512, .f32⟩
  | .hbm, ⟨15, _⟩ => ⟨S2x512, .f32⟩
  | .hbm, ⟨16, _⟩ => ⟨S2x64, .f32⟩
  | .hbm, ⟨17, _⟩ => ⟨S2x64, .f32⟩
  | .hbm, ⟨18, _⟩ => ⟨S2x16, .f32⟩
  | .hbm, ⟨19, _⟩ => ⟨S2x128, .f32⟩
  | .hbm, ⟨20, _⟩ => ⟨S2x4x128x128, .f32⟩
  | .hbm, ⟨21, _⟩ => ⟨S2x512, .f32⟩
  | .hbm, ⟨22, _⟩ => ⟨S1024, .f32⟩
  | .hbm, ⟨23, _⟩ => ⟨S128, .f32⟩
  | .hbm, ⟨24, _⟩ => ⟨S128, .f32⟩
  | .hbm, ⟨25, _⟩ => ⟨S32, .f32⟩
  | .hbm, ⟨26, _⟩ => ⟨S256, .f32⟩
  | .hbm, ⟨27, _⟩ => ⟨S131072, .f32⟩
  | .hbm, ⟨28, _⟩ => ⟨S1024, .f32⟩
  | .hbm, ⟨29, _⟩ => ⟨S133664, .f32⟩
  | .hbm, ⟨30, _⟩ => ⟨S_, .i32⟩
  | .hbm, ⟨31, _⟩ => ⟨S_, .f32⟩
  | .hbm, ⟨32, _⟩ => ⟨S134144, .f32⟩
  | .hbm, ⟨33, _⟩ => ⟨S1048x128, .f32⟩
  | .hbm, ⟨34, _⟩ => ⟨S_, .f32⟩
  | .hbm, ⟨35, _⟩ => ⟨S1048x128, .f32⟩
  | .hbm, ⟨36, _⟩ => ⟨S1024, .f32⟩
  | .hbm, ⟨37, _⟩ => ⟨S128, .f32⟩
  | .hbm, ⟨38, _⟩ => ⟨S128, .f32⟩
  | .hbm, ⟨39, _⟩ => ⟨S32, .f32⟩
  | .hbm, ⟨40, _⟩ => ⟨S256, .f32⟩
  | .hbm, ⟨41, _⟩ => ⟨S131072, .f32⟩
  | .hbm, ⟨42, _⟩ => ⟨S1024, .f32⟩
  | .hbm, ⟨43, _⟩ => ⟨S133664, .f32⟩
  | .hbm, ⟨44, _⟩ => ⟨S_, .i32⟩
  | .hbm, ⟨45, _⟩ => ⟨S_, .f32⟩
  | .hbm, ⟨46, _⟩ => ⟨S134144, .f32⟩
  | .hbm, ⟨47, _⟩ => ⟨S1048x128, .f32⟩
  | .hbm, ⟨48, _⟩ => ⟨S1024, .f32⟩
  | .hbm, ⟨49, _⟩ => ⟨S128, .f32⟩
  | .hbm, ⟨50, _⟩ => ⟨S128, .f32⟩
  | .hbm, ⟨51, _⟩ => ⟨S32, .f32⟩
  | .hbm, ⟨52, _⟩ => ⟨S256, .f32⟩
  | .hbm, ⟨53, _⟩ => ⟨S131072, .f32⟩
  | .hbm, ⟨54, _⟩ => ⟨S1024, .f32⟩
  | .hbm, ⟨55, _⟩ => ⟨S133664, .f32⟩
  | .hbm, ⟨56, _⟩ => ⟨S_, .i32⟩
  | .hbm, ⟨57, _⟩ => ⟨S_, .f32⟩
  | .hbm, ⟨58, _⟩ => ⟨S134144, .f32⟩
  | .hbm, ⟨59, _⟩ => ⟨S1048x128, .f32⟩
  | .hbm, ⟨60, _⟩ => ⟨S_, .f32⟩
  | .hbm, ⟨61, _⟩ => ⟨S1048x128, .f32⟩
  | .hbm, ⟨62, _⟩ => ⟨S1048x128, .f32⟩
  | .hbm, ⟨63, _⟩ => ⟨S_, .f32⟩
  | .hbm, ⟨64, _⟩ => ⟨S1048x128, .f32⟩
  | .hbm, ⟨65, _⟩ => ⟨S1048x128, .f32⟩
  | .hbm, ⟨66, _⟩ => ⟨S1048x128, .f32⟩
  | .hbm, ⟨67, _⟩ => ⟨S_, .f32⟩
  | .hbm, ⟨68, _⟩ => ⟨S1048x128, .f32⟩
  | .hbm, ⟨69, _⟩ => ⟨S1048x128, .f32⟩
  | .hbm, ⟨70, _⟩ => ⟨S1048x128, .f32⟩
  | .hbm, ⟨71, _⟩ => ⟨S_, .f32⟩
  | .hbm, ⟨72, _⟩ => ⟨S1048x128, .f32⟩
  | .hbm, ⟨73, _⟩ => ⟨S1048x128, .f32⟩
  | .hbm, ⟨74, _⟩ => ⟨S1048x128, .f32⟩
  | .hbm, ⟨75, _⟩ => ⟨S_, .f32⟩
  | .hbm, ⟨76, _⟩ => ⟨S1048x128, .f32⟩
  | .hbm, ⟨77, _⟩ => ⟨S1048x128, .f32⟩
  | .hbm, ⟨78, _⟩ => ⟨S_, .f32⟩
  | .hbm, ⟨79, _⟩ => ⟨S1048x128, .f32⟩
  | .hbm, ⟨80, _⟩ => ⟨S1048x128, .f32⟩
  | .hbm, ⟨81, _⟩ => ⟨S1048x128, .f32⟩
  | .hbm, ⟨82, _⟩ => ⟨S_, .f32⟩
  | .hbm, ⟨83, _⟩ => ⟨S1048x128, .f32⟩
  | .hbm, ⟨84, _⟩ => ⟨S1048x128, .f32⟩
  | .hbm, ⟨85, _⟩ => ⟨S1048x128, .f32⟩
  | .hbm, ⟨86, _⟩ => ⟨S_, .f32⟩
  | .hbm, ⟨87, _⟩ => ⟨S1048x128, .f32⟩
  | .hbm, ⟨88, _⟩ => ⟨S1048x128, .f32⟩
  | .hbm, ⟨89, _⟩ => ⟨S1048x128, .f32⟩
  | .hbm, ⟨90, _⟩ => ⟨S_, .f32⟩
  | .hbm, ⟨91, _⟩ => ⟨S1048x128, .f32⟩
  | .hbm, ⟨92, _⟩ => ⟨S1048x128, .f32⟩
  | _, _ => ⟨S8x1048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_call0_v0 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_call1_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_1 : Ref sig .tc := ⟨.hbm, 56, rfl⟩
abbrev main_call2_v0 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_v31 : Ref sig .tc := ⟨.hbm, 61, rfl⟩
abbrev main_v32 : Ref sig .tc := ⟨.hbm, 62, rfl⟩
abbrev main_cst_3 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_5 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_8 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_10 : Ref sig .tc := ⟨.hbm, 90, rfl⟩
abbrev main_v53 : Ref sig .tc := ⟨.hbm, 91, rfl⟩
abbrev main_v54 : Ref sig .tc := ⟨.hbm, 92, rfl⟩

abbrev nD : Nat := 1
abbrev τ : Topo := Topo.v7x

variable {F : FTy → Type} [FloatOps F]
-- ==== Attn.lean ====
abbrev S8320x1024 : Shape := ⟨2, ![8320, 1024]⟩
abbrev S8320x256 : Shape := ⟨2, ![8320, 256]⟩
abbrev S16 : Shape := ⟨1, ![16]⟩
abbrev S65 : Shape := ⟨1, ![65]⟩
abbrev S65x1 : Shape := ⟨2, ![65, 1]⟩
abbrev S_ : Shape := ⟨0, ![]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S1x16 : Shape := ⟨2, ![1, 16]⟩
abbrev S65x16 : Shape := ⟨2, ![65, 16]⟩
abbrev S65x272 : Shape := ⟨2, ![65, 272]⟩
abbrev S272 : Shape := ⟨1, ![272]⟩
abbrev S65x128x1 : Shape := ⟨3, ![65, 128, 1]⟩
abbrev S65x1x272 : Shape := ⟨3, ![65, 1, 272]⟩
abbrev S65x128x272 : Shape := ⟨3, ![65, 128, 272]⟩
abbrev S1x1x272 : Shape := ⟨3, ![1, 1, 272]⟩
abbrev S65x1x1x1x128x272 : Shape := ⟨6, ![65, 1, 1, 1, 128, 272]⟩
abbrev S16x256 : Shape := ⟨2, ![16, 256]⟩
abbrev S8448x256 : Shape := ⟨2, ![8448, 256]⟩
abbrev S1x16x2x2x64 : Shape := ⟨5, ![1, 16, 2, 2, 64]⟩
abbrev S65x16x2x2x64 : Shape := ⟨5, ![65, 16, 2, 2, 64]⟩
abbrev S65x128x2x2x64 : Shape := ⟨5, ![65, 128, 2, 2, 64]⟩
abbrev S65x272x2x2x64 : Shape := ⟨5, ![65, 272, 2, 2, 64]⟩
abbrev S65x128x2x4x2x64 : Shape := ⟨6, ![65, 128, 2, 4, 2, 64]⟩
abbrev S65x2x2x272x128x4 : Shape := ⟨6, ![65, 2, 2, 272, 128, 4]⟩
abbrev S65x2x4x2x128x272 : Shape := ⟨6, ![65, 2, 4, 2, 128, 272]⟩
abbrev S2x4x2x1 : Shape := ⟨4, ![2, 4, 2, 1]⟩
abbrev S65x2x4x2x128 : Shape := ⟨5, ![65, 2, 4, 2, 128]⟩
abbrev S65x2x2x64x4x128 : Shape := ⟨6, ![65, 2, 2, 64, 4, 128]⟩
abbrev S65x128x2x4x2 : Shape := ⟨5, ![65, 128, 2, 4, 2]⟩
abbrev S8320x16 : Shape := ⟨2, ![8320, 16]⟩
abbrev S8320x128 : Shape := ⟨2, ![8320, 128]⟩
abbrev S128x1024 : Shape := ⟨2, ![128, 1024]⟩
abbrev S128x256 : Shape := ⟨2, ![128, 256]⟩
abbrev S128x128 : Shape := ⟨2, ![128, 128]⟩
abbrev S128x272 : Shape := ⟨2, ![128, 272]⟩
abbrev S16x128 : Shape := ⟨2, ![16, 128]⟩
abbrev S272x128 : Shape := ⟨2, ![272, 128]⟩
abbrev S128x1 : Shape := ⟨2, ![128, 1]⟩
abbrev S1 : Shape := ⟨1, ![1]⟩

abbrev nBuf : Space → Nat
  | .hbm => 132
  | .vmem => 31
  | .smem => 1
  | _ => 0

abbrev hbmTy0_0 (i : Nat) : BufTy := match i % 128 with
  | 0 => ⟨S8320x1024, .bf16⟩
  | 1 => ⟨S8320x256, .bf16⟩
  | 2 => ⟨S8320x256, .bf16⟩
  | 3 => ⟨S16, .f32⟩
  | 4 => ⟨S8320x1024, .f32⟩
  | 5 => ⟨S65, .i32⟩
  | 6 => ⟨S65x1, .i32⟩
  | 7 => ⟨S_, .i32⟩
  | 8 => ⟨S65x1, .i32⟩
  | 9 => ⟨S65x1, .i32⟩
  | 10 => ⟨S128, .i32⟩
  | 11 => ⟨S1x128, .i32⟩
  | 12 => ⟨S65x128, .i32⟩
  | 13 => ⟨S65x128, .i32⟩
  | 14 => ⟨S65x128, .i32⟩
  | 15 => ⟨S65, .i32⟩
  | 16 => ⟨S65x1, .i32⟩
  | 17 => ⟨S_, .i32⟩
  | 18 => ⟨S65x1, .i32⟩
  | 19 => ⟨S65x1, .i32⟩
  | 20 => ⟨S_, .i32⟩
  | 21 => ⟨S65x1, .i32⟩
  | 22 => ⟨S65x1, .i32⟩
  | 23 => ⟨S256, .i32⟩
  | 24 => ⟨S1x256, .i32⟩
  | 25 => ⟨S65x256, .i32⟩
  | 26 => ⟨S65x256, .i32⟩
  | 27 => ⟨S65x256, .i32⟩
  | 28 => ⟨S16, .i32⟩
  | 29 => ⟨S1x16, .i32⟩
  | 30 => ⟨S_, .i32⟩
  | 31 => ⟨S1x16, .i32⟩
  | 32 => ⟨S1x16, .i32⟩
  | 33 => ⟨S65x16, .i32⟩
  | 34 => ⟨S65x272, .i32⟩
  | 35 => ⟨S_, .i1⟩
  | 36 => ⟨S16, .i1⟩
  | 37 => ⟨S_, .i1⟩
  | 38 => ⟨S256, .i1⟩
  | 39 => ⟨S272, .i1⟩
  | 40 => ⟨S65x128x1, .i32⟩
  | 41 => ⟨S65x1x272, .i32⟩
  | 42 => ⟨S_, .i32⟩
  | 43 => ⟨S65x128x1, .i32⟩
  | 44 => ⟨S65x128x1, .i32⟩
  | 45 => ⟨S65x128x272, .i32⟩
  | 46 => ⟨S65x128x272, .i32⟩
  | 47 => ⟨S65x128x272, .i1⟩
  | 48 => ⟨S_, .i32⟩
  | 49 => ⟨S65x1x272, .i32⟩
  | 50 => ⟨S65x1x272, .i1⟩
  | 51 => ⟨S65x128x272, .i1⟩
  | 52 => ⟨S65x128x272, .i1⟩
  | 53 => ⟨S65x128x272, .i32⟩
  | 54 => ⟨S65x128x272, .i32⟩
  | 55 => ⟨S65x128x272, .i1⟩
  | 56 => ⟨S1x1x272, .i1⟩
  | 57 => ⟨S65x128x272, .i1⟩
  | 58 => ⟨S65x128x272, .i1⟩
  | 59 => ⟨S65x128x272, .i1⟩
  | 60 => ⟨S65x1x1x1x128x272, .i1⟩
  | 61 => ⟨S16x256, .bf16⟩
  | 62 => ⟨S16x256, .f32⟩
  | 63 => ⟨S8320x256, .f32⟩
  | 64 => ⟨S_, .i32⟩
  | 65 => ⟨S_, .f32⟩
  | 66 => ⟨S8448x256, .f32⟩
  | 67 => ⟨S8320x256, .f32⟩
  | 68 => ⟨S8320x256, .f32⟩
  | 69 => ⟨S1x16x2x2x64, .f32⟩
  | 70 => ⟨S65x16x2x2x64, .f32⟩
  | 71 => ⟨S65x128x2x2x64, .f32⟩
  | 72 => ⟨S65x128x2x2x64, .f32⟩
  | 73 => ⟨S65x272x2x2x64, .f32⟩
  | 74 => ⟨S16x256, .bf16⟩
  | 75 => ⟨S16x256, .f32⟩
  | 76 => ⟨S8320x256, .f32⟩
  | 77 => ⟨S_, .i32⟩
  | 78 => ⟨S_, .f32⟩
  | 79 => ⟨S8448x256, .f32⟩
  | 80 => ⟨S8320x256, .f32⟩
  | 81 => ⟨S8320x256, .f32⟩
  | 82 => ⟨S1x16x2x2x64, .f32⟩
  | 83 => ⟨S65x16x2x2x64, .f32⟩
  | 84 => ⟨S65x128x2x2x64, .f32⟩
  | 85 => ⟨S65x128x2x2x64, .f32⟩
  | 86 => ⟨S65x272x2x2x64, .f32⟩
  | 87 => ⟨S8320x1024, .f32⟩
  | 88 => ⟨S65x128x2x4x2x64, .f32⟩
  | 89 => ⟨S65x2x2x272x128x4, .f32⟩
  | 90 => ⟨S65x2x4x2x128x272, .f32⟩
  | 91 => ⟨S_, .f32⟩
  | 92 => ⟨S65x2x4x2x128x272, .f32⟩
  | 93 => ⟨S65x2x4x2x128x272, .f32⟩
  | 94 => ⟨S_, .f32⟩
  | 95 => ⟨S_, .f32⟩
  | 96 => ⟨S65x2x4x2x128x272, .i1⟩
  | 97 => ⟨S65x2x4x2x128x272, .f32⟩
  | 98 => ⟨S65x2x4x2x128x272, .f32⟩
  | 99 => ⟨S2x4x2x1, .f32⟩
  | 100 => ⟨S65x2x4x2x128, .f32⟩
  | 101 => ⟨S_, .f32⟩
  | 102 => ⟨S65x2x4x2x128, .f32⟩
  | 103 => ⟨S65x2x4x2x128, .f32⟩
  | 104 => ⟨S65x2x4x2x128, .f32⟩
  | 105 => ⟨S65x2x4x2x128, .f32⟩
  | 106 => ⟨S65x2x4x2x128x272, .f32⟩
  | 107 => ⟨S65x2x4x2x128x272, .f32⟩
  | 108 => ⟨S65x2x4x2x128x272, .f32⟩
  | 109 => ⟨S_, .f32⟩
  | 110 => ⟨S65x2x4x2x128, .f32⟩
  | 111 => ⟨S65x2x4x2x128, .f32⟩
  | 112 => ⟨S65x2x4x2x128x272, .f32⟩
  | 113 => ⟨S65x2x4x2x128x272, .f32⟩
  | 114 => ⟨S65x2x2x64x4x128, .f32⟩
  | 115 => ⟨S65x128x2x4x2x64, .f32⟩
  | 116 => ⟨S8320x1024, .f32⟩
  | 117 => ⟨S65x2x4x2x128, .f32⟩
  | 118 => ⟨S65x2x4x2x128, .f32⟩
  | 119 => ⟨S65x128x2x4x2, .f32⟩
  | 120 => ⟨S8320x16, .f32⟩
  | 121 => ⟨S_, .i32⟩
  | 122 => ⟨S_, .f32⟩
  | 123 => ⟨S8320x128, .f32⟩
  | 124 => ⟨S8320x1024, .f32⟩
  | 125 => ⟨S8320x256, .f32⟩
  | 126 => ⟨S8320x256, .f32⟩
  | 127 => ⟨S8320x256, .f32⟩
  | _ => ⟨S8320x1024, .bf16⟩

abbrev hbmTy0_1 (i : Nat) : BufTy := match i % 128 with
  | 0 => ⟨S8320x256, .f32⟩
  | 1 => ⟨S16x256, .f32⟩
  | 2 => ⟨S16x256, .f32⟩
  | 3 => ⟨S1x128, .f32⟩
  | _ => ⟨S8320x1024, .bf16⟩

abbrev hbmTy (i : Nat) : BufTy := match i / 128 with
  | 0 => hbmTy0_0 i
  | 1 => hbmTy0_1 i
  | _ => ⟨S8320x1024, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S16x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S16x256, .bf16⟩
  | .local _ .vmem, ⟨12, _⟩ => ⟨S128x1024, .f32⟩
  | .local _ .vmem, ⟨13, _⟩ => ⟨S128x1024, .f32⟩
  | .local _ .vmem, ⟨14, _⟩ => ⟨S128x128, .f32⟩
  | .local _ .vmem, ⟨15, _⟩ => ⟨S128x128, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S16x256, .f32⟩
  | .local _ .vmem, ⟨29, _⟩ => ⟨S16x256, .f32⟩
  | .local _ .vmem, ⟨30, _⟩ => ⟨S1x128, .f32⟩
  | .local _ .smem, ⟨0, _⟩ => ⟨S16, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_7 : Ref sig .tc := ⟨.hbm, 64, rfl⟩
abbrev main_call0_v0 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_8 : Ref sig .tc := ⟨.hbm, 77, rfl⟩
abbrev main_call1_v0 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst : Ref sig .tc := ⟨.hbm, 91, rfl⟩
abbrev main_v74 : Ref sig .tc := ⟨.hbm, 92, rfl⟩
abbrev main_v75 : Ref sig .tc := ⟨.hbm, 93, rfl⟩
abbrev main_cst_9 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_c_12 : Ref sig .tc := ⟨.hbm, 121, rfl⟩
abbrev main_call3_v0 : Ref sig .tc := ⟨.hbm, 122, rfl⟩
abbrev main_v97 : Ref sig .tc := ⟨.hbm, 123, rfl⟩
abbrev main_v98_0 : Ref sig .tc := ⟨.hbm, 124, rfl⟩
abbrev main_v98_1 : Ref sig .tc := ⟨.hbm, 125, rfl⟩
abbrev main_v98_2 : Ref sig .tc := ⟨.hbm, 126, rfl⟩
abbrev main_v98_3 : Ref sig .tc := ⟨.hbm, 127, rfl⟩
abbrev main_v98_4 : Ref sig .tc := ⟨.hbm, 128, rfl⟩
abbrev main_v98_5 : Ref sig .tc := ⟨.hbm, 129, rfl⟩
abbrev main_v98_6 : Ref sig .tc := ⟨.hbm, 130, rfl⟩
abbrev main_v98_7 : Ref sig .tc := ⟨.hbm, 131, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![65], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S16x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S8320x1024 : Shape := ⟨2, ![8320, 1024]⟩
abbrev S8320x256 : Shape := ⟨2, ![8320, 256]⟩
abbrev S16 : Shape := ⟨1, ![16]⟩
abbrev S16x256 : Shape := ⟨2, ![16, 256]⟩
abbrev S_ : Shape := ⟨0, ![]⟩
abbrev S8448x256 : Shape := ⟨2, ![8448, 256]⟩
abbrev S1x16x2x2x64 : Shape := ⟨5, ![1, 16, 2, 2, 64]⟩
abbrev S65x16x2x2x64 : Shape := ⟨5, ![65, 16, 2, 2, 64]⟩
abbrev S65x128x2x2x64 : Shape := ⟨5, ![65, 128, 2, 2, 64]⟩
abbrev S65x272x2x2x64 : Shape := ⟨5, ![65, 272, 2, 2, 64]⟩
abbrev S65x128x2x4x2x64 : Shape := ⟨6, ![65, 128, 2, 4, 2, 64]⟩
abbrev S65x2x2x272x128x4 : Shape := ⟨6, ![65, 2, 2, 272, 128, 4]⟩
abbrev S65x2x4x2x128x272 : Shape := ⟨6, ![65, 2, 4, 2, 128, 272]⟩
abbrev S65 : Shape := ⟨1, ![65]⟩
abbrev S65x1 : Shape := ⟨2, ![65, 1]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S1x16 : Shape := ⟨2, ![1, 16]⟩
abbrev S65x16 : Shape := ⟨2, ![65, 16]⟩
abbrev S65x272 : Shape := ⟨2, ![65, 272]⟩
abbrev S272 : Shape := ⟨1, ![272]⟩
abbrev S65x128x1 : Shape := ⟨3, ![65, 128, 1]⟩
abbrev S65x1x272 : Shape := ⟨3, ![65, 1, 272]⟩
abbrev S65x128x272 : Shape := ⟨3, ![65, 128, 272]⟩
abbrev S1x1x272 : Shape := ⟨3, ![1, 1, 272]⟩
abbrev S65x1x1x1x128x272 : Shape := ⟨6, ![65, 1, 1, 1, 128, 272]⟩
abbrev S2x4x2x1 : Shape := ⟨4, ![2, 4, 2, 1]⟩
abbrev S65x2x4x2x128 : Shape := ⟨5, ![65, 2, 4, 2, 128]⟩
abbrev S65x2x4x2x128x1 : Shape := ⟨6, ![65, 2, 4, 2, 128, 1]⟩
abbrev S65x2x2x64x4x128 : Shape := ⟨6, ![65, 2, 2, 64, 4, 128]⟩
abbrev S65x2x2x4x128x272 : Shape := ⟨6, ![65, 2, 2, 4, 128, 272]⟩
abbrev S65x2x2x64x272 : Shape := ⟨5, ![65, 2, 2, 64, 272]⟩
abbrev S2x4x2 : Shape := ⟨3, ![2, 4, 2]⟩
abbrev S65x2x2x128x4x64 : Shape := ⟨6, ![65, 2, 2, 128, 4, 64]⟩
abbrev S65x2x2x272x64 : Shape := ⟨5, ![65, 2, 2, 272, 64]⟩
abbrev S16x2x2x64 : Shape := ⟨4, ![16, 2, 2, 64]⟩

abbrev nBuf : Space → Nat
  | .hbm => 215
  | .vmem => 0
  | .smem => 0
  | _ => 0

abbrev hbmTy0_0 (i : Nat) : BufTy := match i % 128 with
  | 0 => ⟨S8320x1024, .bf16⟩
  | 1 => ⟨S8320x256, .bf16⟩
  | 2 => ⟨S8320x256, .bf16⟩
  | 3 => ⟨S16, .f32⟩
  | 4 => ⟨S8320x1024, .f32⟩
  | 5 => ⟨S8320x1024, .f32⟩
  | 6 => ⟨S16x256, .bf16⟩
  | 7 => ⟨S16x256, .f32⟩
  | 8 => ⟨S8320x256, .f32⟩
  | 9 => ⟨S_, .i32⟩
  | 10 => ⟨S_, .f32⟩
  | 11 => ⟨S8448x256, .f32⟩
  | 12 => ⟨S8320x256, .f32⟩
  | 13 => ⟨S8320x256, .f32⟩
  | 14 => ⟨S16x256, .bf16⟩
  | 15 => ⟨S16x256, .f32⟩
  | 16 => ⟨S8320x256, .f32⟩
  | 17 => ⟨S_, .i32⟩
  | 18 => ⟨S_, .f32⟩
  | 19 => ⟨S8448x256, .f32⟩
  | 20 => ⟨S8320x256, .f32⟩
  | 21 => ⟨S8320x256, .f32⟩
  | 22 => ⟨S1x16x2x2x64, .f32⟩
  | 23 => ⟨S65x16x2x2x64, .f32⟩
  | 24 => ⟨S65x128x2x2x64, .f32⟩
  | 25 => ⟨S65x128x2x2x64, .f32⟩
  | 26 => ⟨S65x272x2x2x64, .f32⟩
  | 27 => ⟨S1x16x2x2x64, .f32⟩
  | 28 => ⟨S65x16x2x2x64, .f32⟩
  | 29 => ⟨S65x128x2x2x64, .f32⟩
  | 30 => ⟨S65x128x2x2x64, .f32⟩
  | 31 => ⟨S65x272x2x2x64, .f32⟩
  | 32 => ⟨S65x128x2x4x2x64, .f32⟩
  | 33 => ⟨S65x2x2x272x128x4, .f32⟩
  | 34 => ⟨S65x2x4x2x128x272, .f32⟩
  | 35 => ⟨S_, .f32⟩
  | 36 => ⟨S65x2x4x2x128x272, .f32⟩
  | 37 => ⟨S65x2x4x2x128x272, .f32⟩
  | 38 => ⟨S65, .i32⟩
  | 39 => ⟨S65x1, .i32⟩
  | 40 => ⟨S_, .i32⟩
  | 41 => ⟨S65x1, .i32⟩
  | 42 => ⟨S65x1, .i32⟩
  | 43 => ⟨S128, .i32⟩
  | 44 => ⟨S1x128, .i32⟩
  | 45 => ⟨S65x128, .i32⟩
  | 46 => ⟨S65x128, .i32⟩
  | 47 => ⟨S65x128, .i32⟩
  | 48 => ⟨S65, .i32⟩
  | 49 => ⟨S65x1, .i32⟩
  | 50 => ⟨S_, .i32⟩
  | 51 => ⟨S65x1, .i32⟩
  | 52 => ⟨S65x1, .i32⟩
  | 53 => ⟨S_, .i32⟩
  | 54 => ⟨S65x1, .i32⟩
  | 55 => ⟨S65x1, .i32⟩
  | 56 => ⟨S256, .i32⟩
  | 57 => ⟨S1x256, .i32⟩
  | 58 => ⟨S65x256, .i32⟩
  | 59 => ⟨S65x256, .i32⟩
  | 60 => ⟨S65x256, .i32⟩
  | 61 => ⟨S16, .i32⟩
  | 62 => ⟨S1x16, .i32⟩
  | 63 => ⟨S_, .i32⟩
  | 64 => ⟨S1x16, .i32⟩
  | 65 => ⟨S1x16, .i32⟩
  | 66 => ⟨S65x16, .i32⟩
  | 67 => ⟨S65x272, .i32⟩
  | 68 => ⟨S_, .i1⟩
  | 69 => ⟨S16, .i1⟩
  | 70 => ⟨S_, .i1⟩
  | 71 => ⟨S256, .i1⟩
  | 72 => ⟨S272, .i1⟩
  | 73 => ⟨S65x128x1, .i32⟩
  | 74 => ⟨S65x1x272, .i32⟩
  | 75 => ⟨S_, .i32⟩
  | 76 => ⟨S65x128x1, .i32⟩
  | 77 => ⟨S65x128x1, .i32⟩
  | 78 => ⟨S65x128x272, .i32⟩
  | 79 => ⟨S65x128x272, .i32⟩
  | 80 => ⟨S65x128x272, .i1⟩
  | 81 => ⟨S_, .i32⟩
  | 82 => ⟨S65x1x272, .i32⟩
  | 83 => ⟨S65x1x272, .i1⟩
  | 84 => ⟨S65x128x272, .i1⟩
  | 85 => ⟨S65x128x272, .i1⟩
  | 86 => ⟨S65x128x272, .i32⟩
  | 87 => ⟨S65x128x272, .i32⟩
  | 88 => ⟨S65x128x272, .i1⟩
  | 89 => ⟨S1x1x272, .i1⟩
  | 90 => ⟨S65x128x272, .i1⟩
  | 91 => ⟨S65x128x272, .i1⟩
  | 92 => ⟨S65x128x272, .i1⟩
  | 93 => ⟨S65x1x1x1x128x272, .i1⟩
  | 94 => ⟨S_, .f32⟩
  | 95 => ⟨S_, .f32⟩
  | 96 => ⟨S65x2x4x2x128x272, .i1⟩
  | 97 => ⟨S65x2x4x2x128x272, .f32⟩
  | 98 => ⟨S65x2x4x2x128x272, .f32⟩
  | 99 => ⟨S_, .f32⟩
  | 100 => ⟨S65x2x4x2x128x272, .f32⟩
  | 101 => ⟨S2x4x2x1, .f32⟩
  | 102 => ⟨S65x2x4x2x128, .f32⟩
  | 103 => ⟨S_, .f32⟩
  | 104 => ⟨S65x2x4x2x128, .f32⟩
  | 105 => ⟨S65x2x4x2x128x1, .f32⟩
  | 106 => ⟨S65x2x4x2x128x272, .f32⟩
  | 107 => ⟨S65x2x4x2x128x272, .i1⟩
  | 108 => ⟨S65x2x4x2x128x272, .f32⟩
  | 109 => ⟨S_, .f32⟩
  | 110 => ⟨S65x2x4x2x128, .f32⟩
  | 111 => ⟨S65x2x4x2x128, .f32⟩
  | 112 => ⟨S65x2x4x2x128, .i1⟩
  | 113 => ⟨S65x2x4x2x128, .i1⟩
  | 114 => ⟨S_, .f32⟩
  | 115 => ⟨S65x2x4x2x128, .f32⟩
  | 116 => ⟨S_, .f32⟩
  | 117 => ⟨S65x2x4x2x128, .f32⟩
  | 118 => ⟨S_, .f32⟩
  | 119 => ⟨S65x2x4x2x128, .f32⟩
  | 120 => ⟨S65x2x4x2x128, .f32⟩
  | 121 => ⟨S65x2x4x2x128, .f32⟩
  | 122 => ⟨S65x2x4x2x128, .i1⟩
  | 123 => ⟨S65x2x4x2x128, .i1⟩
  | 124 => ⟨S_, .f32⟩
  | 125 => ⟨S65x2x4x2x128, .f32⟩
  | 126 => ⟨S_, .f32⟩
  | 127 => ⟨S65x2x4x2x128, .f32⟩
  | _ => ⟨S8320x1024, .bf16⟩

abbrev hbmTy0_1 (i : Nat) : BufTy := match i % 128 with
  | 0 => ⟨S_, .f32⟩
  | 1 => ⟨S65x2x4x2x128, .f32⟩
  | 2 => ⟨S65x2x4x2x128, .f32⟩
  | 3 => ⟨S65x2x4x2x128, .f32⟩
  | 4 => ⟨S65x2x4x2x128x272, .f32⟩
  | 5 => ⟨S65x2x4x2x128x272, .f32⟩
  | 6 => ⟨S65x2x4x2x128x272, .f32⟩
  | 7 => ⟨S_, .f32⟩
  | 8 => ⟨S65x2x4x2x128, .f32⟩
  | 9 => ⟨S65x2x4x2x128, .f32⟩
  | 10 => ⟨S65x2x4x2x128, .f32⟩
  | 11 => ⟨S65x2x4x2x128, .f32⟩
  | 12 => ⟨S65x2x4x2x128x272, .f32⟩
  | 13 => ⟨S65x2x4x2x128x272, .f32⟩
  | 14 => ⟨S65x2x4x2x128x272, .f32⟩
  | 15 => ⟨S_, .f32⟩
  | 16 => ⟨S65x2x4x2x128x272, .f32⟩
  | 17 => ⟨S65x2x4x2x128x272, .f32⟩
  | 18 => ⟨S65x2x2x64x4x128, .f32⟩
  | 19 => ⟨S65x128x2x4x2x64, .f32⟩
  | 20 => ⟨S8320x1024, .f32⟩
  | 21 => ⟨S65x128x2x4x2x64, .f32⟩
  | 22 => ⟨S65x2x2x64x4x128, .f32⟩
  | 23 => ⟨S65x2x2x4x128x272, .f32⟩
  | 24 => ⟨S65x2x4x2x128x272, .f32⟩
  | 25 => ⟨S65x2x2x64x272, .f32⟩
  | 26 => ⟨S65x272x2x2x64, .f32⟩
  | 27 => ⟨S65x2x4x2x128x272, .f32⟩
  | 28 => ⟨S65x2x4x2x128x272, .f32⟩
  | 29 => ⟨S65x2x4x2x128x272, .f32⟩
  | 30 => ⟨S65x2x4x2x128x272, .f32⟩
  | 31 => ⟨S_, .f32⟩
  | 32 => ⟨S65x2x4x2x128, .f32⟩
  | 33 => ⟨S65x2x4x2x128, .f32⟩
  | 34 => ⟨S65x2x4x2x128, .f32⟩
  | 35 => ⟨S65x2x4x2x128x272, .f32⟩
  | 36 => ⟨S65x2x4x2x128x272, .f32⟩
  | 37 => ⟨S65x2x4x2x128x272, .f32⟩
  | 38 => ⟨S65x2x4x2x128x272, .f32⟩
  | 39 => ⟨S_, .f32⟩
  | 40 => ⟨S65x2x4x2x128, .f32⟩
  | 41 => ⟨S65x2x4x2x128, .f32⟩
  | 42 => ⟨S65x2x4x2x128, .f32⟩
  | 43 => ⟨S65x2x4x2x128, .f32⟩
  | 44 => ⟨S65x2x4x2x128, .f32⟩
  | 45 => ⟨S65x2x4x2x128, .f32⟩
  | 46 => ⟨S65x2x4x2x128x272, .f32⟩
  | 47 => ⟨S65x2x4x2x128x272, .f32⟩
  | 48 => ⟨S65x2x4x2x128x272, .f32⟩
  | 49 => ⟨S_, .f32⟩
  | 50 => ⟨S2x4x2, .f32⟩
  | 51 => ⟨S2x4x2x1, .f32⟩
  | 52 => ⟨S16, .f32⟩
  | 53 => ⟨S_, .f32⟩
  | 54 => ⟨S65x2x4x2x128x272, .f32⟩
  | 55 => ⟨S65x2x4x2x128x272, .f32⟩
  | 56 => ⟨S_, .f32⟩
  | 57 => ⟨S65x2x4x2x128x272, .f32⟩
  | 58 => ⟨S65x2x4x2x128x272, .f32⟩
  | 59 => ⟨S65x2x2x272x128x4, .f32⟩
  | 60 => ⟨S65x2x2x128x4x64, .f32⟩
  | 61 => ⟨S65x128x2x4x2x64, .f32⟩
  | 62 => ⟨S65x2x2x272x64, .f32⟩
  | 63 => ⟨S65x272x2x2x64, .f32⟩
  | 64 => ⟨S8320x1024, .f32⟩
  | 65 => ⟨S65x16x2x2x64, .f32⟩
  | 66 => ⟨S65x128x2x2x64, .f32⟩
  | 67 => ⟨S65x128x2x2x64, .f32⟩
  | 68 => ⟨S8320x256, .f32⟩
  | 69 => ⟨S8320x256, .f32⟩
  | 70 => ⟨S_, .f32⟩
  | 71 => ⟨S16x2x2x64, .f32⟩
  | 72 => ⟨S1x16x2x2x64, .f32⟩
  | 73 => ⟨S16x256, .f32⟩
  | 74 => ⟨S65x16x2x2x64, .f32⟩
  | 75 => ⟨S65x128x2x2x64, .f32⟩
  | 76 => ⟨S65x128x2x2x64, .f32⟩
  | 77 => ⟨S8320x256, .f32⟩
  | 78 => ⟨S8320x256, .f32⟩
  | 79 => ⟨S_, .f32⟩
  | 80 => ⟨S16x2x2x64, .f32⟩
  | 81 => ⟨S1x16x2x2x64, .f32⟩
  | 82 => ⟨S16x256, .f32⟩
  | 83 => ⟨S1x16, .f32⟩
  | 84 => ⟨S_, .i32⟩
  | 85 => ⟨S_, .f32⟩
  | 86 => ⟨S1x128, .f32⟩
  | _ => ⟨S8320x1024, .bf16⟩

abbrev hbmTy (i : Nat) : BufTy := match i / 128 with
  | 0 => hbmTy0_0 i
  | 1 => hbmTy0_1 i
  | _ => ⟨S8320x1024, .bf16⟩

abbrev bufTy : (tb : Table) → Fin (tcTables nBuf tb) → BufTy
  | .hbm, ⟨i, _⟩ => hbmTy i
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_2 : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_5 : Ref sig .tc := ⟨.hbm, 68, rfl⟩
abbrev main_v54 : Ref sig .tc := ⟨.hbm, 69, rfl⟩
abbrev main_c_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_9 : Ref sig .tc := ⟨.hbm, 94, rfl⟩
abbrev main_call2_v0 : Ref sig .tc := ⟨.hbm, 95, rfl⟩
abbrev main_v76_1 : Ref sig .tc := ⟨.hbm, 96, rfl⟩
abbrev main_call2_v2 : Ref sig .tc := ⟨.hbm, 97, rfl⟩
abbrev main_v76_0 : Ref sig .tc := ⟨.hbm, 98, rfl⟩
abbrev main_call2_cst : Ref sig .tc := ⟨.hbm, 99, rfl⟩
abbrev main_v76_2 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_11 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_cst_13 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_cst_17 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_18 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_19 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_20 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_21 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_22 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_call3_cst : Ref sig .tc := ⟨.hbm, 181, rfl⟩
abbrev main_call3_v0 : Ref sig .tc := ⟨.hbm, 182, rfl⟩
abbrev main_v144 : Ref sig .tc := ⟨.hbm, 183, rfl⟩
abbrev main_cst_23 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_24 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_25 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_c_26 : Ref sig .tc := ⟨.hbm, 212, rfl⟩
abbrev main_call4_v0 : Ref sig .tc := ⟨.hbm, 213, rfl⟩
abbrev main_v170 : Ref sig .tc := ⟨.hbm, 214, rfl⟩

abbrev nD : Nat := 1
abbrev τ : Topo := Topo.v7x

variable {F : FTy → Type} [FloatOps F]

def κ : String → Option EReal := fun
  | "mask" => some ⊥
  | _ => none
-- ==== Proof.Reals.lean ====
/- What the other modules use about extended reals: the values of the constants, and how a sum moves past a nonnegative real. -/
module
public import proofs.«01_k».proof.Defs
public import Idealize.ShloMosaic.Lib.Pointwise
@[expose] public section
noncomputable section
namespace Cert.Hand
open Idealize.ShloMosaic

/-- 2048, the number of columns. -/
theorem bits_2048 : Ideal.ofBits .f32 0x45000000#32 = ((2048 : ℝ) : EReal) := by
  simp [Ideal.ofBits, Ideal.ieee, -EReal.coe_mul]; norm_num
/-- The norm's small constant, a positive real. -/
theorem bits_eps : Ideal.ofBits .f32 0x358637BD#32 = ((8796093 / 2 ^ 43 : ℝ) : EReal) := by
  simp [Ideal.ofBits, Ideal.ieee, -EReal.coe_mul]; norm_num
/-- Minus one half, the exponent of the inverse root brought down. -/
theorem bits_neg_half : Ideal.ofBits .f32 0xBF000000#32 = ((-(1 / 2) : ℝ) : EReal) := by
  simp [Ideal.ofBits, Ideal.ieee, -EReal.coe_mul]; norm_num
/-- One eighth, the inverse root of the head width. -/
theorem bits_eighth : Ideal.ofBits .f32 0x3E000000#32 = ((1 / 8 : ℝ) : EReal) := by
  simp [Ideal.ofBits, Ideal.ieee, -EReal.coe_mul]; norm_num
theorem bits_eighth_bf16 : Ideal.ofBits .bf16 0x3E00#16 = ((1 / 8 : ℝ) : EReal) := by
  simp [Ideal.ofBits, Ideal.ieee, -EReal.coe_mul]; norm_num

/-- One half, minus infinity. -/
theorem bits_half : Ideal.ofBits .f32 0x3F000000#32 = ((1 / 2 : ℝ) : EReal) := by
  simp [Ideal.ofBits, Ideal.ieee, -EReal.coe_mul]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]
theorem bits_bot_bf16 : Ideal.ofBits .bf16 0xFF80#16 = ⊥ := by
  simp [Ideal.ofBits, Ideal.ieee]
theorem bits_top_bf16 : Ideal.ofBits .bf16 0x7F80#16 = ⊤ := by
  simp [Ideal.ofBits, Ideal.ieee]

/-- A nonnegative real factor moves into a finite sum. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- An extended real whose square stays below `⊤` is a real. -/
theorem real_of_sq (x : EReal) (h : x * x ≠ ⊤) : ∃ r : ℝ, x = r := by
  induction x with
  | bot => exact absurd EReal.bot_mul_bot h
  | top => exact absurd EReal.top_mul_top h
  | coe r => exact ⟨r, rfl⟩

theorem sq_nonneg (x : EReal) : 0 ≤ x * x := by
  rcases le_total 0 x with h | h
  · exact mul_nonneg h h
  · have : 0 ≤ -x := by simpa using h
    have := mul_nonneg this this
    simpa using this

end Cert.Hand
end
-- ==== Proof.NormRow.lean ====
/- The gradient of a root-mean-square norm along one row: the kernel's short form and the form differentiation gives are the same number,
   whatever the row holds (an infinite row has inverse root zero, and both forms leave only the residual's gradient). -/
module
public import proofs.«01_k».proof.Proof.Reals
@[expose] public section
noncomputable section
namespace Cert.Hand.Norm
open Idealize.ShloMosaic
variable {n : ℕ} (x y : Fin n → EReal)

/-- The mean square plus the small constant. -/
def spread : EReal := Ideal.div (∑ k, x k * x k) (Ideal.ofBits .f32 0x45000000#32) + Ideal.ofBits .f32 0x358637BD#32

theorem spread_cases : spread x = ⊤ ∨ ∃ s : ℝ, 0 < s ∧ spread x = s ∧ ∀ k, ∃ r : ℝ, x k = r := by
  have h0 : 0 ≤ ∑ k, x k * x k := Finset.sum_nonneg fun k _ => sq_nonneg (x k)
  unfold spread
  rw [bits_2048, bits_eps, Ideal.div_coe (by norm_num)]
  by_cases ht : (∑ k, x k * x k) = ⊤
  · left
    rw [ht, EReal.top_mul_coe_of_pos (by norm_num), EReal.top_add_coe]
  · right
    obtain ⟨S, hS⟩ : ∃ S : ℝ, (∑ k, x k * x k) = S :=
      ⟨_, (EReal.coe_toReal ht (by intro h; rw [h] at h0; simp at h0)).symm⟩
    have hS0 : 0 ≤ S := by rw [hS] at h0; exact_mod_cast h0
    refine ⟨S * (1 / 2048) + 8796093 / 2 ^ 43, by positivity, by rw [hS]; push_cast; rfl, fun k => real_of_sq _ fun hk => ht ?_⟩
    have := Finset.single_le_sum (f := fun k => x k * x k) (fun i _ => sq_nonneg (x i)) (Finset.mem_univ k)
    exact top_le_iff.mp (hk ▸ this)

/-- The kernel's form. -/
def short (o : EReal) (j : Fin n) : EReal :=
  o + Ideal.rsqrt (spread x) * (y j - x j * Ideal.rsqrt (spread x)
    * Ideal.div (∑ k, y k * (x k * Ideal.rsqrt (spread x))) (Ideal.ofBits .f32 0x45000000#32))

/-- The part the mean square contributes, as differentiation gives it. -/
def through : EReal :=
  Ideal.div ((∑ k, x k * y k) * (Ideal.ofBits .f32 0xBF000000#32 * Ideal.div (Ideal.rsqrt (spread x)) (spread x)))
    (Ideal.ofBits .f32 0x45000000#32)

/-- The differentiated form. -/
def long (o : EReal) (j : Fin n) : EReal :=
  o + y j * Ideal.rsqrt (spread x) + x j * through x y + x j * through x y

theorem two_mul' (a : EReal) : a + a = ((2 : ℝ) : EReal) * a := by
  induction a with
  | bot => simp [EReal.coe_mul_bot_of_pos]
  | top => simp [EReal.coe_mul_top_of_pos]
  | coe r => norm_cast; ring

theorem short_eq_long (o : EReal) (j : Fin n) : short x y o j = long x y o j := by
  unfold short long through
  rcases spread_cases x with h | ⟨s, hs, h, hx⟩
  · rw [h]; simp [Ideal.div, bits_2048]
  · obtain ⟨r, hr⟩ : ∃ r : ℝ, r = (Real.sqrt s)⁻¹ := ⟨_, rfl⟩
    have hr0 : 0 < r := by rw [hr]; positivity
    have hrs : r * r = 1 / s := by rw [hr, ← mul_inv, Real.mul_self_sqrt hs.le, one_div]
    have hq : Ideal.rsqrt (spread x) = (r : EReal) := by rw [h, Ideal.rsqrt_coe, if_neg hs.not_gt, if_neg hs.ne', hr]
    rw [hq, h, bits_2048, bits_neg_half, Ideal.div_coe hs.ne', Ideal.div_coe (by norm_num), Ideal.div_coe (by norm_num)]
    obtain ⟨a, ha⟩ := hx j
    have hsum : ∑ k, y k * (x k * (r : EReal)) = (r : EReal) * ∑ k, x k * y k := by
      rw [coe_mul_sum _ _ hr0.le]
      exact Finset.sum_congr rfl fun k _ => by rw [mul_comm (x k), mul_left_comm, mul_comm (y k)]
    rw [hsum, ha]
    generalize (∑ k, x k * y k) = A
    rw [add_assoc, add_assoc, two_mul', sub_eq_add_neg,
      EReal.left_distrib_of_nonneg_of_ne_top (by exact_mod_cast hr0.le) (EReal.coe_ne_top r), mul_comm (y j)]
    congr 2
    have e1 : (r : EReal) * -((a : EReal) * r * (r * A * ((1 / 2048 : ℝ) : EReal))) = ((-(r * (a * r * r * (1 / 2048))) : ℝ) : EReal) * A := by
      rw [EReal.coe_neg, mul_neg, neg_mul]
      congr 1
      push_cast
      ac_rfl
    have e2 : ((2 : ℝ) : EReal) * ((a : EReal) * (A * (((-(1 / 2) : ℝ) : EReal) * (r * ((1 / s : ℝ) : EReal))) * ((1 / 2048 : ℝ) : EReal)))
        = ((2 * (a * ((-(1 / 2) * (r * (1 / s))) * (1 / 2048))) : ℝ) : EReal) * A := by
      push_cast
      ac_rfl
    rw [e1, e2, ← hrs]
    congr 2
    ring
end Cert.Hand.Norm
end
-- ==== Proof.NormRef.lean ====
/- What the reference of the norm's gradient computes, named in three steps and read entry by entry. -/
module
public import proofs.«01_k».proof.Proof.NormRow
public import proofs.«01_k».proof.Proof.Gen.NormRefIdeal.Run
public import Idealize.ShloMosaic.Lib.Pipeline.ValueKit
public import Idealize.ShloMosaic.Lib.Claim
@[expose] public section
set_option maxRecDepth 16384
noncomputable section
namespace Cert.Hand.Norm
open Cert.NormRefIdeal Cert.NormRefIdeal.Gen Idealize.ShloMosaic Idealize.ShloMosaic.TcCoe
variable (D X : FVec Ideal S8320x2048 .f32) (G : FVec Ideal S1x2048 .f32) (O : FVec Ideal S8320x2048 .f32)

/-- Mean square plus the constant, row by row. -/
abbrev spreads : FVec Ideal S8320x1 .f32 :=
  addf (Host.divf (broadcastInDim S8320x1 ![0] bcast_S8320_S8320x1_0 (Host.reduceAdd (mulf X X) (constant S_ .f32 0x00000000#32)
      reducesTo_S8320x2048_S8320_d1 h_S_)) (broadcastInDim S8320x1 ![] bcast_S_S8320x1 (constant S_ .f32 0x45000000#32)))
    (broadcastInDim S8320x1 ![] bcast_S_S8320x1 (constant S_ .f32 0x358637BD#32))

/-- What comes through the mean square, row by row. -/
abbrev throughs : FVec Ideal S8320 .f32 :=
  Host.reduceAdd (Host.divf (mulf (shapeCast _ (Host.reduceAdd (mulf X (mulf D (broadcastInDim S8320x2048 ![0, 1]
      bcast_S1x2048_S8320x2048_0_1 G))) (constant S_ .f32 0x00000000#32) reducesTo_S8320x2048_S8320_d1 h_S_) shapeCasts_S8320_S8320x1)
    (mulf (broadcastInDim S8320x1 ![] bcast_S_S8320x1 (constant S_ .f32 0xBF000000#32)) (Host.divf (Host.rsqrt (spreads X)) (spreads X))))
    (broadcastInDim S8320x1 ![] bcast_S_S8320x1 (constant S_ .f32 0x45000000#32))) (constant S_ .f32 0x00000000#32) reducesTo_S8320x1_S8320_d1 h_S_

/-- The reference's gradient of the rows. -/
abbrev rows : FVec Ideal S8320x2048 .f32 :=
  addf (addf (addf O (mulf (mulf D (broadcastInDim S8320x2048 ![0, 1] bcast_S1x2048_S8320x2048_0_1 G))
      (broadcastInDim S8320x2048 ![0, 1] bcast_S8320x1_S8320x2048_0_1 (Host.rsqrt (spreads X)))))
    (mulf X (broadcastInDim S8320x2048 ![0] bcast_S8320_S8320x2048_0 (throughs D X G))))
    (mulf (broadcastInDim S8320x2048 ![0] bcast_S8320_S8320x2048_0 (throughs D X G)) X)

/-- The reference's gradient of the gain. -/
abbrev gain : FVec Ideal S1x2048 .f32 :=
  shapeCast _ (Host.reduceAdd (mulf (mulf X (broadcastInDim S8320x2048 ![0, 1] bcast_S8320x1_S8320x2048_0_1 (Host.rsqrt (spreads X)))) D)
    (constant S_ .f32 0x00000000#32) reducesTo_S8320x2048_S2048_d0 h_S_) shapeCasts_S2048_S1x2048

theorem rows_long (i : Fin 8320) (l : Fin 2048) :
    rows D X G O (ix2 i l) = long (fun k => X (ix2 i k)) (fun k => D (ix2 i k) * G (ix2 0 k)) (O (ix2 i l)) l := by
  pointwise [rows, throughs, spreads]
  simp only [long, through, spread, ix2_eta, Fin.sum_univ_one]
  rw [mul_comm _ (X (ix2 i l))]

theorem gain_sum (j : S1x2048.Idx) :
    gain D X j = ∑ i : Fin 8320, D (ix2 i (j 1)) * (X (ix2 i (j 1)) * Ideal.rsqrt (spread fun k => X (ix2 i k))) := by
  pointwise [gain, spreads]
  exact Finset.sum_congr rfl fun i _ => mul_comm _ _
end Cert.Hand.Norm
end
-- ==== Proof.Norm.lean ====
/- The gradient of the norm before the projections, second layer: rows are independent; the gradient of the gain adds all rows. -/
module
public import proofs.«01_k».proof.Proof.NormRef
public import proofs.«01_k».proof.Proof.Gen.NormIdeal.Value
public import Idealize.ShloMosaic.Lib.Pipeline.ValueKit
public import Idealize.ShloMosaic.Lib.Claim
@[expose] public section
set_option maxRecDepth 16384
noncomputable section
namespace Cert.Hand.Norm
open Cert.NormIdeal Cert.NormIdeal.Gen Idealize.ShloMosaic Idealize.ShloMosaic.TcCoe Idealize.SL.Sem
open Idealize.ShloMosaic.Pipeline (Dat)
variable (m : (ℓ : Loc nD τ sig) → Buf (Elt Ideal) ℓ)

/-- The kernel's row, by the short form. -/
theorem pay_short (x dy : FVec Ideal S128x2048 .f32) (g : FVec Ideal S1x2048 .f32) (o : FVec Ideal S128x2048 .f32) (i : Fin 128) (l : Fin 2048) :
    k0_pay4 (F := Ideal) x dy g o (ix2 i l) = short (fun k => x (ix2 i k)) (fun k => dy (ix2 i k) * g (ix2 0 k)) (o (ix2 i l)) l := by
  pointwise [k0_pay4, k0_pay3, k0_pay2]
  rfl

theorem pay_gain (x dy : FVec Ideal S128x2048 .f32) (g : FVec Ideal S1x2048 .f32) (j : S1x2048.Idx) :
    k0_pay1 (F := Ideal) (k0_pay3 x) dy g j
      = g j + ∑ i : Fin 128, dy (ix2 i (j 1)) * (x (ix2 i (j 1)) * Ideal.rsqrt (spread fun k => x (ix2 i k))) := by
  pointwise [k0_pay1, k0_pay3, k0_pay2]
  rfl

/-- Which block of each array a grid point works on: row block `t`, the gain whole. -/
theorem blocks : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The gradient of the gain starts at zero. -/
theorem start (j : S1x2048.Idx) : k0_pay7 (F := Ideal) (k0_pay5 (F := Ideal)) j = 0 := by pointwise [k0_pay5, k0_pay7]
theorem keep (g : FVec Ideal S1x2048 .f32) (j : S1x2048.Idx) : k0_pay7 (F := Ideal) g j = g j := by pointwise [k0_pay7]

/-- The four argument arrays. -/
abbrev aD (c : Dev nD) : FVec Ideal S8320x2048 .f32 := m ((c : Thread nD τ).loc main_arg0)
abbrev aX (c : Dev nD) : FVec Ideal S8320x2048 .f32 := m ((c : Thread nD τ).loc main_arg1)
abbrev aG (c : Dev nD) : FVec Ideal S1x2048 .f32 := m ((c : Thread nD τ).loc main_arg2)
abbrev aO (c : Dev nD) : FVec Ideal S8320x2048 .f32 := m ((c : Thread nD τ).loc main_arg3)

/-- One entry of the gradient of the rows. -/
theorem entry (c : Dev nD) (t : Fin cfg0.N) (i : Fin 128) (l : Fin 2048) (I : Fin 8320) (hI : I.val = t.val * 128 + i.val) :
    k0_pay4 (F := Ideal) (iblk m c 1 t) (iblk m c 0 t) (iblk m c 2 t) (iblk m c 3 t) (ix2 i l)
      = rows (aD m c) (aX m c) (aG m c) (aO m c) (ix2 I l) := by
  rw [pay_short, rows_long, short_eq_long]
  have e1 : (fun k => (iblk m c 1 t : FVec Ideal S128x2048 .f32) (ix2 i k)) = fun k => aX m c (ix2 I k) := by
    funext k; blk_point [iblk, V, blocks t]
  have e0 : ∀ k, (iblk m c 0 t : FVec Ideal S128x2048 .f32) (ix2 i k) = aD m c (ix2 I k) := fun k => by
    blk_point [iblk, V, blocks t]
  have e2 : ∀ k, (iblk m c 2 t : FVec Ideal S1x2048 .f32) (ix2 0 k) = aG m c (ix2 0 k) := fun k => by
    blk_point [iblk, V, blocks t]
  have e3 : (iblk m c 3 t : FVec Ideal S128x2048 .f32) (ix2 i l) = aO m c (ix2 I l) := by
    blk_point [iblk, V, blocks t]
  simp only [e0, e1, e2, e3]

/-- One tile of it, at the index the tile has in the array. -/
theorem point (c : Dev nD) (t : Fin cfg0.N) (y : S128x2048.Idx) (j : S8320x2048.Idx) (h0 : (j 0).val = t.val * 128 + (y 0).val)
    (h1 : (j 1).val = (y 1).val) :
    k0_pay4 (F := Ideal) (iblk m c 1 t) (iblk m c 0 t) (iblk m c 2 t) (iblk m c 3 t) y = rows (aD m c) (aX m c) (aG m c) (aO m c) j := by
  have hj : j = ix2 (j 0) (y 1) := by
    conv_lhs => rw [eq_ix2 j]
    congr 1
    exact Fin.ext h1
  rw [hj, eq_ix2 y]
  exact entry m c t (y 0) (y 1) (j 0) h0

theorem left_rows (c : Dev nD) (t : Fin cfg0.N) (y : S128x2048.Idx) :
    (outsAt0 m c t.val t.isLt).1 y = k0_pay4 (F := Ideal) (iblk m c 1 t) (iblk m c 0 t) (iblk m c 2 t) (iblk m c 3 t) y
    ∧ (outsAt0 m c t.val t.isLt).2.1 y = k0_pay4 (F := Ideal) (iblk m c 1 t) (iblk m c 0 t) (iblk m c 2 t) (iblk m c 3 t) y := by
  by_cases h : t.val % 65 = 0
  · rw [outsAt0_A m c t h]; frame_out
    exact ⟨trivial, rfl⟩
  · rw [outsAt0_B m c t h]; frame_out
    exact ⟨trivial, rfl⟩

theorem array_rows (c : Dev nD) : (dats m 0 c).arrAt 4 (cfgs 0).N = rows (aD m c) (aX m c) (aG m c) (aO m c) := by
  refine (dats m 0 c).arrAt_eq_of_covers 4 _ (by decide +kernel) fun t _ y => ?_
  blk_simp
  rw [after0_4, (left_rows m c t y).1]
  exact point m c t y _ (by blk_simp [blocks t] <;> try omega) (by blk_simp [blocks t] <;> try omega)

theorem array_rounded (c : Dev nD) : (dats m 0 c).arrAt 5 (cfgs 0).N
    = truncf .bf16 (rows (aD m c) (aX m c) (aG m c) (aO m c)) Cert.NormRefIdeal.Gen.bitsLt_bf16_f32 := by
  refine (dats m 0 c).arrAt_eq_of_covers 5 _ (by decide +kernel) fun t _ y => ?_
  blk_simp
  rw [after0_5, (left_rows m c t y).2]
  exact point m c t y _ (by blk_simp [blocks t] <;> try omega) (by blk_simp [blocks t] <;> try omega)

theorem array_gain (c : Dev nD) : (dats m 0 c).arrAt 6 (cfgs 0).N = gain (aD m c) (aX m c) := by
  refine (dats m 0 c).arrAt_eq_of_covers 6 _ (by decide +kernel) fun t hf y => ?_
  blk_simp
  rw [after0_6, Pipeline.eq_sum_fin_of_reset_step_apply_of_flush (fun n h => (outsAt0 m c n h).2.2) 65 (fun _ => 0) _
    (fun t h j => by rw [outsAt0_A m c t h]; frame_out; rw [pay_gain, start])
    (fun t h j => by rw [outsAt0_B m c t h]; frame_out; rw [pay_gain, keep])
    t ((flush0_6 t).mp hf) _, zero_add, gain_sum]
  refine Fin.sum_mul_add_congr fun s k hl => ?_
  have e : ∀ l : Fin 2048, (iblk m c 1 ⟨65 * (t.val / 65) + s.val, Pipeline.run_point_lt_of_flush t ((flush0_6 t).mp hf) s⟩ : FVec Ideal S128x2048 .f32) (ix2 k l)
      = aX m c (ix2 ⟨s.val * 128 + k.val, hl⟩ l) := fun l => by
    blk_point [iblk, V, blocks t, blocks ⟨_, Pipeline.run_point_lt_of_flush t ((flush0_6 t).mp hf) s⟩]
  simp only [e]
  congr 1
  · blk_point [iblk, V, blocks t, blocks ⟨_, Pipeline.run_point_lt_of_flush t ((flush0_6 t).mp hf) s⟩]
  · congr 1
    blk_point [iblk, V, blocks t, blocks ⟨_, Pipeline.run_point_lt_of_flush t ((flush0_6 t).mp hf) s⟩]

theorem equal : Cert.algebraic_NormIdeal_NormRefIdeal := by
  pair_intro
  · run_from Cert.NormIdeal.Gen.run_main m g
  · refine θ_run_mono (Cert.NormRefIdeal.Value.run m' g') fun r hr c => ?_
    obtain ⟨e0, e1, e2, h0, h1, h2, h3⟩ := hr c
    refine ⟨?_, ?_, ?_, h0, h1, h2, h3⟩
    · rw [(hagree c).1, (hagree c).2.1, (hagree c).2.2.1, (hagree c).2.2.2] at e0
      exact e0.trans (array_rows m c).symm
    · rw [(hagree c).1, (hagree c).2.1, (hagree c).2.2.1, (hagree c).2.2.2] at e1
      exact e1.trans (array_rounded m c).symm
    · rw [(hagree c).1, (hagree c).2.1] at e2
      exact e2.trans (array_gain m c).symm
end Cert.Hand.Norm
end
-- ==== Proof.NormFirstIdealRuns.lean ====
/- What the run of the first layer's norm gradient starts from: its staging buffers, the points at which the meta rows are stored, and the two cases of its grid. This is the program at the ideal floats. -/
module

public import proofs.«01_k».proof.Proof.Gen.NormFirstIdeal.Launch
public import proofs.«01_k».proof.Proof.Gen.NormFirstIdeal.Skeleton
public import proofs.«01_k».proof.Proof.Gen.NormFirstIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.NormFirstIdeal.Hand

open Cert.NormFirstIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The arrays before the call. -/
abbrev V (c : Dev nD) (b : Ref sig .tc) : Buf (Elt F) ((c : Thread nD τ).loc b) := m ((c : Thread nD τ).loc b)

set_option maxHeartbeats 800000 in
/-- The program is the one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- An argument before the call is that of the launch. -/
theorem V_main_arg0 (c : Dev nD) : V m c main_arg0 = m ((c : Thread nD τ).loc main_arg0) := rfl
/-- An argument before the call is that of the launch. -/
theorem V_main_arg1 (c : Dev nD) : V m c main_arg1 = m ((c : Thread nD τ).loc main_arg1) := rfl
/-- An argument before the call is that of the launch. -/
theorem V_main_arg2 (c : Dev nD) : V m c main_arg2 = m ((c : Thread nD τ).loc main_arg2) := rfl
/-- An argument before the call is that of the launch. -/
theorem V_main_arg3 (c : Dev nD) : V m c main_arg3 = m ((c : Thread nD τ).loc main_arg3) := rfl

/-- The block of an array at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What a point finds in tile 0: the block of its argument. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- What a point finds in tile 1: the block of its argument. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What a point finds in tile 2: the block of its argument. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- What a point finds in tile 3: the block of its argument. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From the arrays after the call to unchanged arguments. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-- The first point is the one that stores the meta rows and starts the gain. -/
abbrev cond0_0 (i : grid0.Coords) : Prop := k0_cond1 i = 1#1

/-- That is point zero of the 65. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- Tile 0 is used here. -/
theorem liveAt0_0 : ∀ t : Fin cfg0.N, cfg0.idle 0 (grid0.coords t) = false := fun _ => rfl

/-- Tile 1 is used here. -/
theorem liveAt0_1 : ∀ t : Fin cfg0.N, cfg0.idle 1 (grid0.coords t) = false := fun _ => rfl

/-- Tile 2 is used here. -/
theorem liveAt0_2 : ∀ t : Fin cfg0.N, cfg0.idle 2 (grid0.coords t) = false := fun _ => rfl

/-- Tile 3 is used here. -/
theorem liveAt0_3 : ∀ t : Fin cfg0.N, cfg0.idle 3 (grid0.coords t) = false := fun _ => rfl

/-- Tile 4 is used here. -/
theorem liveAt0_4 : ∀ t : Fin cfg0.N, cfg0.idle 4 (grid0.coords t) = false := fun _ => rfl

/-- Tile 6 is used here. -/
theorem liveAt0_6 : ∀ t : Fin cfg0.N, cfg0.idle 6 (grid0.coords t) = false := fun _ => rfl

/-- When the tile of the meta rows is new: at the first point. -/
def freshTab0_5 : ℕ → Bool
  | 0 => true
  | n + 1 => (0x10000000000000000 : ℕ).testBit n
/-- One step of it. -/
theorem freshTab0_5_step : ∀ t : Fin cfg0.N,
    freshTab0_5 (t.val + 1) = ((cfg0.win 5).flush t || (cfg0.idle 5 (cfg0.grid.coords t) && freshTab0_5 t.val)) := by decide +kernel
/-- So it is at every point. -/
theorem fresh0_5_eq (t : Fin cfg0.N) : cfg0.fresh 5 t.val = freshTab0_5 t.val :=
  Pipeline.Cfg.fresh_tab cfg0 5 freshTab0_5 rfl freshTab0_5_step t.val (Nat.le_of_lt t.isLt)

/-- Tile 5 is used here. -/
theorem liveAt0_5_A : ∀ t : Fin cfg0.N, cond0_0 (grid0.coords t) → cfg0.idle 5 (grid0.coords t) = false := by decide +kernel

/-- A later point leaves the tile of the meta rows alone. -/
theorem idleAt0_5_B : ∀ t : Fin cfg0.N, ¬cond0_0 (grid0.coords t) → cfg0.idle 5 (grid0.coords t) = true := by decide +kernel
/-- A later point does not find a new tile there. -/
theorem notFresh0_5_B : ∀ t : Fin cfg0.N, ¬cond0_0 (grid0.coords t) → cfg0.fresh 5 t.val = false := by
  intro t; rw [fresh0_5_eq t]; revert t; decide +kernel

/-- The tile of output 4 as a whole. -/
abbrev VO0_4 : View sig .tc .vmem S128x2048 .f32 := (Memref.whole cc0_stg4_0 : Memref sig .tc .vmem S128x2048 .f32).view

/-- The tile of output 5 as a whole. -/
abbrev VO0_5 : View sig .tc .vmem S16x2048 .f32 := (Memref.whole cc0_stg5_0 : Memref sig .tc .vmem S16x2048 .f32).view

/-- The tile of output 6 as a whole. -/
abbrev VO0_6 : View sig .tc .vmem S1x2048 .f32 := (Memref.whole cc0_stg6_0 : Memref sig .tc .vmem S1x2048 .f32).view

/-- Tile 0 at a point. -/
abbrev ms0_0 (t : Fin cfg0.N) : Memref sig .tc .vmem S128x2048 .f32 := win0_0.stage (cfg0.slots t 0)
/-- It is whole. -/
abbrev hs0_0 (t : Fin cfg0.N) : (ms0_0 t).IsWhole := hstage0_0 ((cfg0.slots t 0).cast nbuf0_0)
/-- Tile 1 at a point. -/
abbrev ms0_1 (t : Fin cfg0.N) : Memref sig .tc .vmem S128x2048 .f32 := win0_1.stage (cfg0.slots t 1)
/-- It is whole. -/
abbrev hs0_1 (t : Fin cfg0.N) : (ms0_1 t).IsWhole := hstage0_1 ((cfg0.slots t 1).cast nbuf0_1)
/-- Tile 2 at a point. -/
abbrev ms0_2 (t : Fin cfg0.N) : Memref sig .tc .vmem S1x2048 .f32 := win0_2.stage (cfg0.slots t 2)
/-- It is whole. -/
abbrev hs0_2 (t : Fin cfg0.N) : (ms0_2 t).IsWhole := hstage0_2 ((cfg0.slots t 2).cast nbuf0_2)
/-- Tile 3 at a point. -/
abbrev ms0_3 (t : Fin cfg0.N) : Memref sig .tc .vmem S128x2048 .f32 := win0_3.stage (cfg0.slots t 3)
/-- It is whole. -/
abbrev hs0_3 (t : Fin cfg0.N) : (ms0_3 t).IsWhole := hstage0_3 ((cfg0.slots t 3).cast nbuf0_3)
/-- Tile 4 at a point. -/
abbrev ms0_4 (t : Fin cfg0.N) : Memref sig .tc .vmem S128x2048 .f32 := win0_4.stage (cfg0.slots t 4)
/-- It is whole. -/
abbrev hs0_4 (t : Fin cfg0.N) : (ms0_4 t).IsWhole := hstage0_4 ((cfg0.slots t 4).cast nbuf0_4)
/-- Tile 5 at a point. -/
abbrev ms0_5 (t : Fin cfg0.N) : Memref sig .tc .vmem S16x2048 .f32 := win0_5.stage (cfg0.slots t 5)
/-- It is whole. -/
abbrev hs0_5 (t : Fin cfg0.N) : (ms0_5 t).IsWhole := hstage0_5 ((cfg0.slots t 5).cast nbuf0_5)
/-- Tile 6 at a point. -/
abbrev ms0_6 (t : Fin cfg0.N) : Memref sig .tc .vmem S1x2048 .f32 := win0_6.stage (cfg0.slots t 6)
/-- It is whole. -/
abbrev hs0_6 (t : Fin cfg0.N) : (ms0_6 t).IsWhole := hstage0_6 ((cfg0.slots t 6).cast nbuf0_6)

end Cert.NormFirstIdeal.Hand

end
-- ==== Proof.NormFirstIdealRunA.lean ====
/- The body at the first point, which stores all three outputs. This is the program at the ideal floats. -/
module

public import proofs.«01_k».proof.Proof.NormFirstIdealRuns

@[expose] public section

set_option maxRecDepth 16384

noncomputable section

namespace Cert.NormFirstIdeal.Hand

open Cert.NormFirstIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- The body of this case, run store by store. -/
noncomputable def kernelRun0_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) :
    Σ' (L4 : List (View.Piece (Elt F) S128x2048 .f32)), Σ' (L5 : List (View.Piece (Elt F) S16x2048 .f32)), { L6 : List (View.Piece (Elt F) S1x2048 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_rmsnorm_bwd_l0 i arg1 harg1 arg2 harg2 arg3 harg3 arg4 harg4 arg5 harg5 arg6 harg6 arg7 harg7) K } := by
  refine ⟨?_, ?_, ?_, fun E K => ?run⟩
  case run =>
    simp only [cc0_rmsnorm_bwd_l0_eq_skeleton]; unfold cc0_rmsnorm_bwd_l0_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.NormFirstIdeal.Hand

end
-- ==== Proof.NormFirstIdealRunB.lean ====
/- The body at the other points, which leave the meta rows alone. This is the program at the ideal floats. -/
module

public import proofs.«01_k».proof.Proof.NormFirstIdealRunA

@[expose] public section

set_option maxRecDepth 16384

noncomputable section

namespace Cert.NormFirstIdeal.Hand

open Cert.NormFirstIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- The body of this case, run store by store. -/
noncomputable def kernelRun0_B (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬cond0_0 i)
    (x0 : Vec F S128x2048 .f32) (x1 : Vec F S128x2048 .f32) (x2 : Vec F S1x2048 .f32) (x3 : Vec F S128x2048 .f32) (xo6 : Vec F S1x2048 .f32) :
    Σ' (L4 : List (View.Piece (Elt F) S128x2048 .f32)), Σ' (L5 : List (View.Piece (Elt F) S16x2048 .f32)), { L6 : List (View.Piece (Elt F) S1x2048 .f32) //
      ∀ (xi5 : Vec F S16x2048 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f L6)) -∗ K ⟨⟩))
          ⊢ wp frame (wpE (defs₀ (F := F)) Variants.none c none) E (cc0_rmsnorm_bwd_l0 i arg1 harg1 arg2 harg2 arg3 harg3 arg4 harg4 arg5 harg5 arg6 harg6 arg7 harg7) K } := by
  refine ⟨?_, [], ?_, fun xi5 E K => ?run⟩
  case run =>
    simp only [cc0_rmsnorm_bwd_l0_eq_skeleton]; unfold cc0_rmsnorm_bwd_l0_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexists _; iexact H6

end Cert.NormFirstIdeal.Hand

end
-- ==== Proof.NormFirstIdealFrame.lean ====
/- The run of the whole call: what every point leaves, the meta rows carried from the first point to the last, where they are written back. This is the program at the ideal floats. -/
module

public import proofs.«01_k».proof.Proof.NormFirstIdealRunB
public import Idealize.ShloMosaic.Lib.Claim

@[expose] public section

set_option maxRecDepth 16384

noncomputable section

namespace Cert.NormFirstIdeal.Hand

open Cert.NormFirstIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stores of this case fill the whole tile of output 4. -/
theorem cover0_A_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) (y : S128x2048.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S128x2048.size (by sl_kernel_rfl) y

/-- What this case leaves in the tile of output 4. -/
def out0_A_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) : Vec F S128x2048 .f32 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)

/-- The stores of this case fill the whole tile of output 5. -/
theorem cover0_A_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) (y : S16x2048.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (kernelRun0_A c i arg1 harg1 arg2 harg2 arg3 harg3 arg4 harg4 arg5 harg5 arg6 harg6 arg7 harg7 hc0 x0 x1 x2 x3).2.1 S16x2048.size (by sl_kernel_rfl) y

/-- What this case leaves in the tile of output 5. -/
def out0_A_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) : Vec F S16x2048 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)

/-- The stores of this case fill the whole tile of output 6. -/
theorem cover0_A_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) (y : S1x2048.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (kernelRun0_A c i arg1 harg1 arg2 harg2 arg3 harg3 arg4 harg4 arg5 harg5 arg6 harg6 arg7 harg7 hc0 x0 x1 x2 x3).2.2.1 S1x2048.size (by sl_kernel_rfl) y

/-- What this case leaves in the tile of output 6. -/
def out0_A_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : cond0_0 i)
    (x0 : Vec F S128x2048 .f32) (x1 : Vec F S128x2048 .f32) (x2 : Vec F S1x2048 .f32) (x3 : Vec F S128x2048 .f32) : Vec F S1x2048 .f32 :=
  VO0_6.read (Elt F) (VO0_6.writes (Elt F) VO0_6.junk (kernelRun0_A c i arg1 harg1 arg2 harg2 arg3 harg3 arg4 harg4 arg5 harg5 arg6 harg6 arg7 harg7 hc0 x0 x1 x2 x3).2.2.1)

/-- The stores of this case fill the whole tile of output 4. -/
theorem cover0_B_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬cond0_0 i)
    (x0 : Vec F S128x2048 .f32) (x1 : Vec F S128x2048 .f32) (x2 : Vec F S1x2048 .f32) (x3 : Vec F S128x2048 .f32) (xo6 : Vec F S1x2048 .f32) (y : S128x2048.Idx) :
    ∃ pc ∈ (kernelRun0_B c i arg1 harg1 arg2 harg2 arg3 harg3 arg4 harg4 arg5 harg5 arg6 harg6 arg7 harg7 hc0 x0 x1 x2 x3 xo6).1, y ∈ pc.1.set :=
  View.cover_of_tiledL (kernelRun0_B c i arg1 harg1 arg2 harg2 arg3 harg3 arg4 harg4 arg5 harg5 arg6 harg6 arg7 harg7 hc0 x0 x1 x2 x3 xo6).1 S128x2048.size (by sl_kernel_rfl) y

/-- What this case leaves in the tile of output 4. -/
def out0_B_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬cond0_0 i)
    (x0 : Vec F S128x2048 .f32) (x1 : Vec F S128x2048 .f32) (x2 : Vec F S1x2048 .f32) (x3 : Vec F S128x2048 .f32) (xo6 : Vec F S1x2048 .f32) : Vec F S128x2048 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xo6).1)

/-- The meta rows at a later point: what the point before left. -/
def out0_B_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬cond0_0 i)
    (x0 : Vec F S128x2048 .f32) (x1 : Vec F S128x2048 .f32) (x2 : Vec F S1x2048 .f32) (x3 : Vec F S128x2048 .f32) (xo6 : Vec F S1x2048 .f32) (xo5 : Vec F S16x2048 .f32) : Vec F S16x2048 .f32 := xo5

/-- The stores of this case fill the whole tile of output 6. -/
theorem cover0_B_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬cond0_0 i)
    (x0 : Vec F S128x2048 .f32) (x1 : Vec F S128x2048 .f32) (x2 : Vec F S1x2048 .f32) (x3 : Vec F S128x2048 .f32) (xo6 : Vec F S1x2048 .f32) (y : S1x2048.Idx) :
    ∃ pc ∈ (kernelRun0_B c i arg1 harg1 arg2 harg2 arg3 harg3 arg4 harg4 arg5 harg5 arg6 harg6 arg7 harg7 hc0 x0 x1 x2 x3 xo6).2.2.1, y ∈ pc.1.set :=
  View.cover_of_tiledL (kernelRun0_B c i arg1 harg1 arg2 harg2 arg3 harg3 arg4 harg4 arg5 harg5 arg6 harg6 arg7 harg7 hc0 x0 x1 x2 x3 xo6).2.2.1 S1x2048.size (by sl_kernel_rfl) y

/-- What this case leaves in the tile of output 6. -/
def out0_B_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬cond0_0 i)
    (x0 : Vec F S128x2048 .f32) (x1 : Vec F S128x2048 .f32) (x2 : Vec F S1x2048 .f32) (x3 : Vec F S128x2048 .f32) (xo6 : Vec F S1x2048 .f32) : Vec F S1x2048 .f32 :=
  VO0_6.read (Elt F) (VO0_6.writes (Elt F) VO0_6.junk (kernelRun0_B c i arg1 harg1 arg2 harg2 arg3 harg3 arg4 harg4 arg5 harg5 arg6 harg6 arg7 harg7 hc0 x0 x1 x2 x3 xo6).2.2.1)

/-- What the tiles of the three outputs hold after a point. -/
def outsAt0 (c : Dev nD) : (n : ℕ) → n < cfg0.N → Vec F S128x2048 .f32 × Vec F S16x2048 .f32 × Vec F S1x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 65 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (outsAt0 c n (Nat.lt_of_succ_lt hn)).2.1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

/-- The first point leaves what its case leaves. -/
theorem outsAt0_A (c : Dev nD) (t : Fin cfg0.N) (h0 : t.val % 65 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- A later point leaves what its case leaves, over what the point before left. -/
theorem outsAt0_B (c : Dev nD) (t : Fin cfg0.N) (h0 : ¬t.val % 65 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 (outsAt0 m c (t.val - 1) (Nat.lt_of_le_of_lt (Nat.sub_le _ _) t.isLt)).2.1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The contents of every tile, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q _ := fullShare
  owed _ := 0

/-- The arrays before the call are those of the launch. -/
theorem A_eq (c : Dev nD) (w : Fin cfg0.W) : (dats m 0 c).A w = V m c (Pipeline.arrRef spec0 w) := by
  dsimp only [dats]

/-- What a point leaves in tile 0. -/
theorem after0_0 (c : Dev nD) (t : Fin cfg0.N) : (dats m 0 c).after 0 t = iblk m c 0 t := by dsimp only [dats]
/-- What a point leaves in tile 1. -/
theorem after0_1 (c : Dev nD) (t : Fin cfg0.N) : (dats m 0 c).after 1 t = iblk m c 1 t := by dsimp only [dats]
/-- What a point leaves in tile 2. -/
theorem after0_2 (c : Dev nD) (t : Fin cfg0.N) : (dats m 0 c).after 2 t = iblk m c 2 t := by dsimp only [dats]
/-- What a point leaves in tile 3. -/
theorem after0_3 (c : Dev nD) (t : Fin cfg0.N) : (dats m 0 c).after 3 t = iblk m c 3 t := by dsimp only [dats]
/-- What a point leaves in tile 4. -/
theorem after0_4 (c : Dev nD) (t : Fin cfg0.N) : (dats m 0 c).after 4 t = (outsAt0 m c t.val t.isLt).1 := by dsimp only [dats]
/-- What a point leaves in tile 5. -/
theorem after0_5 (c : Dev nD) (t : Fin cfg0.N) : (dats m 0 c).after 5 t = (outsAt0 m c t.val t.isLt).2.1 := by dsimp only [dats]
/-- What a point leaves in tile 6. -/
theorem after0_6 (c : Dev nD) (t : Fin cfg0.N) : (dats m 0 c).after 6 t = (outsAt0 m c t.val t.isLt).2.2 := by dsimp only [dats]

/-- What a point finds in tile 0: the block of its argument. -/
theorem before0_0 (c : Dev nD) (t : Fin cfg0.N) (d) : (dats m 0 c).before 0 t d = iblk m c 0 t :=
  before0_0_of m (dats m 0 c) (A_eq m c 0) (after0_0 m c) t d
/-- What a point finds in tile 1: the block of its argument. -/
theorem before0_1 (c : Dev nD) (t : Fin cfg0.N) (d) : (dats m 0 c).before 1 t d = iblk m c 1 t :=
  before0_1_of m (dats m 0 c) (A_eq m c 1) (after0_1 m c) t d
/-- What a point finds in tile 2: the block of its argument. -/
theorem before0_2 (c : Dev nD) (t : Fin cfg0.N) (d) : (dats m 0 c).before 2 t d = iblk m c 2 t :=
  before0_2_of m (dats m 0 c) (A_eq m c 2) (after0_2 m c) t d
/-- What a point finds in tile 3: the block of its argument. -/
theorem before0_3 (c : Dev nD) (t : Fin cfg0.N) (d) : (dats m 0 c).before 3 t d = iblk m c 3 t :=
  before0_3_of m (dats m 0 c) (A_eq m c 3) (after0_3 m c) t d

/-- A point that stores no meta rows carries them. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 65 := lt_of_lt_of_eq t.isLt (show cfg0.N = 65 from N_0)
  rw [after0_5, after0_5]
  by_cases h0 : t.val % 65 = 0
  · rw [liveAt0_5_A t ((hcond0_0 t).mpr h0)] at hi
    exact absurd hi Bool.false_ne_true
  · rw [outsAt0_B m c t h0]
    dsimp only
    unfold out0_B_5
    rfl

/-- A later point finds the gain of the point before. -/
theorem before0_6_B (c : Dev nD) (t : Fin cfg0.N) (h0 : ¬t.val % 65 = 0) (d) :
    (dats m 0 c).before 6 t d = (outsAt0 m c (t.val - 1) (Nat.lt_of_le_of_lt (Nat.sub_le _ _) t.isLt)).2.2 := by
  have hN : t.val < 65 := lt_of_lt_of_eq t.isLt (show cfg0.N = 65 from N_0)
  rw [Dat.before_out_kept _ 6 rfl t (by omega) (Bool.eq_false_iff.mpr fun h => by have := (flush0_6 _).mp h; dsimp only at this; omega)
    (fun _ => rfl) (fun _ _ => rfl)]
  dsimp only [dats]

/-- A later point finds the meta rows of the point before. -/
theorem before0_5_B (c : Dev nD) (t : Fin cfg0.N) (h0 : ¬t.val % 65 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]
/-- A later point leaves the meta rows of the point before. -/
theorem after0_5_B (c : Dev nD) (t : Fin cfg0.N) (h0 : ¬t.val % 65 = 0) :
    (dats m 0 c).after 5 t = (outsAt0 m c (t.val - 1) (Nat.lt_of_le_of_lt (Nat.sub_le _ _) t.isLt)).2.1 := by
  rw [after0_5, outsAt0_B m c t h0]
  dsimp only
  unfold out0_B_5
  rfl
/-- So the untouched tile of the meta rows is left as it has to be, at the last point too, where it is written back. -/
theorem leaves0_5_B (c : Dev nD) (t : Fin cfg0.N) (h0 : ¬t.val % 65 = 0) (d) :
    (owns (c : Thread nD τ) (ms0_5 t) fullShare ((dats m 0 c).before 5 t d) : sProp (MT nD τ sig Unit (Elt F) ℕ (UR sig nD τ) ℕ)) ⊢ (dats m 0 c).leavesExact 5 t := by
  unfold Dat.leavesExact
  rw [idleAt0_5_B t (fun h => h0 ((hcond0_0 t).mp h))]
  by_cases hf : (cfg0.win 5).flush t = true
  · rw [hf, after0_5_B m c t h0, before0_5_B m c t h0 d]
  · rw [Bool.not_eq_true] at hf
    rw [hf]
    iintro H
    iexists _
    iexact H

/-- What the body is given at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at every point: the first by one case, all later ones by the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 65 := lt_of_lt_of_eq t.isLt (show cfg0.N = 65 from N_0)
  by_cases h0 : t.val % 65 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6 t], after0_6]
    rw [outsAt0_A m c t h0]
    unfold out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 6 t = owns (c : Thread nD τ) (ms0_6 t) fullShare ((dats m 0 c).after 6 t) from by
      unfold Dat.leavesExact; rw [liveAt0_6 t], after0_6]
    rw [outsAt0_B m c t h0]
    simp only [before0_6_B m c t h0]
    unfold out0_B_4 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) _).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _)
    isplitl [H5]; · iapply (leaves0_5_B m c t h0 d5); iexact H5
    unfold owns; iexists _; isplitr
    swap; · iexact H6
    ipureintro; exact View.read_writes_of_cover _ _ _ _ _ (cover0_B_6 c _ _ _ _ _ _ _ _ _ _ _ _ _ _ _ _ _ _ _ _ _)

/-- The body a point runs. -/
theorem defs₀_row (t : Fin cfg0.N) :
    defs₀ (F := F) .tc cfg0.body (cfg0.bodyArgs t (cfg0.slots t)) = bodyAt0 t := by
  unfold defs₀; rw [Defs.onTc_tc]

/-- The same for the call as a whole. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the call, leaving every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the call: every array after it is named. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.NormFirstIdeal.Hand

end
-- ==== Proof.NormFirst.lean ====
/- The gradient of the norm before the projections, first layer: as for the second layer, the rows going to two arrays, the data's and the meta rows. -/
module
public import proofs.«01_k».proof.Proof.NormRef
public import proofs.«01_k».proof.Proof.Gen.NormFirstRefIdeal.Run
public import proofs.«01_k».proof.Proof.NormFirstIdealFrame
public import Idealize.ShloMosaic.Lib.Pipeline.ValueKit
public import Idealize.ShloMosaic.Lib.Claim
@[expose] public section
set_option maxRecDepth 16384
noncomputable section
namespace Cert.Hand.NormFirst
open Cert.NormFirstIdeal Cert.NormFirstIdeal.Gen Cert.NormFirstIdeal.Hand Idealize.ShloMosaic Idealize.ShloMosaic.TcCoe Idealize.SL.Sem
open Idealize.ShloMosaic.Pipeline (Dat)
open Cert.Hand.Norm (short long spread short_eq_long rows rows_long gain gain_sum)
variable (m : (ℓ : Loc nD τ sig) → Buf (Elt Ideal) ℓ)

/-- The kernel's row, by the short form. -/
theorem pay_short (x dy : FVec Ideal S128x2048 .f32) (g : FVec Ideal S1x2048 .f32) (o : FVec Ideal S128x2048 .f32) (i : Fin 128) (l : Fin 2048) :
    k0_pay3 (F := Ideal) x dy g o (ix2 i l) = short (fun k => x (ix2 i k)) (fun k => dy (ix2 i k) * g (ix2 0 k)) (o (ix2 i l)) l := by
  pointwise [k0_pay3, k0_pay2, k0_pay1]
  rfl

theorem pay_gain (x dy : FVec Ideal S128x2048 .f32) (g : FVec Ideal S1x2048 .f32) (j : S1x2048.Idx) :
    k0_pay6 (F := Ideal) x dy g j
      = g j + ∑ i : Fin 128, dy (ix2 i (j 1)) * (x (ix2 i (j 1)) * Ideal.rsqrt (spread fun k => x (ix2 i k))) := by
  pointwise [k0_pay6, k0_pay2, k0_pay1]
  rfl

/-- The meta rows are the last sixteen of the tile. -/
theorem pay_meta (x dy : FVec Ideal S128x2048 .f32) (g : FVec Ideal S1x2048 .f32) (o : FVec Ideal S128x2048 .f32) (i : Fin 16) (l : Fin 2048) :
    k0_pay5 (F := Ideal) x dy g o (ix2 i l) = k0_pay3 (F := Ideal) x dy g o (ix2 ⟨112 + i.val, by omega⟩ l) := by
  pointwise [k0_pay5]

/-- Which block of each array a grid point works on: row block `t` of the arguments, the block before it of the data's rows. -/
theorem blocks : ∀ t : Fin cfg0.N, win0_0.index t = ![t.val, 0] ∧ win0_1.index t = ![t.val, 0] ∧ win0_2.index t = ![0, 0]
    ∧ win0_3.index t = ![t.val, 0] ∧ win0_4.index t = ![t.val - 1, 0] ∧ win0_5.index t = ![0, 0] ∧ win0_6.index t = ![0, 0] :=
  (by decide +kernel : ∀ t : Fin grid0.N, _)

/-- The first point writes no data rows back. -/
theorem later : ∀ t : Fin cfg0.N, (cfg0.win 4).flush t = true → 0 < t.val := (by decide +kernel : ∀ t : Fin grid0.N, win0_4.flush t = true → 0 < t.val)

/-- The gradient of the gain starts at zero. -/
theorem start (j : S1x2048.Idx) : k0_pay4 (F := Ideal) j = 0 := by pointwise [k0_pay4]

/-- The four argument arrays. -/
abbrev aD (c : Dev nD) : FVec Ideal S8320x2048 .f32 := m ((c : Thread nD τ).loc main_arg0)
abbrev aX (c : Dev nD) : FVec Ideal S8320x2048 .f32 := m ((c : Thread nD τ).loc main_arg1)
abbrev aG (c : Dev nD) : FVec Ideal S1x2048 .f32 := m ((c : Thread nD τ).loc main_arg2)
abbrev aO (c : Dev nD) : FVec Ideal S8320x2048 .f32 := m ((c : Thread nD τ).loc main_arg3)

/-- One entry of the gradient of the rows. -/
theorem entry (c : Dev nD) (t : Fin cfg0.N) (i : Fin 128) (l : Fin 2048) (I : Fin 8320) (hI : I.val = t.val * 128 + i.val) :
    k0_pay3 (F := Ideal) (iblk m c 1 t) (iblk m c 0 t) (iblk m c 2 t) (iblk m c 3 t) (ix2 i l)
      = rows (aD m c) (aX m c) (aG m c) (aO m c) (ix2 I l) := by
  rw [pay_short, rows_long, short_eq_long]
  have e1 : (fun k => (iblk m c 1 t : FVec Ideal S128x2048 .f32) (ix2 i k)) = fun k => aX m c (ix2 I k) := by
    funext k; blk_point [iblk, V, blocks t]
  have e0 : ∀ k, (iblk m c 0 t : FVec Ideal S128x2048 .f32) (ix2 i k) = aD m c (ix2 I k) := fun k => by
    blk_point [iblk, V, blocks t]
  have e2 : ∀ k, (iblk m c 2 t : FVec Ideal S1x2048 .f32) (ix2 0 k) = aG m c (ix2 0 k) := fun k => by
    blk_point [iblk, V, blocks t]
  have e3 : (iblk m c 3 t : FVec Ideal S128x2048 .f32) (ix2 i l) = aO m c (ix2 I l) := by
    blk_point [iblk, V, blocks t]
  simp only [e0, e1, e2, e3]

/-- The data's rows and the meta rows, as the reference slices them. -/
abbrev dataRows (c : Dev nD) : FVec Ideal S8192x2048 .f32 := extractStridedSlice Cert.NormFirstRefIdeal.S8192x2048 ![128, 0]
  (rows (aD m c) (aX m c) (aG m c) (aO m c)) Cert.NormFirstRefIdeal.Gen.slices_S8320x2048_S8192x2048_128_0
abbrev metaRows (c : Dev nD) : FVec Ideal S16x2048 .f32 := extractStridedSlice Cert.NormFirstRefIdeal.S16x2048 ![112, 0]
  (rows (aD m c) (aX m c) (aG m c) (aO m c)) Cert.NormFirstRefIdeal.Gen.slices_S8320x2048_S16x2048_112_0

theorem data_at (R : FVec Ideal S8320x2048 .f32) (i : Fin 8192) (l : Fin 2048) :
    extractStridedSlice Cert.NormFirstRefIdeal.S8192x2048 ![128, 0] R Cert.NormFirstRefIdeal.Gen.slices_S8320x2048_S8192x2048_128_0 (ix2 i l)
      = R (ix2 ⟨128 + i.val, by omega⟩ l) := by pointwise []
theorem meta_at (R : FVec Ideal S8320x2048 .f32) (i : Fin 16) (l : Fin 2048) :
    extractStridedSlice Cert.NormFirstRefIdeal.S16x2048 ![112, 0] R Cert.NormFirstRefIdeal.Gen.slices_S8320x2048_S16x2048_112_0 (ix2 i l)
      = R (ix2 ⟨112 + i.val, by omega⟩ l) := by pointwise []

/-- One tile of the data's rows, at the index the tile has in the array. -/
theorem point (c : Dev nD) (t : Fin cfg0.N) (ht : 0 < t.val) (y : S128x2048.Idx) (j : S8192x2048.Idx)
    (h0 : (j 0).val = (t.val - 1) * 128 + (y 0).val) (h1 : (j 1).val = (y 1).val) :
    k0_pay3 (F := Ideal) (iblk m c 1 t) (iblk m c 0 t) (iblk m c 2 t) (iblk m c 3 t) y = dataRows m c j := by
  have hj : j = ix2 (j 0) (y 1) := by
    conv_lhs => rw [eq_ix2 j]
    congr 1
    exact Fin.ext h1
  rw [hj, eq_ix2 y]
  refine (entry m c t (y 0) (y 1) ⟨128 + (j 0).val, ?_⟩ ?_).trans (data_at _ (j 0) (y 1)).symm
  · have := (j 0).isLt
    simp at this
    omega
  · simp only [h0]
    omega

/-- The meta rows, from the first point. -/
theorem point_meta (c : Dev nD) (y j : S16x2048.Idx) (h0 : (j 0).val = (y 0).val) (h1 : (j 1).val = (y 1).val) :
    k0_pay5 (F := Ideal) (iblk m c 1 ⟨0, by decide⟩) (iblk m c 0 ⟨0, by decide⟩) (iblk m c 2 ⟨0, by decide⟩) (iblk m c 3 ⟨0, by decide⟩) y
      = metaRows m c j := by
  have hj : j = ix2 (y 0) (y 1) := by
    conv_lhs => rw [eq_ix2 j]
    congr 1
    · exact Fin.ext h0
    · exact Fin.ext h1
  rw [hj, eq_ix2 y]
  refine (pay_meta _ _ _ _ (y 0) (y 1)).trans ((entry m c ⟨0, by decide⟩ _ (y 1) ⟨112 + (y 0).val, ?_⟩ ?_).trans (meta_at _ (y 0) (y 1)).symm)
  · have := (y 0).isLt
    simp at this
    omega
  · simp

theorem left_rows (c : Dev nD) (t : Fin cfg0.N) (y : S128x2048.Idx) :
    (outsAt0 m c t.val t.isLt).1 y = k0_pay3 (F := Ideal) (iblk m c 1 t) (iblk m c 0 t) (iblk m c 2 t) (iblk m c 3 t) y := by
  by_cases h : t.val % 65 = 0
  · rw [outsAt0_A m c t h]; frame_out
  · rw [outsAt0_B m c t h]; frame_out

/-- The first point stores the meta rows, and no later point touches them. -/
theorem left_meta (c : Dev nD) : ∀ (n : ℕ) (h : n < cfg0.N), (outsAt0 m c n h).2.1
    = k0_pay5 (F := Ideal) (iblk m c 1 ⟨0, by decide⟩) (iblk m c 0 ⟨0, by decide⟩) (iblk m c 2 ⟨0, by decide⟩) (iblk m c 3 ⟨0, by decide⟩) := by
  intro n
  induction n with
  | zero =>
    intro h
    funext y
    rw [outsAt0_A m c ⟨0, h⟩ (by simp)]; frame_out
  | succ n ih =>
    intro h
    have hN : n + 1 < 65 := h
    rw [outsAt0_B m c ⟨n + 1, h⟩ (by simp; omega)]
    funext y
    frame_out
    exact congrFun (ih _) y

theorem array_data (c : Dev nD) : (dats m 0 c).arrAt 4 (cfgs 0).N = dataRows m c := by
  refine (dats m 0 c).arrAt_eq_of_covers 4 _ (by decide +kernel) fun t hf y => ?_
  blk_simp
  rw [after0_4, left_rows m c t y]
  exact point m c t (later t hf) y _ (by blk_simp [blocks t] <;> try omega) (by blk_simp [blocks t] <;> try omega)

theorem array_meta (c : Dev nD) : (dats m 0 c).arrAt 5 (cfgs 0).N = metaRows m c := by
  refine (dats m 0 c).arrAt_eq_of_covers 5 _ (by decide +kernel) fun t _ y => ?_
  blk_simp
  rw [after0_5, left_meta m c t.val t.isLt]
  exact point_meta m c y _ (by blk_simp [blocks t] <;> try omega) (by blk_simp [blocks t] <;> try omega)

theorem array_gain (c : Dev nD) : (dats m 0 c).arrAt 6 (cfgs 0).N = gain (aD m c) (aX m c) := by
  refine (dats m 0 c).arrAt_eq_of_covers 6 _ (by decide +kernel) fun t hf y => ?_
  blk_simp
  rw [after0_6, Pipeline.eq_sum_fin_of_reset_step_apply_of_flush (fun n h => (outsAt0 m c n h).2.2) 65 (fun _ => 0) _
    (fun t h j => by rw [outsAt0_A m c t h]; frame_out; rw [pay_gain, start])
    (fun t h j => by rw [outsAt0_B m c t h]; frame_out; rw [pay_gain])
    t ((flush0_6 t).mp hf) _, zero_add, gain_sum]
  refine Fin.sum_mul_add_congr fun s k hl => ?_
  have e : ∀ l : Fin 2048, (iblk m c 1 ⟨65 * (t.val / 65) + s.val, Pipeline.run_point_lt_of_flush t ((flush0_6 t).mp hf) s⟩ : FVec Ideal S128x2048 .f32) (ix2 k l)
      = aX m c (ix2 ⟨s.val * 128 + k.val, hl⟩ l) := fun l => by
    blk_point [iblk, V, blocks t, blocks ⟨_, Pipeline.run_point_lt_of_flush t ((flush0_6 t).mp hf) s⟩]
  simp only [e]
  congr 1
  · blk_point [iblk, V, blocks t, blocks ⟨_, Pipeline.run_point_lt_of_flush t ((flush0_6 t).mp hf) s⟩]
  · congr 1
    blk_point [iblk, V, blocks t, blocks ⟨_, Pipeline.run_point_lt_of_flush t ((flush0_6 t).mp hf) s⟩]

theorem equal : Cert.algebraic_NormFirstIdeal_NormFirstRefIdeal := by
  pair_intro
  · run_from Cert.NormFirstIdeal.Hand.run_main m g
  · refine θ_run_mono (Cert.NormFirstRefIdeal.Value.run m' g') fun r hr c => ?_
    obtain ⟨e0, e1, e2, h0, h1, h2, h3⟩ := hr c
    refine ⟨?_, ?_, ?_, h0, h1, h2, h3⟩
    · rw [(hagree c).1, (hagree c).2.1, (hagree c).2.2.1, (hagree c).2.2.2] at e0
      exact e0.trans (array_data m c).symm
    · rw [(hagree c).1, (hagree c).2.1, (hagree c).2.2.1, (hagree c).2.2.2] at e1
      exact e1.trans (array_meta m c).symm
    · rw [(hagree c).1, (hagree c).2.1] at e2
      exact e2.trans (array_gain m c).symm
end Cert.Hand.NormFirst
end
-- ==== Proof.LossRef.lean ====
/- What the reference of the loss head computes, read entry by entry: no gradient in the rows before the target's, the scaled error behind them. -/
module
public import proofs.«01_k».proof.Proof.Reals
public import proofs.«01_k».proof.Proof.Gen.LossRefIdeal.Run
public import Idealize.ShloMosaic.Lib.Pipeline.ValueKit
public import Idealize.ShloMosaic.Lib.Claim
@[expose] public section
set_option maxRecDepth 16384
noncomputable section
namespace Cert.Hand.Loss
open Cert.LossRefIdeal Cert.LossRefIdeal.Gen Idealize.ShloMosaic Idealize.ShloMosaic.TcCoe
variable (H : FVec Ideal S8320x2048 .f32) (T : FVec Ideal S8192x2048 .f32)

/-- The error: the rows behind the first 128, less the target. -/
abbrev error : FVec Ideal S8192x2048 .f32 := subf (extractStridedSlice S8192x2048 ![128, 0] H slices_S8320x2048_S8192x2048_128_0) T

/-- The gradient of the loss at the error. -/
abbrev inner : FVec Ideal S8192x2048 .f32 :=
  mulf (broadcastInDim S8192x2048 ![0] bcast_S8192_S8192x2048_0 (Host.divf (broadcastInDim S8192 ![] bcast_S_S8192
      (mulf (constant S_ .f32 0x3F000000#32) (constant S_ .f32 0x3F800000#32))) (broadcastInDim S8192 ![] bcast_S_S8192 (constant S_ .f32 0x45000000#32))))
    (mulf (broadcastInDim S8192x2048 ![] bcast_S_S8192x2048 (constant S_ .f32 0x40000000#32)) (error H T))

/-- The gradient of the rows. -/
abbrev grad : FVec Ideal S8320x2048 .f32 :=
  pad S8320x2048 ![128, 0] ![0, 0] ![0, 0] (inner H T) (constant S_ .f32 0x00000000#32) pads_S8192x2048_S8320x2048_12800_000 h_S_

/-- The squares of the errors, added over the rows. -/
abbrev squares : FVec Ideal S1x2048 .f32 :=
  broadcastInDim S1x2048 ![1] bcast_S2048_S1x2048_1 (Host.reduceAdd (mulf (error H T) (error H T)) (constant S_ .f32 0x00000000#32) reducesTo_S8192x2048_S2048_d0 h_S_)

/-- Two, and the inverse of 2048. -/
theorem bits_two : Ideal.ofBits .f32 0x40000000#32 = ((2 : ℝ) : EReal) := by
  simp [Ideal.ofBits, Ideal.ieee, -EReal.coe_mul]; norm_num
theorem bits_inverse : Ideal.ofBits .f32 0x3A000000#32 = ((1 / 2048 : ℝ) : EReal) := by
  simp [Ideal.ofBits, Ideal.ieee, -EReal.coe_mul]; norm_num

/-- A half over 2048, times twice a number, is the number times the inverse of 2048. -/
theorem scale (x : EReal) : Ideal.div (Ideal.ofBits .f32 0x3F000000#32) (Ideal.ofBits .f32 0x45000000#32)
    * (Ideal.ofBits .f32 0x40000000#32 * x) = x * Ideal.ofBits .f32 0x3A000000#32 := by
  rw [bits_half, bits_2048, bits_two, bits_inverse, Ideal.div_coe (by norm_num), ← mul_assoc, ← EReal.coe_mul, ← EReal.coe_mul, mul_comm]
  congr 2
  norm_num

theorem inner_at (i : Fin 8192) (l : Fin 2048) (I : Fin 8320) (hI : I.val = 128 + i.val) :
    inner H T (ix2 i l) = (H (ix2 I l) - T (ix2 i l)) * Ideal.ofBits .f32 0x3A000000#32 := by
  rw [show I = ⟨128 + i.val, by omega⟩ from Fin.ext hI]
  pointwise [inner, error]
  exact scale _

/-- Before the target's rows there is no gradient. -/
theorem grad_front (i : Fin 8320) (l : Fin 2048) (h : i.val < 128) : grad H T (ix2 i l) = 0 := by
  unfold grad
  rw [pad_apply, dif_neg]
  · pointwise []
  · intro hh
    have := (hh 0).1
    simp at this
    omega

/-- From there on it is the scaled error. -/
theorem grad_back (i : Fin 8192) (l : Fin 2048) (I : Fin 8320) (hI : I.val = 128 + i.val) :
    grad H T (ix2 I l) = (H (ix2 I l) - T (ix2 i l)) * Ideal.ofBits .f32 0x3A000000#32 := by
  rw [← inner_at H T i l I hI]
  unfold grad
  rw [pad_apply, dif_pos]
  · refine congrArg (inner H T) ?_
    rw [Shape.Idx.norm2]
    congr 1 <;> exact Fin.ext (by simp [hI])
  · intro k
    fin_cases k <;> simp [hI, Nat.mod_one]

theorem squares_sum (j : S1x2048.Idx) : squares H T j
    = ∑ i : Fin 8192, (H (ix2 ⟨128 + i.val, by omega⟩ (j 1)) - T (ix2 i (j 1))) * (H (ix2 ⟨128 + i.val, by omega⟩ (j 1)) - T (ix2 i (j 1))) := by
  pointwise [squares, error]
end Cert.Hand.Loss
end
-- ==== Proof.Loss.lean ====
/- The loss head: the gradient of the loss block by block, its rounded copy, and the squares of the errors added over the blocks. -/
module
public import proofs.«01_k».proof.Proof.LossRef
public import proofs.«01_k».proof.Proof.Gen.LossIdeal.Value
public import Idealize.ShloMosaic.Lib.Pipeline.ValueKit
public import Idealize.ShloMosaic.Lib.Claim
@[expose] public section
set_option maxRecDepth 16384
noncomputable section
namespace Cert.Hand.Loss
open Cert.LossIdeal Cert.LossIdeal.Gen Idealize.ShloMosaic Idealize.ShloMosaic.TcCoe Idealize.SL.Sem
open Idealize.ShloMosaic.Pipeline (Dat)
variable (m : (ℓ : Loc nD τ sig) → Buf (Elt Ideal) ℓ)

/-- What one block adds to the squares. -/
def part (x y : FVec Ideal S128x2048 .f32) (j : S1x2048.Idx) : EReal :=
  ∑ i : Fin 128, (x (ix2 i (j 1)) - y (ix2 i (j 1))) * (x (ix2 i (j 1)) - y (ix2 i (j 1)))

theorem pay_grad (x y : FVec Ideal S128x2048 .f32) (j : S128x2048.Idx) :
    k0_pay5 (F := Ideal) x y j = (x j - y j) * Ideal.ofBits .f32 0x3A000000#32 := by
  pointwise [k0_pay5, k0_pay4]
theorem pay_rounded (x y : FVec Ideal S128x2048 .f32) (j : S128x2048.Idx) :
    k0_pay6 (F := Ideal) x y j = (x j - y j) * Ideal.ofBits .f32 0x3A000000#32 := by
  pointwise [k0_pay6, k0_pay5, k0_pay4]
theorem pay_squares (x y : FVec Ideal S128x2048 .f32) (s : FVec Ideal S1x2048 .f32) (j : S1x2048.Idx) :
    k0_pay7 (F := Ideal) x y s j = s j + part x y j := by
  unfold part
  pointwise [k0_pay7, k0_pay4]
theorem zero_grad (j : S128x2048.Idx) : k0_pay1 (F := Ideal) j = 0 := by pointwise [k0_pay1]
theorem zero_rounded (j : S128x2048.Idx) : k0_pay2 (F := Ideal) j = 0 := by pointwise [k0_pay2]
theorem zero_squares (j : S1x2048.Idx) : k0_pay3 (F := Ideal) j = 0 := by pointwise [k0_pay3]

/-- Which block of each array a grid point works on: row block `t`, of the target the block before. -/
theorem blocks : ∀ t : Fin cfg0.N, win0_0.index t = ![t.val, 0] ∧ win0_1.index t = ![t.val - 1, 0] ∧ win0_2.index t = ![t.val, 0]
    ∧ win0_3.index t = ![t.val, 0] ∧ win0_4.index t = ![0, 0] :=
  (by decide +kernel : ∀ t : Fin grid0.N, _)
theorem points : ∀ t : Fin cfg0.N, t.val < 65 := (by decide +kernel : ∀ t : Fin grid0.N, t.val < 65)

/-- The two argument arrays. -/
abbrev aH (c : Dev nD) : FVec Ideal S8320x2048 .f32 := m ((c : Thread nD τ).loc main_arg0)
abbrev aT (c : Dev nD) : FVec Ideal S8192x2048 .f32 := m ((c : Thread nD τ).loc main_arg1)

/-- The first point leaves zeros. -/
theorem left_first (c : Dev nD) (t : Fin cfg0.N) (h : t.val % 65 = 0) (y : S128x2048.Idx) :
    (outsAt0 m c t.val t.isLt).1 y = (0 : EReal) ∧ (outsAt0 m c t.val t.isLt).2.1 y = (0 : EReal) := by
  have := points t
  rw [outsAt0_A m c t h (by omega)]; frame_out
  exact ⟨zero_grad y, zero_rounded y⟩

/-- The others leave the scaled error. -/
theorem left_rest (c : Dev nD) (t : Fin cfg0.N) (h : ¬t.val % 65 = 0) (y : S128x2048.Idx) :
    (outsAt0 m c t.val t.isLt).1 y = k0_pay5 (F := Ideal) (iblk m c 0 t) (iblk m c 1 t) y
    ∧ (outsAt0 m c t.val t.isLt).2.1 y = k0_pay5 (F := Ideal) (iblk m c 0 t) (iblk m c 1 t) y := by
  have := points t
  rw [outsAt0_B m c t h (by omega)]; frame_out
  exact ⟨trivial, (pay_rounded _ _ y).trans (pay_grad _ _ y).symm⟩

/-- One entry of a block's two operands, behind the first point. -/
theorem reads (c : Dev nD) (t : Fin cfg0.N) (h : 1 ≤ t.val) (i : Fin 128) (l : Fin 2048) (I : Fin 8320) (hI : I.val = t.val * 128 + i.val)
    (J : Fin 8192) (hJ : J.val = (t.val - 1) * 128 + i.val) :
    (iblk m c 0 t : FVec Ideal S128x2048 .f32) (ix2 i l) = aH m c (ix2 I l)
    ∧ (iblk m c 1 t : FVec Ideal S128x2048 .f32) (ix2 i l) = aT m c (ix2 J l) := by
  constructor
  · blk_point [iblk, V, blocks t]
  · blk_point [iblk, V, blocks t]

/-- One entry of a block, in the array. -/
theorem entry (c : Dev nD) (t : Fin cfg0.N) (i : Fin 128) (l : Fin 2048) (I : Fin 8320) (hI : I.val = t.val * 128 + i.val) :
    (outsAt0 m c t.val t.isLt).1 (ix2 i l) = grad (aH m c) (aT m c) (ix2 I l)
    ∧ (outsAt0 m c t.val t.isLt).2.1 (ix2 i l) = grad (aH m c) (aT m c) (ix2 I l) := by
  have ht := points t
  by_cases h : t.val % 65 = 0
  · rw [grad_front _ _ I l (by omega)]
    exact left_first m c t h (ix2 i l)
  · obtain ⟨e0, e1⟩ := reads m c t (by omega) i l I hI ⟨(t.val - 1) * 128 + i.val, by omega⟩ rfl
    have e : k0_pay5 (F := Ideal) (iblk m c 0 t) (iblk m c 1 t) (ix2 i l) = grad (aH m c) (aT m c) (ix2 I l) := by
      rw [pay_grad, e0, e1, grad_back _ _ ⟨(t.val - 1) * 128 + i.val, by omega⟩ l I (by simp only [hI]; omega)]
    exact ⟨((left_rest m c t h (ix2 i l)).1).trans e, ((left_rest m c t h (ix2 i l)).2).trans e⟩

theorem point (c : Dev nD) (t : Fin cfg0.N) (y : S128x2048.Idx) (j : S8320x2048.Idx) (h0 : (j 0).val = t.val * 128 + (y 0).val)
    (h1 : (j 1).val = (y 1).val) :
    (outsAt0 m c t.val t.isLt).1 y = grad (aH m c) (aT m c) j ∧ (outsAt0 m c t.val t.isLt).2.1 y = grad (aH m c) (aT m c) j := by
  have hj : j = ix2 (j 0) (y 1) := by
    conv_lhs => rw [eq_ix2 j]
    congr 1
    exact Fin.ext h1
  rw [hj, eq_ix2 y]
  exact entry m c t (y 0) (y 1) (j 0) h0

theorem array_grad (c : Dev nD) : (dats m 0 c).arrAt 2 (cfgs 0).N = grad (aH m c) (aT m c) := by
  refine (dats m 0 c).arrAt_eq_of_covers 2 _ (by decide +kernel) fun t _ y => ?_
  blk_simp
  rw [after0_2]
  exact (point m c t y _ (by blk_simp [blocks t] <;> try omega) (by blk_simp [blocks t] <;> try omega)).1

theorem array_rounded (c : Dev nD) : (dats m 0 c).arrAt 3 (cfgs 0).N
    = truncf .bf16 (grad (aH m c) (aT m c)) Cert.LossRefIdeal.Gen.bitsLt_bf16_f32 := by
  refine (dats m 0 c).arrAt_eq_of_covers 3 _ (by decide +kernel) fun t _ y => ?_
  blk_simp
  rw [after0_3]
  exact (point m c t y _ (by blk_simp [blocks t] <;> try omega) (by blk_simp [blocks t] <;> try omega)).2

/-- What a point adds to the squares: nothing at the first. -/
def added (c : Dev nD) (t : Fin cfg0.N) (j : S1x2048.Idx) : EReal :=
  if t.val % 65 = 0 then 0 else part (iblk m c 0 t) (iblk m c 1 t) j

/-- The points together add the squares of all rows. -/
theorem total (c : Dev nD) (t : Fin cfg0.N) (hl : t.val % 65 = 64) (hb : ∀ s : Fin 65, 65 * (t.val / 65) + s.val < cfg0.N) (y : S1x2048.Idx)
    (q : Fin 2048) (hq : q = y 1) :
    (∑ s : Fin 65, added m c ⟨65 * (t.val / 65) + s.val, hb s⟩ y : EReal)
      = ∑ i : Fin 8192, (aH m c (ix2 ⟨128 + i.val, by omega⟩ q) - aT m c (ix2 i q)) * (aH m c (ix2 ⟨128 + i.val, by omega⟩ q) - aT m c (ix2 i q)) := by
  have ht := points t
  have hz : t.val / 65 = 0 := by omega
  have h0 : added m c ⟨65 * (t.val / 65) + (0 : Fin 65).val, hb 0⟩ y = 0 := if_pos (by simp [hz])
  rw [Fin.sum_univ_succ, h0, zero_add]
  refine Eq.trans (Finset.sum_congr rfl fun s _ => ?_) (Fin.sum_mul_add_fin 64 128 (fun i : Fin 8192 =>
    ((aH m c (ix2 ⟨128 + i.val, by omega⟩ q) - aT m c (ix2 i q)) * (aH m c (ix2 ⟨128 + i.val, by omega⟩ q) - aT m c (ix2 i q)) : EReal)) (by decide))
  have hs : (s.succ : Fin 65).val = s.val + 1 := rfl
  rw [added, if_neg (by simp only [hs]; omega), part]
  refine Finset.sum_congr rfl fun k _ => ?_
  obtain ⟨e0, e1⟩ := reads m c ⟨65 * (t.val / 65) + (s.succ : Fin 65).val, hb s.succ⟩ (by simp only [hs]; omega) k (y 1)
    ⟨128 + (s.val * 128 + k.val), by omega⟩ (by simp only [hs]; omega) ⟨s.val * 128 + k.val, by omega⟩ (by simp only [hs]; omega)
  rw [e0, e1, hq]

theorem array_squares (c : Dev nD) : (dats m 0 c).arrAt 4 (cfgs 0).N = squares (aH m c) (aT m c) := by
  refine (dats m 0 c).arrAt_eq_of_covers 4 _ (by decide +kernel) fun t hf y => ?_
  blk_simp
  have hl := (flush0_4 t).mp hf
  have ht := points t
  rw [after0_4, Pipeline.eq_sum_fin_of_reset_step_apply_of_flush (fun n h => (outsAt0 m c n h).2.2) 65 (fun _ => (0 : EReal)) (added m c)
    (fun t h j => by
      have := points t
      rw [outsAt0_A m c t h (by omega), added, if_pos h]; frame_out; rw [zero_squares, add_zero])
    (fun t h j => by
      have := points t
      rw [outsAt0_B m c t h (by omega), added, if_neg h]; frame_out; rw [pay_squares])
    t hl _, zero_add, squares_sum]
  exact total m c t hl _ y _ (Fin.ext (by blk_simp [blocks t] <;> try omega))

theorem equal : Cert.algebraic_LossIdeal_LossRefIdeal := by
  pair_intro
  · run_from Cert.LossIdeal.Gen.run_main m g
  · refine θ_run_mono (Cert.LossRefIdeal.Value.run m' g') fun r hr c => ?_
    obtain ⟨e0, e1, e2, h⟩ := hr c
    rw [(hagree c).1, (hagree c).2] at e0 e1 e2
    exact ⟨e0.trans (array_grad m c).symm, e1.trans (array_rounded m c).symm, e2.trans (array_squares m c).symm, h⟩
end Cert.Hand.Loss
end
-- ==== Proof.InProj.lean ====
/- The input projection: the kernel's tiles of `xn · w_in` are the tiles of the plain product. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Hand.InProj

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The product the reference computes. -/
abbrev product (X : FVec Ideal S8320x2048 .bf16) (W : FVec Ideal S2048x5376 .bf16) : FVec Ideal S8320x5376 .f32 :=
  Host.dotGeneral Cert.InProjRefIdeal.dot_S8320x2048_S2048x5376_S8320x5376_1_0_0_1_n_n none
    (extf .f32 X Cert.InProjRefIdeal.Gen.bitsLt_bf16_f32) (extf .f32 W Cert.InProjRefIdeal.Gen.bitsLt_bf16_f32)

/-- Which block of each array a grid point works on. -/
theorem blocks : ∀ t : Fin cfg0.N, win0_0.index t = ![t.val % 5, 0] ∧ win0_1.index t = ![0, t.val / 5]
    ∧ win0_2.index t = ![t.val % 5, t.val / 5] :=
  (by decide +kernel : ∀ t : Fin grid0.N, _)

/-- One tile of the kernel's product, entry by entry. -/
theorem tile (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, blocks t]

/-- The array the kernel leaves is the product. -/
theorem array (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

theorem equal : Cert.algebraic_InProjIdeal_InProjRefIdeal := by
  pair_intro
  · run_from Cert.InProjIdeal.Gen.run_main m g
  · run_from Cert.InProjRefIdeal.Value.run m' g'
    exact (array m c).symm

end Cert.Hand.InProj

end
-- ==== Proof.OutProj.lean ====
/- The output projection with its residual: the kernel's tiles of `h + mixed · w_out` are the tiles of the plain expression. -/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Hand.OutProj

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- What the reference computes: the residual plus the product. -/
abbrev expected (X : FVec Ideal S8320x2048 .bf16) (W : FVec Ideal S2048x2048 .bf16) (H : FVec Ideal S8320x2048 .f32) :
    FVec Ideal S8320x2048 .f32 :=
  addf H (Host.dotGeneral Cert.OutProjRefIdeal.dot_S8320x2048_S2048x2048_S8320x2048_1_0_0_1_n_n none
    (extf .f32 X Cert.OutProjRefIdeal.Gen.bitsLt_bf16_f32) (extf .f32 W Cert.OutProjRefIdeal.Gen.bitsLt_bf16_f32))

/-- Which block of each array a grid point works on. -/
theorem blocks : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- One tile of the kernel's result, entry by entry. -/
theorem tile (c : Dev nD) (t : Fin cfg0.N) (y) : k0_pay1 (F := Ideal) (iblk m c 2 t) (iblk m c 0 t) (iblk m c 1 t) y
    = expected (m ((c : Thread nD τ).loc main_arg0)) (m ((c : Thread nD τ).loc main_arg1)) (m ((c : Thread nD τ).loc main_arg2))
      (((cfg0.win 3).blk t).view.emb y) := by
  pointwise [k0_pay1, expected]
  blk_point [iblk, V, blocks t]

/-- The array the kernel leaves is the expected one. -/
theorem array (c : Dev nD) : (dats m 0 c).arrAt 3 (cfgs 0).N
    = expected (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact tile m c t y

theorem equal : Cert.algebraic_OutProjIdeal_OutProjRefIdeal := by
  pair_intro
  · run_from Cert.OutProjIdeal.Gen.run_main m g
  · run_from Cert.OutProjRefIdeal.Value.run m' g'
    exact (array m c).symm

end Cert.Hand.OutProj

end
-- ==== Proof.DMixed.lean ====
/- The gradient reaching `mixed`: the kernel's tiles of `d_h · w_outᵀ` are the tiles of the transposed product. -/
module

public import proofs.«01_k».proof.Defs
public import proofs.«01_k».proof.Proof.Gen.DMixedIdeal.Value
public import proofs.«01_k».proof.Proof.Gen.DMixedRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Hand.DMixed

open Cert.DMixedIdeal Cert.DMixedIdeal.Gen Idealize.ShloMosaic Idealize.ShloMosaic.TcCoe Idealize.SL.Sem
open Idealize.ShloMosaic.Pipeline (Dat)

variable (m : (ℓ : Loc nD τ sig) → Buf (Elt Ideal) ℓ)

/-- The product the reference computes: rows of `d_h` against rows of `w_out`. -/
abbrev product (X : FVec Ideal S8320x2048 .bf16) (W : FVec Ideal S2048x2048 .bf16) : FVec Ideal S8320x2048 .f32 :=
  Host.dotGeneral Cert.DMixedRefIdeal.dot_S8320x2048_S2048x2048_S8320x2048_1_1_0_0_n_n none
    (extf .f32 X Cert.DMixedRefIdeal.Gen.bitsLt_bf16_f32) (extf .f32 W Cert.DMixedRefIdeal.Gen.bitsLt_bf16_f32)

/-- Which block of each array a grid point works on. -/
theorem blocks : ∀ t : Fin cfg0.N, win0_0.index t = ![t.val, 0] ∧ win0_1.index t = ![0, 0] ∧ win0_2.index t = ![t.val, 0] :=
  (by decide +kernel : ∀ t : Fin grid0.N, _)

/-- One tile of the kernel's product, entry by entry. -/
theorem tile (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, blocks t]

/-- The array the kernel leaves is the product. -/
theorem array (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

theorem equal : Cert.algebraic_DMixedIdeal_DMixedRefIdeal := by
  pair_intro
  · run_from Cert.DMixedIdeal.Gen.run_main m g
  · run_from Cert.DMixedRefIdeal.Value.run m' g'
    exact (array m c).symm

end Cert.Hand.DMixed

end
-- ==== Proof.DwOut.lean ====
/- The gradient of `w_out`: the kernel adds the products of five row blocks and rounds the sum; the reference contracts all rows at once. -/
module

public import proofs.«01_k».proof.Defs
public import proofs.«01_k».proof.Proof.Gen.DwOutIdeal.Value
public import proofs.«01_k».proof.Proof.Gen.DwOutRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Hand.DwOut

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

/-- What the reference computes: `mixedᵀ · d_h`, written as the transpose of `d_hᵀ · mixed`. -/
abbrev expected (X : FVec Ideal S8320x2048 .bf16) (D : FVec Ideal S8320x2048 .bf16) : FVec Ideal S2048x2048 .bf16 :=
  truncf .bf16 (transpose Cert.DwOutRefIdeal.S2048x2048 [1, 0]
    (Host.dotGeneral Cert.DwOutRefIdeal.dot_S8320x2048_S8320x2048_S2048x2048_0_0_1_1_n_n none
      (extf .f32 D Cert.DwOutRefIdeal.Gen.bitsLt_bf16_f32) (extf .f32 X Cert.DwOutRefIdeal.Gen.bitsLt_bf16_f32))
    Cert.DwOutRefIdeal.Gen.transposes_S2048x2048_S2048x2048_1_0) Cert.DwOutRefIdeal.Gen.bitsLt_bf16_f32

/-- Which block of each array a grid point works on: five consecutive points walk the rows of one tile. -/
theorem blocks : ∀ t : Fin cfg0.N, win0_0.index t = ![t.val % 5, t.val / 5 / 2] ∧ win0_1.index t = ![t.val % 5, t.val / 5 % 2]
    ∧ win0_2.index t = ![t.val / 5 / 2, t.val / 5 % 2] :=
  (by decide +kernel : ∀ t : Fin grid0.N, _)

/-- The sum starts at zero. -/
theorem start (j) : k0_pay1 (F := Ideal) j = 0 := by pointwise [k0_pay1]

/-- One point adds the product of its row block. -/
theorem add (acc : FVec Ideal S1024x1024 .f32) (x d : FVec Ideal S1664x1024 .bf16) (j : S1024x1024.Idx) :
    k0_pay2 (F := Ideal) acc x d j = acc j + ∑ k : Fin 1664, x (ix2 k (j 0)) * d (ix2 k (j 1)) := by pointwise [k0_pay2]

/-- Rounding the sum does not change it here. -/
theorem round (acc : FVec Ideal S1024x1024 .f32) (j) : k0_pay3 (F := Ideal) acc j = acc j := by pointwise [k0_pay3]

/-- The reference's entry is one sum over all rows. -/
theorem entry (X D : FVec Ideal S8320x2048 .bf16) (j : S2048x2048.Idx) :
    expected X D j = ∑ l : Fin 8320, X (ix2 l (j 0)) * D (ix2 l (j 1)) := by
  pointwise [expected]
  exact Finset.sum_congr rfl fun l _ => mul_comm _ _

/-- At the last of its five points a tile leaves what the running sum then holds. -/
theorem left_is_sum (c : Dev nD) (t : Fin cfg0.N) (h : t.val % 5 = 4) (y) :
    (outsAt0 m c t.val t.isLt).1 y = (outsAt0 m c t.val t.isLt).2 y := by
  rw [outsAt0_C m c t (by omega) h]; frame_out
  rw [round]

/-- The array the kernel leaves is the expected one. -/
theorem array (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  blk_simp
  rw [after0_2, left_is_sum m c t ((flush0_2 t).mp hf),
    Pipeline.eq_sum_fin_of_reset_step_apply_of_flush (fun n h => (outsAt0 m c n h).2) 5 (fun _ => 0) _
    (fun t h j => by rw [outsAt0_A m c t h (by omega)]; frame_out; rw [add, start])
    (fun t h j => by
      by_cases h1 : t.val % 5 = 4
      · rw [outsAt0_C m c t h h1]; frame_out; rw [add, read_unread_whole]
      · rw [outsAt0_B m c t h h1]; frame_out; rw [add, read_unread_whole])
    t ((flush0_2 t).mp hf) _, zero_add, entry]
  refine Fin.sum_mul_add_congr fun s k hl => ?_
  blk_point [iblk, V, blocks t, blocks ⟨_, Pipeline.run_point_lt_of_flush t ((flush0_2 t).mp hf) s⟩]

theorem equal : Cert.algebraic_DwOutIdeal_DwOutRefIdeal := by
  pair_intro
  · run_from Cert.DwOutIdeal.Gen.run_main m g
  · run_from Cert.DwOutRefIdeal.Value.run m' g'
    exact (array m c).symm

end Cert.Hand.DwOut

end
-- ==== Proof.DwIn.lean ====
/- The first half of the gradient of `w_in`: the kernel adds the products of five row blocks and rounds the sum; the reference contracts all rows at once. -/
module

public import proofs.«01_k».proof.Defs
public import proofs.«01_k».proof.Proof.Gen.DwInIdeal.Value
public import proofs.«01_k».proof.Proof.Gen.DwInRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Hand.DwIn

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ)

/-- What the reference computes: the first 1024 rows of `xnᵀ · d_proj`, written through the transpose of `d_projᵀ · xn`. -/
abbrev expected (X : FVec Ideal S8320x2048 .bf16) (D : FVec Ideal S8320x5376 .bf16) : FVec Ideal S1024x5376 .bf16 :=
  truncf .bf16 (extractStridedSlice Cert.DwInRefIdeal.S1024x5376 ![0, 0] (transpose Cert.DwInRefIdeal.S2048x5376 [1, 0]
    (Host.dotGeneral Cert.DwInRefIdeal.dot_S8320x5376_S8320x2048_S5376x2048_0_0_1_1_n_n none
      (extf .f32 D Cert.DwInRefIdeal.Gen.bitsLt_bf16_f32) (extf .f32 X Cert.DwInRefIdeal.Gen.bitsLt_bf16_f32))
    Cert.DwInRefIdeal.Gen.transposes_S5376x2048_S2048x5376_1_0) Cert.DwInRefIdeal.Gen.slices_S2048x5376_S1024x5376_0_0) Cert.DwInRefIdeal.Gen.bitsLt_bf16_f32

/-- Which block of each array a grid point works on: five consecutive points walk the rows of one tile. -/
theorem blocks : ∀ t : Fin cfg0.N, win0_0.index t = ![t.val % 5, t.val / 5 / 6] ∧ win0_1.index t = ![t.val % 5, t.val / 5 % 6]
    ∧ win0_2.index t = ![t.val / 5 / 6, t.val / 5 % 6] :=
  (by decide +kernel : ∀ t : Fin grid0.N, _)

/-- The sum starts at zero. -/
theorem start (j) : k0_pay1 (F := Ideal) j = 0 := by pointwise [k0_pay1]

/-- One point adds the product of its row block. -/
theorem add (acc : FVec Ideal S1024x896 .f32) (x : FVec Ideal S1664x1024 .bf16) (d : FVec Ideal S1664x896 .bf16) (j : S1024x896.Idx) :
    k0_pay2 (F := Ideal) acc x d j = acc j + ∑ k : Fin 1664, x (ix2 k (j 0)) * d (ix2 k (j 1)) := by pointwise [k0_pay2]

/-- Rounding the sum does not change it here. -/
theorem round (acc : FVec Ideal S1024x896 .f32) (j) : k0_pay3 (F := Ideal) acc j = acc j := by pointwise [k0_pay3]

/-- The reference's entry is one sum over all rows. -/
theorem entry (X : FVec Ideal S8320x2048 .bf16) (D : FVec Ideal S8320x5376 .bf16) (j : S1024x5376.Idx) :
    expected X D j = ∑ l : Fin 8320, X (ix2 l ⟨(j 0).val, by have := (j 0).isLt; simp at this; omega⟩) * D (ix2 l (j 1)) := by
  pointwise [expected]
  exact Finset.sum_congr rfl fun l _ => mul_comm _ _

/-- At the last of its five points a tile leaves what the running sum then holds. -/
theorem left_is_sum (c : Dev nD) (t : Fin cfg0.N) (h : t.val % 5 = 4) (y) :
    (outsAt0 m c t.val t.isLt).1 y = (outsAt0 m c t.val t.isLt).2 y := by
  rw [outsAt0_C m c t (by omega) h]; frame_out
  rw [round]

/-- The array the kernel leaves is the expected one. -/
theorem array (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  blk_simp
  rw [after0_2, left_is_sum m c t ((flush0_2 t).mp hf),
    Pipeline.eq_sum_fin_of_reset_step_apply_of_flush (fun n h => (outsAt0 m c n h).2) 5 (fun _ => 0) _
    (fun t h j => by rw [outsAt0_A m c t h (by omega)]; frame_out; rw [add, start])
    (fun t h j => by
      by_cases h1 : t.val % 5 = 4
      · rw [outsAt0_C m c t h h1]; frame_out; rw [add, read_unread_whole]
      · rw [outsAt0_B m c t h h1]; frame_out; rw [add, read_unread_whole])
    t ((flush0_2 t).mp hf) _, zero_add, entry]
  refine Fin.sum_mul_add_congr fun s k hl => ?_
  blk_point [iblk, V, blocks t, blocks ⟨_, Pipeline.run_point_lt_of_flush t ((flush0_2 t).mp hf) s⟩]

theorem equal : Cert.algebraic_DwInIdeal_DwInRefIdeal := by
  pair_intro
  · run_from Cert.DwInIdeal.Gen.run_main m g
  · run_from Cert.DwInRefIdeal.Value.run m' g'
    exact (array m c).symm

end Cert.Hand.DwIn

end
-- ==== Proof.DwInB.lean ====
/- The second half of the gradient of `w_in`: the kernel adds the products of five row blocks and rounds the sum; the reference contracts all rows at once. -/
module

public import proofs.«01_k».proof.Defs
public import proofs.«01_k».proof.Proof.Gen.DwInBIdeal.Value
public import proofs.«01_k».proof.Proof.Gen.DwInBRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Hand.DwInB

open Cert.DwInBIdeal Cert.DwInBIdeal.Gen Idealize.ShloMosaic Idealize.ShloMosaic.TcCoe Idealize.SL.Sem
open Idealize.ShloMosaic.Pipeline (Dat)

variable (m : (ℓ : Loc nD τ sig) → Buf (Elt Ideal) ℓ)

/-- What the reference computes: the last 1024 rows of `xnᵀ · d_proj`, written through the transpose of `d_projᵀ · xn`. -/
abbrev expected (X : FVec Ideal S8320x2048 .bf16) (D : FVec Ideal S8320x5376 .bf16) : FVec Ideal S1024x5376 .bf16 :=
  truncf .bf16 (extractStridedSlice Cert.DwInBRefIdeal.S1024x5376 ![1024, 0] (transpose Cert.DwInBRefIdeal.S2048x5376 [1, 0]
    (Host.dotGeneral Cert.DwInBRefIdeal.dot_S8320x5376_S8320x2048_S5376x2048_0_0_1_1_n_n none
      (extf .f32 D Cert.DwInBRefIdeal.Gen.bitsLt_bf16_f32) (extf .f32 X Cert.DwInBRefIdeal.Gen.bitsLt_bf16_f32))
    Cert.DwInBRefIdeal.Gen.transposes_S5376x2048_S2048x5376_1_0) Cert.DwInBRefIdeal.Gen.slices_S2048x5376_S1024x5376_1024_0) Cert.DwInBRefIdeal.Gen.bitsLt_bf16_f32

/-- Which block of each array a grid point works on: five consecutive points walk the rows of one tile. -/
theorem blocks : ∀ t : Fin cfg0.N, win0_0.index t = ![t.val % 5, 1 + t.val / 5 / 6] ∧ win0_1.index t = ![t.val % 5, t.val / 5 % 6]
    ∧ win0_2.index t = ![t.val / 5 / 6, t.val / 5 % 6] :=
  (by decide +kernel : ∀ t : Fin grid0.N, _)

/-- The sum starts at zero. -/
theorem start (j) : k0_pay1 (F := Ideal) j = 0 := by pointwise [k0_pay1]

/-- One point adds the product of its row block. -/
theorem add (acc : FVec Ideal S1024x896 .f32) (x : FVec Ideal S1664x1024 .bf16) (d : FVec Ideal S1664x896 .bf16) (j : S1024x896.Idx) :
    k0_pay2 (F := Ideal) acc x d j = acc j + ∑ k : Fin 1664, x (ix2 k (j 0)) * d (ix2 k (j 1)) := by pointwise [k0_pay2]

/-- Rounding the sum does not change it here. -/
theorem round (acc : FVec Ideal S1024x896 .f32) (j) : k0_pay3 (F := Ideal) acc j = acc j := by pointwise [k0_pay3]

/-- The reference's entry is one sum over all rows. -/
theorem entry (X : FVec Ideal S8320x2048 .bf16) (D : FVec Ideal S8320x5376 .bf16) (j : S1024x5376.Idx) :
    expected X D j = ∑ l : Fin 8320, X (ix2 l ⟨1024 + (j 0).val, by have := (j 0).isLt; simp at this; omega⟩) * D (ix2 l (j 1)) := by
  pointwise [expected]
  exact Finset.sum_congr rfl fun l _ => mul_comm _ _

/-- At the last of its five points a tile leaves what the running sum then holds. -/
theorem left_is_sum (c : Dev nD) (t : Fin cfg0.N) (h : t.val % 5 = 4) (y) :
    (outsAt0 m c t.val t.isLt).1 y = (outsAt0 m c t.val t.isLt).2 y := by
  rw [outsAt0_C m c t (by omega) h]; frame_out
  rw [round]

/-- The array the kernel leaves is the expected one. -/
theorem array (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  blk_simp
  rw [after0_2, left_is_sum m c t ((flush0_2 t).mp hf),
    Pipeline.eq_sum_fin_of_reset_step_apply_of_flush (fun n h => (outsAt0 m c n h).2) 5 (fun _ => 0) _
    (fun t h j => by rw [outsAt0_A m c t h (by omega)]; frame_out; rw [add, start])
    (fun t h j => by
      by_cases h1 : t.val % 5 = 4
      · rw [outsAt0_C m c t h h1]; frame_out; rw [add, read_unread_whole]
      · rw [outsAt0_B m c t h h1]; frame_out; rw [add, read_unread_whole])
    t ((flush0_2 t).mp hf) _, zero_add, entry]
  refine Fin.sum_mul_add_congr fun s k hl => ?_
  blk_point [iblk, V, blocks t, blocks ⟨_, Pipeline.run_point_lt_of_flush t ((flush0_2 t).mp hf) s⟩]

theorem equal : Cert.algebraic_DwInBIdeal_DwInBRefIdeal := by
  pair_intro
  · run_from Cert.DwInBIdeal.Gen.run_main m g
  · run_from Cert.DwInBRefIdeal.Value.run m' g'
    exact (array m c).symm

end Cert.Hand.DwInB

end
-- ==== Proof.DXn.lean ====
/- The gradient reaching the normed rows: the kernel's tiles of `d_proj · w_inᵀ` are the tiles of the transposed product. -/
module

public import proofs.«01_k».proof.Defs
public import proofs.«01_k».proof.Proof.Gen.DXnIdeal.Value
public import proofs.«01_k».proof.Proof.Gen.DXnRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Hand.DXn

open Cert.DXnIdeal Cert.DXnIdeal.Gen Idealize.ShloMosaic Idealize.ShloMosaic.TcCoe Idealize.SL.Sem
open Idealize.ShloMosaic.Pipeline (Dat)

variable (m : (ℓ : Loc nD τ sig) → Buf (Elt Ideal) ℓ)

/-- The product the reference computes: rows of `d_proj` against rows of `w_in`. -/
abbrev product (X : FVec Ideal S8320x5376 .bf16) (W : FVec Ideal S2048x5376 .bf16) : FVec Ideal S8320x2048 .f32 :=
  Host.dotGeneral Cert.DXnRefIdeal.dot_S8320x5376_S2048x5376_S8320x2048_1_1_0_0_n_n none
    (extf .f32 X Cert.DXnRefIdeal.Gen.bitsLt_bf16_f32) (extf .f32 W Cert.DXnRefIdeal.Gen.bitsLt_bf16_f32)

/-- Which block of each array a grid point works on. -/
theorem blocks : ∀ t : Fin cfg0.N, win0_0.index t = ![t.val % 13, 0] ∧ win0_1.index t = ![t.val / 13, 0] ∧ win0_2.index t = ![t.val % 13, t.val / 13] :=
  (by decide +kernel : ∀ t : Fin grid0.N, _)

/-- One tile of the kernel's product, entry by entry. -/
theorem tile (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, blocks t]

/-- The array the kernel leaves is the product. -/
theorem array (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

theorem equal : Cert.algebraic_DXnIdeal_DXnRefIdeal := by
  pair_intro
  · run_from Cert.DXnIdeal.Gen.run_main m g
  · run_from Cert.DXnRefIdeal.Value.run m' g'
    exact (array m c).symm

end Cert.Hand.DXn

end
-- ==== Proof.AdamMath.lean ====
/- The optimiser's step on one entry, and the sum of the eight devices' gradients written out. -/
module
public import proofs.«01_k».proof.Defs
public import Idealize.ShloMosaic.Lib.Pointwise
@[expose] public section
noncomputable section
namespace Cert.Hand.AdamMath
open Idealize.ShloMosaic

/-- The first moment after the step. -/
def first (g m : EReal) : EReal := Ideal.ofBits .f32 0x3F666666#32 * m + Ideal.ofBits .f32 0x3DCCCCCD#32 * g
/-- The second moment after the step. -/
def second (g v : EReal) : EReal := Ideal.ofBits .f32 0x3F7FBE77#32 * v + Ideal.ofBits .f32 0x3A83126F#32 * (g * g)
/-- What is added to the weight. -/
def delta (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)
end Cert.Hand.AdamMath
end
-- ==== Proof.AdamIn.lean ====
/- The optimiser's step of the input weights, their gradients in four stacks. -/
module
public import proofs.«01_k».proof.Proof.AdamMath
public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.Value
public import Idealize.ShloMosaic.Lib.Claim
@[expose] public section
set_option maxRecDepth 16384
noncomputable section
namespace Cert.Hand.AdamIn
open Cert.AdamInIdeal Cert.AdamInIdeal.Gen Idealize.ShloMosaic Idealize.ShloMosaic.TcCoe Idealize.SL.Sem AdamMath
open Idealize.ShloMosaic.Pipeline (Dat)
variable (m : (ℓ : Loc nD τ sig) → Buf (Elt Ideal) ℓ)

theorem pay_first (g p : FVec Ideal S128x672 .f32) (j : S128x672.Idx) : k0_pay7 (F := Ideal) g p j = first (g j) (p j) := by
  pointwise [k0_pay1, k0_pay6, k0_pay7, k0_pay8, k0_pay9, k0_pay10, first]
theorem pay_second (g p : FVec Ideal S128x672 .f32) (j : S128x672.Idx) : k0_pay8 (F := Ideal) g p j = second (g j) (p j) := by
  pointwise [k0_pay1, k0_pay6, k0_pay7, k0_pay8, k0_pay9, k0_pay10, second]
theorem pay_delta (g p q w : FVec Ideal S128x672 .f32) (j : S128x672.Idx) : k0_pay1 (F := Ideal) (k0_pay9 g p) (k0_pay10 g q) w j = delta (g j) (w j) (p j) (q j) := by
  pointwise [k0_pay1, k0_pay6, k0_pay7, k0_pay8, k0_pay9, k0_pay10, delta, first, second]

/-- What the first result holds after a point of stack 0: the sum of the stack's eight blocks. -/
theorem left_grad_0 (c : Dev nD) (t : Fin cfg0.N) (h0 : t.val < 8) (h1 : ¬t.val / 8 % 4 = 1) (h2 : ¬t.val / 8 % 4 = 2) (h3 : ¬24 ≤ t.val) (y : S128x672.Idx) :
    (outsAt0 m c t.val t.isLt).1 y = ∑ d : Fin 8, (show FVec Ideal S8x128x672 .bf16 from iblk m c 0 t) (ix3 d (y 0) (y 1)) := by
  rw [outsAt0_A m c t h0 h1 h2 h3]
  frame_out
  rw [Fin.sum_univ_eight]
  idx_vars y
  pointwise [k0_pay2]

theorem left_rest_0 (c : Dev nD) (t : Fin cfg0.N) (h0 : t.val < 8) (h1 : ¬t.val / 8 % 4 = 1) (h2 : ¬t.val / 8 % 4 = 2) (h3 : ¬24 ≤ t.val) (y : S128x672.Idx) :
    (outsAt0 m c t.val t.isLt).2.1 y = delta ((outsAt0 m c t.val t.isLt).1 y) (iblk m c 4 t y) (iblk m c 5 t y) (iblk m c 6 t y)
    ∧ (outsAt0 m c t.val t.isLt).2.2.1 y = first ((outsAt0 m c t.val t.isLt).1 y) (iblk m c 5 t y)
    ∧ (outsAt0 m c t.val t.isLt).2.2.2 y = second ((outsAt0 m c t.val t.isLt).1 y) (iblk m c 6 t y) := by
  rw [outsAt0_A m c t h0 h1 h2 h3]
  frame_out
  exact ⟨pay_delta _ _ _ _ _, pay_first _ _ _, pay_second _ _ _⟩

/-- What the first result holds after a point of stack 1: the sum of the stack's eight blocks. -/
theorem left_grad_1 (c : Dev nD) (t : Fin cfg0.N) (h0 : ¬t.val < 8) (h1 : t.val / 8 % 4 = 1) (h2 : ¬t.val / 8 % 4 = 2) (h3 : ¬24 ≤ t.val) (y : S128x672.Idx) :
    (outsAt0 m c t.val t.isLt).1 y = ∑ d : Fin 8, (show FVec Ideal S8x128x672 .bf16 from iblk m c 1 t) (ix3 d (y 0) (y 1)) := by
  rw [outsAt0_B m c t h0 h1 h2 h3]
  frame_out
  rw [Fin.sum_univ_eight]
  idx_vars y
  pointwise [k0_pay3]

theorem left_rest_1 (c : Dev nD) (t : Fin cfg0.N) (h0 : ¬t.val < 8) (h1 : t.val / 8 % 4 = 1) (h2 : ¬t.val / 8 % 4 = 2) (h3 : ¬24 ≤ t.val) (y : S128x672.Idx) :
    (outsAt0 m c t.val t.isLt).2.1 y = delta ((outsAt0 m c t.val t.isLt).1 y) (iblk m c 4 t y) (iblk m c 5 t y) (iblk m c 6 t y)
    ∧ (outsAt0 m c t.val t.isLt).2.2.1 y = first ((outsAt0 m c t.val t.isLt).1 y) (iblk m c 5 t y)
    ∧ (outsAt0 m c t.val t.isLt).2.2.2 y = second ((outsAt0 m c t.val t.isLt).1 y) (iblk m c 6 t y) := by
  rw [outsAt0_B m c t h0 h1 h2 h3]
  frame_out
  exact ⟨pay_delta _ _ _ _ _, pay_first _ _ _, pay_second _ _ _⟩

/-- What the first result holds after a point of stack 2: the sum of the stack's eight blocks. -/
theorem left_grad_2 (c : Dev nD) (t : Fin cfg0.N) (h0 : ¬t.val < 8) (h1 : ¬t.val / 8 % 4 = 1) (h2 : t.val / 8 % 4 = 2) (h3 : ¬24 ≤ t.val) (y : S128x672.Idx) :
    (outsAt0 m c t.val t.isLt).1 y = ∑ d : Fin 8, (show FVec Ideal S8x128x672 .bf16 from iblk m c 2 t) (ix3 d (y 0) (y 1)) := by
  rw [outsAt0_C m c t h0 h1 h2 h3]
  frame_out
  rw [Fin.sum_univ_eight]
  idx_vars y
  pointwise [k0_pay4]

theorem left_rest_2 (c : Dev nD) (t : Fin cfg0.N) (h0 : ¬t.val < 8) (h1 : ¬t.val / 8 % 4 = 1) (h2 : t.val / 8 % 4 = 2) (h3 : ¬24 ≤ t.val) (y : S128x672.Idx) :
    (outsAt0 m c t.val t.isLt).2.1 y = delta ((outsAt0 m c t.val t.isLt).1 y) (iblk m c 4 t y) (iblk m c 5 t y) (iblk m c 6 t y)
    ∧ (outsAt0 m c t.val t.isLt).2.2.1 y = first ((outsAt0 m c t.val t.isLt).1 y) (iblk m c 5 t y)
    ∧ (outsAt0 m c t.val t.isLt).2.2.2 y = second ((outsAt0 m c t.val t.isLt).1 y) (iblk m c 6 t y) := by
  rw [outsAt0_C m c t h0 h1 h2 h3]
  frame_out
  exact ⟨pay_delta _ _ _ _ _, pay_first _ _ _, pay_second _ _ _⟩

/-- What the first result holds after a point of stack 3: the sum of the stack's eight blocks. -/
theorem left_grad_3 (c : Dev nD) (t : Fin cfg0.N) (h0 : ¬t.val < 8) (h1 : ¬t.val / 8 % 4 = 1) (h2 : ¬t.val / 8 % 4 = 2) (h3 : 24 ≤ t.val) (y : S128x672.Idx) :
    (outsAt0 m c t.val t.isLt).1 y = ∑ d : Fin 8, (show FVec Ideal S8x128x672 .bf16 from iblk m c 3 t) (ix3 d (y 0) (y 1)) := by
  rw [outsAt0_D m c t h0 h1 h2 h3]
  frame_out
  rw [Fin.sum_univ_eight]
  idx_vars y
  pointwise [k0_pay5]

theorem left_rest_3 (c : Dev nD) (t : Fin cfg0.N) (h0 : ¬t.val < 8) (h1 : ¬t.val / 8 % 4 = 1) (h2 : ¬t.val / 8 % 4 = 2) (h3 : 24 ≤ t.val) (y : S128x672.Idx) :
    (outsAt0 m c t.val t.isLt).2.1 y = delta ((outsAt0 m c t.val t.isLt).1 y) (iblk m c 4 t y) (iblk m c 5 t y) (iblk m c 6 t y)
    ∧ (outsAt0 m c t.val t.isLt).2.2.1 y = first ((outsAt0 m c t.val t.isLt).1 y) (iblk m c 5 t y)
    ∧ (outsAt0 m c t.val t.isLt).2.2.2 y = second ((outsAt0 m c t.val t.isLt).1 y) (iblk m c 6 t y) := by
  rw [outsAt0_D m c t h0 h1 h2 h3]
  frame_out
  exact ⟨pay_delta _ _ _ _ _, pay_first _ _ _, pay_second _ _ _⟩

/-- The other results, from the first. -/
theorem left_rest (c : Dev nD) (t : Fin cfg0.N) (y : S128x672.Idx) :
    (outsAt0 m c t.val t.isLt).2.1 y = delta ((outsAt0 m c t.val t.isLt).1 y) (iblk m c 4 t y) (iblk m c 5 t y) (iblk m c 6 t y)
    ∧ (outsAt0 m c t.val t.isLt).2.2.1 y = first ((outsAt0 m c t.val t.isLt).1 y) (iblk m c 5 t y)
    ∧ (outsAt0 m c t.val t.isLt).2.2.2 y = second ((outsAt0 m c t.val t.isLt).1 y) (iblk m c 6 t y) := by
  have hN : t.val < 32 := lt_of_lt_of_eq t.isLt N_0
  by_cases g0 : t.val < 8
  · exact left_rest_0 m c t (by omega) (by omega) (by omega) (by omega) y
  · by_cases g1 : t.val < 16
    · exact left_rest_1 m c t (by omega) (by omega) (by omega) (by omega) y
    · by_cases g2 : t.val < 24
      · exact left_rest_2 m c t (by omega) (by omega) (by omega) (by omega) y
      · exact left_rest_3 m c t (by omega) (by omega) (by omega) (by omega) y

/-- The call's operands, as the host leaves them. -/
abbrev aS0 (c : Dev nD) : FVec Ideal S8x1024x672 .bf16 := V m c main_arg0
abbrev aS1 (c : Dev nD) : FVec Ideal S8x1024x672 .bf16 := V m c main_arg1
abbrev aS2 (c : Dev nD) : FVec Ideal S8x1024x672 .bf16 := V m c main_arg2
abbrev aS3 (c : Dev nD) : FVec Ideal S8x1024x672 .bf16 := V m c main_arg3
abbrev aW (c : Dev nD) : FVec Ideal S4096x672 .f32 := V m c main_v0
abbrev aM (c : Dev nD) : FVec Ideal S4096x672 .f32 := V m c main_v1
abbrev aV (c : Dev nD) : FVec Ideal S4096x672 .f32 := V m c main_v2

/-- The gradient: the eight devices' added, one stack after the other. -/
def G (S0 S1 S2 S3 : FVec Ideal S8x1024x672 .bf16) : FVec Ideal S4096x672 .f32 := fun j =>
  if (j 0).val < 1024 then ∑ d : Fin 8, S0 (ix3 d ⟨(j 0).val % 1024, Nat.mod_lt _ (by decide)⟩ (j 1))
  else if (j 0).val < 2048 then ∑ d : Fin 8, S1 (ix3 d ⟨(j 0).val % 1024, Nat.mod_lt _ (by decide)⟩ (j 1))
  else if (j 0).val < 3072 then ∑ d : Fin 8, S2 (ix3 d ⟨(j 0).val % 1024, Nat.mod_lt _ (by decide)⟩ (j 1))
  else ∑ d : Fin 8, S3 (ix3 d ⟨(j 0).val % 1024, Nat.mod_lt _ (by decide)⟩ (j 1))

theorem block_0 : ∀ t : Fin cfg0.N, 0 ≤ t.val → t.val < 8 → win0_0.index t = ![0, t.val - 0, 0] :=
  (by decide +kernel : ∀ t : Fin grid0.N, _)
theorem block_1 : ∀ t : Fin cfg0.N, 8 ≤ t.val → t.val < 16 → win0_1.index t = ![0, t.val - 8, 0] :=
  (by decide +kernel : ∀ t : Fin grid0.N, _)
theorem block_2 : ∀ t : Fin cfg0.N, 16 ≤ t.val → t.val < 24 → win0_2.index t = ![0, t.val - 16, 0] :=
  (by decide +kernel : ∀ t : Fin grid0.N, _)
theorem block_3 : ∀ t : Fin cfg0.N, 24 ≤ t.val → t.val < 32 → win0_3.index t = ![0, t.val - 24, 0] :=
  (by decide +kernel : ∀ t : Fin grid0.N, _)
theorem blocks : ∀ t : Fin cfg0.N, win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem grad_at (c : Dev nD) (t : Fin cfg0.N) (y : S128x672.Idx) (j : S4096x672.Idx) (h0 : (j 0).val = t.val * 128 + (y 0).val) (h1 : (j 1).val = (y 1).val) :
    (outsAt0 m c t.val t.isLt).1 y = G (aS0 m c) (aS1 m c) (aS2 m c) (aS3 m c) j := by
  have hy : (y 0).val < 128 := (y 0).isLt
  have hN : t.val < 32 := lt_of_lt_of_eq t.isLt N_0
  by_cases g0 : t.val < 8
  · rw [left_grad_0 m c t (by omega) (by omega) (by omega) (by omega)]
    unfold G
    rw [if_pos (show (j 0).val < 1024 by omega)]
    refine Finset.sum_congr rfl fun d _ => ?_
    blk_point [iblk, block_0 t (by omega) (by omega)]
  · by_cases g1 : t.val < 16
    · rw [left_grad_1 m c t (by omega) (by omega) (by omega) (by omega)]
      unfold G
      rw [if_neg (show ¬(j 0).val < 1024 by omega), if_pos (show (j 0).val < 2048 by omega)]
      refine Finset.sum_congr rfl fun d _ => ?_
      blk_point [iblk, block_1 t (by omega) (by omega)]
    · by_cases g2 : t.val < 24
      · rw [left_grad_2 m c t (by omega) (by omega) (by omega) (by omega)]
        unfold G
        rw [if_neg (show ¬(j 0).val < 1024 by omega), if_neg (show ¬(j 0).val < 2048 by omega), if_pos (show (j 0).val < 3072 by omega)]
        refine Finset.sum_congr rfl fun d _ => ?_
        blk_point [iblk, block_2 t (by omega) (by omega)]
      · rw [left_grad_3 m c t (by omega) (by omega) (by omega) (by omega)]
        unfold G
        rw [if_neg (show ¬(j 0).val < 1024 by omega), if_neg (show ¬(j 0).val < 2048 by omega), if_neg (show ¬(j 0).val < 3072 by omega)]
        refine Finset.sum_congr rfl fun d _ => ?_
        blk_point [iblk, block_3 t (by omega) (by omega)]

theorem array_grad (c : Dev nD) : (dats m 0 c).arrAt 7 (cfgs 0).N = G (aS0 m c) (aS1 m c) (aS2 m c) (aS3 m c) := by
  refine (dats m 0 c).arrAt_eq_of_covers 7 _ (by decide +kernel) fun t _ y => ?_
  blk_simp
  rw [after0_7]
  exact grad_at m c t y _ (by blk_simp [blocks t] <;> try omega) (by blk_simp [blocks t] <;> try omega)

theorem array_delta (c : Dev nD) : (dats m 0 c).arrAt 8 (cfgs 0).N = fun j => delta (G (aS0 m c) (aS1 m c) (aS2 m c) (aS3 m c) j) (aW m c j) (aM m c j) (aV m c j) := by
  refine (dats m 0 c).arrAt_eq_of_covers 8 _ (by decide +kernel) fun t _ y => ?_
  blk_simp
  rw [after0_8, (left_rest m c t y).1]
  rw [grad_at m c t y (((cfg0.win 8).blk t).view.emb y) (by blk_simp [blocks t] <;> try omega) (by blk_simp [blocks t] <;> try omega)]
  congr 1 <;> blk_point [iblk, blocks t]

theorem array_first (c : Dev nD) : (dats m 0 c).arrAt 9 (cfgs 0).N = fun j => first (G (aS0 m c) (aS1 m c) (aS2 m c) (aS3 m c) j) (aM m c j) := by
  refine (dats m 0 c).arrAt_eq_of_covers 9 _ (by decide +kernel) fun t _ y => ?_
  blk_simp
  rw [after0_9, (left_rest m c t y).2.1]
  rw [grad_at m c t y (((cfg0.win 9).blk t).view.emb y) (by blk_simp [blocks t] <;> try omega) (by blk_simp [blocks t] <;> try omega)]
  congr 1 <;> blk_point [iblk, blocks t]

theorem array_second (c : Dev nD) : (dats m 0 c).arrAt 10 (cfgs 0).N = fun j => second (G (aS0 m c) (aS1 m c) (aS2 m c) (aS3 m c) j) (aV m c j) := by
  refine (dats m 0 c).arrAt_eq_of_covers 10 _ (by decide +kernel) fun t _ y => ?_
  blk_simp
  rw [after0_10, (left_rest m c t y).2.2]
  rw [grad_at m c t y (((cfg0.win 10).blk t).view.emb y) (by blk_simp [blocks t] <;> try omega) (by blk_simp [blocks t] <;> try omega)]
  congr 1 <;> blk_point [iblk, blocks t]

/-- The reference's terms, in the weight's own shape. -/
abbrev rS (S : FVec Ideal S8x1024x672 .bf16) : FVec Ideal Cert.AdamInRefIdeal.S1024x672 .f32 :=
  Host.reduceAdd (extf .f32 S Cert.AdamInRefIdeal.Gen.bitsLt_bf16_f32) (constant Cert.AdamInRefIdeal.S_ .f32 0x00000000#32) Cert.AdamInRefIdeal.Gen.reducesTo_S8x1024x672_S1024x672_d0 Cert.AdamInRefIdeal.Gen.h_S_
abbrev rG (S0 S1 S2 S3 : FVec Ideal S8x1024x672 .bf16) : FVec Ideal S2x2048x672 .f32 :=
  shapeCast S2x2048x672 (concatenate Cert.AdamInRefIdeal.S4096x672 0 [⟨Cert.AdamInRefIdeal.S1024x672, (rS S0 : FVec Ideal Cert.AdamInRefIdeal.S1024x672 .f32)⟩, ⟨Cert.AdamInRefIdeal.S1024x672, (rS S1 : FVec Ideal Cert.AdamInRefIdeal.S1024x672 .f32)⟩, ⟨Cert.AdamInRefIdeal.S1024x672, (rS S2 : FVec Ideal Cert.AdamInRefIdeal.S1024x672 .f32)⟩, ⟨Cert.AdamInRefIdeal.S1024x672, (rS S3 : FVec Ideal Cert.AdamInRefIdeal.S1024x672 .f32)⟩] Cert.AdamInRefIdeal.Gen.concatenates_S1024x672_S1024x672_S1024x672_S1024x672_S4096x672_d0 : FVec Ideal Cert.AdamInRefIdeal.S4096x672 .f32) Cert.AdamInRefIdeal.Gen.shapeCasts_S4096x672_S2x2048x672
abbrev rM (g M : FVec Ideal S2x2048x672 .f32) : FVec Ideal S2x2048x672 .f32 :=
  addf (mulf (broadcastInDim Cert.AdamInRefIdeal.S2x2048x672 ![] Cert.AdamInRefIdeal.Gen.bcast_S_S2x2048x672 (constant Cert.AdamInRefIdeal.S_ .f32 0x3F666666#32)) M) (mulf (broadcastInDim Cert.AdamInRefIdeal.S2x2048x672 ![] Cert.AdamInRefIdeal.Gen.bcast_S_S2x2048x672 (constant Cert.AdamInRefIdeal.S_ .f32 0x3DCCCCCD#32)) g)
abbrev rV (g V : FVec Ideal S2x2048x672 .f32) : FVec Ideal S2x2048x672 .f32 :=
  addf (mulf (broadcastInDim Cert.AdamInRefIdeal.S2x2048x672 ![] Cert.AdamInRefIdeal.Gen.bcast_S_S2x2048x672 (constant Cert.AdamInRefIdeal.S_ .f32 0x3F7FBE77#32)) V) (mulf (broadcastInDim Cert.AdamInRefIdeal.S2x2048x672 ![] Cert.AdamInRefIdeal.Gen.bcast_S_S2x2048x672 (constant Cert.AdamInRefIdeal.S_ .f32 0x3A83126F#32)) (mulf g g))
abbrev rD (g W M V : FVec Ideal S2x2048x672 .f32) : FVec Ideal S2x2048x672 .f32 :=
  mulf (broadcastInDim Cert.AdamInRefIdeal.S2x2048x672 ![] Cert.AdamInRefIdeal.Gen.bcast_S_S2x2048x672 (constant Cert.AdamInRefIdeal.S_ .f32 0xBA83126F#32)) (addf (Host.divf (Host.divf (rM g M) (broadcastInDim Cert.AdamInRefIdeal.S2x2048x672 ![] Cert.AdamInRefIdeal.Gen.bcast_S_S2x2048x672 (constant Cert.AdamInRefIdeal.S_ .f32 0x3F26BD02#32)))
    (addf (Host.sqrt (Host.divf (rV g V) (broadcastInDim Cert.AdamInRefIdeal.S2x2048x672 ![] Cert.AdamInRefIdeal.Gen.bcast_S_S2x2048x672 (constant Cert.AdamInRefIdeal.S_ .f32 0x3C231ACC#32)))) (broadcastInDim Cert.AdamInRefIdeal.S2x2048x672 ![] Cert.AdamInRefIdeal.Gen.bcast_S_S2x2048x672 (constant Cert.AdamInRefIdeal.S_ .f32 0x322BCC77#32)))) (mulf (broadcastInDim Cert.AdamInRefIdeal.S2x2048x672 ![] Cert.AdamInRefIdeal.Gen.bcast_S_S2x2048x672 (constant Cert.AdamInRefIdeal.S_ .f32 0x3C23D70A#32)) W))
/-- The weight's shape read as rows. -/
abbrev flat (x : FVec Ideal S2x2048x672 .f32) : FVec Ideal S4096x672 .f32 := shapeCast S4096x672 x Cert.AdamInRefIdeal.Gen.shapeCasts_S2x2048x672_S4096x672

theorem rM_at (g M : FVec Ideal S2x2048x672 .f32) (j : S2x2048x672.Idx) : rM g M j = first (g j) (M j) := by pointwise [first]
theorem rV_at (g V : FVec Ideal S2x2048x672 .f32) (j : S2x2048x672.Idx) : rV g V j = second (g j) (V j) := by pointwise [second]
theorem rD_at (g W M V : FVec Ideal S2x2048x672 .f32) (j : S2x2048x672.Idx) : rD g W M V j = delta (g j) (W j) (M j) (V j) := by
  pointwise [delta, first, second]

theorem rS_at (S : FVec Ideal S8x1024x672 .bf16) (i : Fin 1024) (k : Fin 672) : rS S (ix2 i k) = ∑ d : Fin 8, S (ix3 d i k) := by
  pointwise
  try rw [zero_add]

theorem ref_grad (S0 S1 S2 S3 : FVec Ideal S8x1024x672 .bf16) : flat (rG S0 S1 S2 S3) = G S0 S1 S2 S3 := by
  unfold flat rG
  rw [shapeCast_shapeCast]
  funext j
  have hj : (j 0).val < 4096 := (j 0).isLt
  idx_vars j
  pointwise [G, rS_at]
  blk_point []
  all_goals omega

theorem ref_first (S0 S1 S2 S3 : FVec Ideal S8x1024x672 .bf16) (M : FVec Ideal S2x2048x672 .f32) : flat (rM (rG S0 S1 S2 S3) M) = fun j => first (G S0 S1 S2 S3 j) (flat M j) := by
  rw [← ref_grad]
  funext j
  exact rM_at _ _ _
theorem ref_second (S0 S1 S2 S3 : FVec Ideal S8x1024x672 .bf16) (V : FVec Ideal S2x2048x672 .f32) : flat (rV (rG S0 S1 S2 S3) V) = fun j => second (G S0 S1 S2 S3 j) (flat V j) := by
  rw [← ref_grad]
  funext j
  exact rV_at _ _ _
theorem ref_delta (S0 S1 S2 S3 : FVec Ideal S8x1024x672 .bf16) (W M V : FVec Ideal S2x2048x672 .f32) :
    flat (rD (rG S0 S1 S2 S3) W M V) = fun j => delta (G S0 S1 S2 S3 j) (flat W j) (flat M j) (flat V j) := by
  rw [← ref_grad]
  funext j
  exact rD_at _ _ _ _ _

theorem host_w (c : Dev nD) : aW m c = flat (m ((c : Thread nD τ).loc main_arg4)) := by unfold aW V; after_results; try rfl
theorem host_m (c : Dev nD) : aM m c = flat (m ((c : Thread nD τ).loc main_arg5)) := by unfold aM V; after_results; try rfl
theorem host_v (c : Dev nD) : aV m c = flat (m ((c : Thread nD τ).loc main_arg6)) := by unfold aV V; after_results; try rfl

theorem equal : Cert.algebraic_AdamInIdeal_AdamInRefIdeal := by
  intro m g m' g' _ hagree
  refine ⟨fun c => G (m ((c : Thread nD τ).loc main_arg0)) (m ((c : Thread nD τ).loc main_arg1)) (m ((c : Thread nD τ).loc main_arg2)) (m ((c : Thread nD τ).loc main_arg3)),
    fun c j => delta (G (m ((c : Thread nD τ).loc main_arg0)) (m ((c : Thread nD τ).loc main_arg1)) (m ((c : Thread nD τ).loc main_arg2)) (m ((c : Thread nD τ).loc main_arg3)) j) (flat (m ((c : Thread nD τ).loc main_arg4)) j) (flat (m ((c : Thread nD τ).loc main_arg5)) j) (flat (m ((c : Thread nD τ).loc main_arg6)) j),
    fun c j => first (G (m ((c : Thread nD τ).loc main_arg0)) (m ((c : Thread nD τ).loc main_arg1)) (m ((c : Thread nD τ).loc main_arg2)) (m ((c : Thread nD τ).loc main_arg3)) j) (flat (m ((c : Thread nD τ).loc main_arg5)) j),
    fun c j => second (G (m ((c : Thread nD τ).loc main_arg0)) (m ((c : Thread nD τ).loc main_arg1)) (m ((c : Thread nD τ).loc main_arg2)) (m ((c : Thread nD τ).loc main_arg3)) j) (flat (m ((c : Thread nD τ).loc main_arg6)) j), ?_, ?_⟩
  · refine θ_run_mono (Cert.AdamInIdeal.Value.run_blocks m g) fun r hr c => ?_
    obtain ⟨e0, e1, e2, e3, h⟩ := hr c
    have s0 : aS0 m c = m ((c : Thread nD τ).loc main_arg0) := V_main_arg0 m c
    have s1 : aS1 m c = m ((c : Thread nD τ).loc main_arg1) := V_main_arg1 m c
    have s2 : aS2 m c = m ((c : Thread nD τ).loc main_arg2) := V_main_arg2 m c
    have s3 : aS3 m c = m ((c : Thread nD τ).loc main_arg3) := V_main_arg3 m c
    have k0 := e0.trans (array_grad m c)
    have k1 := e1.trans (array_delta m c)
    have k2 := e2.trans (array_first m c)
    have k3 := e3.trans (array_second m c)
    rw [s0, s1, s2, s3] at k0 k1 k2 k3
    rw [host_w, host_m, host_v] at k1
    rw [host_m] at k2
    rw [host_v] at k3
    exact ⟨k0, k1, k2, k3, h⟩
  · refine θ_run_mono (Cert.AdamInRefIdeal.Value.run m' g') fun r hr c => ?_
    obtain ⟨e0, e1, e2, e3, h⟩ := hr c
    obtain ⟨a0, a1, a2, a3, a4, a5, a6⟩ := hagree c
    unfold Cert.AdamInRefIdeal.Value.res_main_v35 at e1
    rw [a0, a1, a2, a3] at e0 e1 e2 e3
    rw [a4, a5, a6] at e1
    rw [a5] at e2
    rw [a6] at e3
    exact ⟨e0.trans (ref_grad _ _ _ _), e1.trans (ref_delta _ _ _ _ _ _ _),
      e2.trans (ref_first _ _ _ _ _), e3.trans (ref_second _ _ _ _ _), h⟩
end Cert.Hand.AdamIn
end
-- ==== Proof.AdamOut.lean ====
/- The optimiser's step of the output weights, their gradients in two stacks. -/
module
public import proofs.«01_k».proof.Proof.AdamMath
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pipeline.Value
public import Idealize.ShloMosaic.Lib.Claim
@[expose] public section
set_option maxRecDepth 16384
noncomputable section
namespace Cert.Hand.AdamOut
open Cert.AdamOutIdeal Cert.AdamOutIdeal.Gen Idealize.ShloMosaic Idealize.ShloMosaic.TcCoe Idealize.SL.Sem AdamMath
open Idealize.ShloMosaic.Pipeline (Dat)
variable (m : (ℓ : Loc nD τ sig) → Buf (Elt Ideal) ℓ)

theorem pay_first (g p : FVec Ideal S128x2048 .f32) (j : S128x2048.Idx) : k0_pay5 (F := Ideal) g p j = first (g j) (p j) := by
  pointwise [k0_pay1, k0_pay4, k0_pay5, k0_pay6, k0_pay7, first]
theorem pay_second (g p : FVec Ideal S128x2048 .f32) (j : S128x2048.Idx) : k0_pay6 (F := Ideal) g p j = second (g j) (p j) := by
  pointwise [k0_pay1, k0_pay4, k0_pay5, k0_pay6, k0_pay7, second]
theorem pay_delta (g p q w : FVec Ideal S128x2048 .f32) (j : S128x2048.Idx) : k0_pay1 (F := Ideal) (k0_pay7 g p q w) j = delta (g j) (w j) (p j) (q j) := by
  pointwise [k0_pay1, k0_pay4, k0_pay5, k0_pay6, k0_pay7, delta, first, second]

/-- What the first result holds after a point of stack 0: the sum of the stack's eight blocks. -/
theorem left_grad_0 (c : Dev nD) (t : Fin cfg0.N) (h0 : t.val < 2) (h1 : ¬2 ≤ t.val) (y : S128x2048.Idx) :
    (outsAt0 m c t.val t.isLt).1 y = ∑ d : Fin 8, (show FVec Ideal S8x128x2048 .bf16 from iblk m c 0 t) (ix3 d (y 0) (y 1)) := by
  rw [outsAt0_A m c t h0 h1]
  frame_out
  rw [Fin.sum_univ_eight]
  idx_vars y
  pointwise [k0_pay2]

theorem left_rest_0 (c : Dev nD) (t : Fin cfg0.N) (h0 : t.val < 2) (h1 : ¬2 ≤ t.val) (y : S128x2048.Idx) :
    (outsAt0 m c t.val t.isLt).2.1 y = delta ((outsAt0 m c t.val t.isLt).1 y) (iblk m c 2 t y) (iblk m c 3 t y) (iblk m c 4 t y)
    ∧ (outsAt0 m c t.val t.isLt).2.2.1 y = first ((outsAt0 m c t.val t.isLt).1 y) (iblk m c 3 t y)
    ∧ (outsAt0 m c t.val t.isLt).2.2.2 y = second ((outsAt0 m c t.val t.isLt).1 y) (iblk m c 4 t y) := by
  rw [outsAt0_A m c t h0 h1]
  frame_out
  exact ⟨pay_delta _ _ _ _ _, pay_first _ _ _, pay_second _ _ _⟩

/-- What the first result holds after a point of stack 1: the sum of the stack's eight blocks. -/
theorem left_grad_1 (c : Dev nD) (t : Fin cfg0.N) (h0 : ¬t.val < 2) (h1 : 2 ≤ t.val) (y : S128x2048.Idx) :
    (outsAt0 m c t.val t.isLt).1 y = ∑ d : Fin 8, (show FVec Ideal S8x128x2048 .bf16 from iblk m c 1 t) (ix3 d (y 0) (y 1)) := by
  rw [outsAt0_B m c t h0 h1]
  frame_out
  rw [Fin.sum_univ_eight]
  idx_vars y
  pointwise [k0_pay3]

theorem left_rest_1 (c : Dev nD) (t : Fin cfg0.N) (h0 : ¬t.val < 2) (h1 : 2 ≤ t.val) (y : S128x2048.Idx) :
    (outsAt0 m c t.val t.isLt).2.1 y = delta ((outsAt0 m c t.val t.isLt).1 y) (iblk m c 2 t y) (iblk m c 3 t y) (iblk m c 4 t y)
    ∧ (outsAt0 m c t.val t.isLt).2.2.1 y = first ((outsAt0 m c t.val t.isLt).1 y) (iblk m c 3 t y)
    ∧ (outsAt0 m c t.val t.isLt).2.2.2 y = second ((outsAt0 m c t.val t.isLt).1 y) (iblk m c 4 t y) := by
  rw [outsAt0_B m c t h0 h1]
  frame_out
  exact ⟨pay_delta _ _ _ _ _, pay_first _ _ _, pay_second _ _ _⟩

/-- The other results, from the first. -/
theorem left_rest (c : Dev nD) (t : Fin cfg0.N) (y : S128x2048.Idx) :
    (outsAt0 m c t.val t.isLt).2.1 y = delta ((outsAt0 m c t.val t.isLt).1 y) (iblk m c 2 t y) (iblk m c 3 t y) (iblk m c 4 t y)
    ∧ (outsAt0 m c t.val t.isLt).2.2.1 y = first ((outsAt0 m c t.val t.isLt).1 y) (iblk m c 3 t y)
    ∧ (outsAt0 m c t.val t.isLt).2.2.2 y = second ((outsAt0 m c t.val t.isLt).1 y) (iblk m c 4 t y) := by
  have hN : t.val < 4 := lt_of_lt_of_eq t.isLt N_0
  by_cases g0 : t.val < 2
  · exact left_rest_0 m c t (by omega) (by omega) y
  · exact left_rest_1 m c t (by omega) (by omega) y

/-- The call's operands, as the host leaves them. -/
abbrev aS0 (c : Dev nD) : FVec Ideal S8x256x2048 .bf16 := V m c main_arg0
abbrev aS1 (c : Dev nD) : FVec Ideal S8x256x2048 .bf16 := V m c main_arg1
abbrev aW (c : Dev nD) : FVec Ideal S512x2048 .f32 := V m c main_v0
abbrev aM (c : Dev nD) : FVec Ideal S512x2048 .f32 := V m c main_v1
abbrev aV (c : Dev nD) : FVec Ideal S512x2048 .f32 := V m c main_v2

/-- The gradient: the eight devices' added, one stack after the other. -/
def G (S0 S1 : FVec Ideal S8x256x2048 .bf16) : FVec Ideal S512x2048 .f32 := fun j =>
  if (j 0).val < 256 then ∑ d : Fin 8, S0 (ix3 d ⟨(j 0).val % 256, Nat.mod_lt _ (by decide)⟩ (j 1))
  else ∑ d : Fin 8, S1 (ix3 d ⟨(j 0).val % 256, Nat.mod_lt _ (by decide)⟩ (j 1))

theorem block_0 : ∀ t : Fin cfg0.N, 0 ≤ t.val → t.val < 2 → win0_0.index t = ![0, t.val - 0, 0] :=
  (by decide +kernel : ∀ t : Fin grid0.N, _)
theorem block_1 : ∀ t : Fin cfg0.N, 2 ≤ t.val → t.val < 4 → win0_1.index t = ![0, t.val - 2, 0] :=
  (by decide +kernel : ∀ t : Fin grid0.N, _)
theorem blocks : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem grad_at (c : Dev nD) (t : Fin cfg0.N) (y : S128x2048.Idx) (j : S512x2048.Idx) (h0 : (j 0).val = t.val * 128 + (y 0).val) (h1 : (j 1).val = (y 1).val) :
    (outsAt0 m c t.val t.isLt).1 y = G (aS0 m c) (aS1 m c) j := by
  have hy : (y 0).val < 128 := (y 0).isLt
  have hN : t.val < 4 := lt_of_lt_of_eq t.isLt N_0
  by_cases g0 : t.val < 2
  · rw [left_grad_0 m c t (by omega) (by omega)]
    unfold G
    rw [if_pos (show (j 0).val < 256 by omega)]
    refine Finset.sum_congr rfl fun d _ => ?_
    blk_point [iblk, block_0 t (by omega) (by omega)]
  · rw [left_grad_1 m c t (by omega) (by omega)]
    unfold G
    rw [if_neg (show ¬(j 0).val < 256 by omega)]
    refine Finset.sum_congr rfl fun d _ => ?_
    blk_point [iblk, block_1 t (by omega) (by omega)]

theorem array_grad (c : Dev nD) : (dats m 0 c).arrAt 5 (cfgs 0).N = G (aS0 m c) (aS1 m c) := by
  refine (dats m 0 c).arrAt_eq_of_covers 5 _ (by decide +kernel) fun t _ y => ?_
  blk_simp
  rw [after0_5]
  exact grad_at m c t y _ (by blk_simp [blocks t] <;> try omega) (by blk_simp [blocks t] <;> try omega)

theorem array_delta (c : Dev nD) : (dats m 0 c).arrAt 6 (cfgs 0).N = fun j => delta (G (aS0 m c) (aS1 m c) j) (aW m c j) (aM m c j) (aV m c j) := by
  refine (dats m 0 c).arrAt_eq_of_covers 6 _ (by decide +kernel) fun t _ y => ?_
  blk_simp
  rw [after0_6, (left_rest m c t y).1]
  rw [grad_at m c t y (((cfg0.win 6).blk t).view.emb y) (by blk_simp [blocks t] <;> try omega) (by blk_simp [blocks t] <;> try omega)]
  congr 1 <;> blk_point [iblk, blocks t]

theorem array_first (c : Dev nD) : (dats m 0 c).arrAt 7 (cfgs 0).N = fun j => first (G (aS0 m c) (aS1 m c) j) (aM m c j) := by
  refine (dats m 0 c).arrAt_eq_of_covers 7 _ (by decide +kernel) fun t _ y => ?_
  blk_simp
  rw [after0_7, (left_rest m c t y).2.1]
  rw [grad_at m c t y (((cfg0.win 7).blk t).view.emb y) (by blk_simp [blocks t] <;> try omega) (by blk_simp [blocks t] <;> try omega)]
  congr 1 <;> blk_point [iblk, blocks t]

theorem array_second (c : Dev nD) : (dats m 0 c).arrAt 8 (cfgs 0).N = fun j => second (G (aS0 m c) (aS1 m c) j) (aV m c j) := by
  refine (dats m 0 c).arrAt_eq_of_covers 8 _ (by decide +kernel) fun t _ y => ?_
  blk_simp
  rw [after0_8, (left_rest m c t y).2.2]
  rw [grad_at m c t y (((cfg0.win 8).blk t).view.emb y) (by blk_simp [blocks t] <;> try omega) (by blk_simp [blocks t] <;> try omega)]
  congr 1 <;> blk_point [iblk, blocks t]

/-- The reference's terms, in the weight's own shape. -/
abbrev rS (S : FVec Ideal S8x256x2048 .bf16) : FVec Ideal Cert.AdamOutRefIdeal.S256x2048 .f32 :=
  Host.reduceAdd (extf .f32 S Cert.AdamOutRefIdeal.Gen.bitsLt_bf16_f32) (constant Cert.AdamOutRefIdeal.S_ .f32 0x00000000#32) Cert.AdamOutRefIdeal.Gen.reducesTo_S8x256x2048_S256x2048_d0 Cert.AdamOutRefIdeal.Gen.h_S_
abbrev rG (S0 S1 : FVec Ideal S8x256x2048 .bf16) : FVec Ideal S2x256x2048 .f32 :=
  concatenate S2x256x2048 0 [⟨Cert.AdamOutRefIdeal.S1x256x2048, (broadcastInDim Cert.AdamOutRefIdeal.S1x256x2048 ![1, 2] Cert.AdamOutRefIdeal.Gen.bcast_S256x2048_S1x256x2048_1_2 (rS S0))⟩, ⟨Cert.AdamOutRefIdeal.S1x256x2048, (broadcastInDim Cert.AdamOutRefIdeal.S1x256x2048 ![1, 2] Cert.AdamOutRefIdeal.Gen.bcast_S256x2048_S1x256x2048_1_2 (rS S1))⟩] Cert.AdamOutRefIdeal.Gen.concatenates_S1x256x2048_S1x256x2048_S2x256x2048_d0
abbrev rM (g M : FVec Ideal S2x256x2048 .f32) : FVec Ideal S2x256x2048 .f32 :=
  addf (mulf (broadcastInDim Cert.AdamOutRefIdeal.S2x256x2048 ![] Cert.AdamOutRefIdeal.Gen.bcast_S_S2x256x2048 (constant Cert.AdamOutRefIdeal.S_ .f32 0x3F666666#32)) M) (mulf (broadcastInDim Cert.AdamOutRefIdeal.S2x256x2048 ![] Cert.AdamOutRefIdeal.Gen.bcast_S_S2x256x2048 (constant Cert.AdamOutRefIdeal.S_ .f32 0x3DCCCCCD#32)) g)
abbrev rV (g V : FVec Ideal S2x256x2048 .f32) : FVec Ideal S2x256x2048 .f32 :=
  addf (mulf (broadcastInDim Cert.AdamOutRefIdeal.S2x256x2048 ![] Cert.AdamOutRefIdeal.Gen.bcast_S_S2x256x2048 (constant Cert.AdamOutRefIdeal.S_ .f32 0x3F7FBE77#32)) V) (mulf (broadcastInDim Cert.AdamOutRefIdeal.S2x256x2048 ![] Cert.AdamOutRefIdeal.Gen.bcast_S_S2x256x2048 (constant Cert.AdamOutRefIdeal.S_ .f32 0x3A83126F#32)) (mulf g g))
abbrev rD (g W M V : FVec Ideal S2x256x2048 .f32) : FVec Ideal S2x256x2048 .f32 :=
  mulf (broadcastInDim Cert.AdamOutRefIdeal.S2x256x2048 ![] Cert.AdamOutRefIdeal.Gen.bcast_S_S2x256x2048 (constant Cert.AdamOutRefIdeal.S_ .f32 0xBA83126F#32)) (addf (Host.divf (Host.divf (rM g M) (broadcastInDim Cert.AdamOutRefIdeal.S2x256x2048 ![] Cert.AdamOutRefIdeal.Gen.bcast_S_S2x256x2048 (constant Cert.AdamOutRefIdeal.S_ .f32 0x3F26BD02#32)))
    (addf (Host.sqrt (Host.divf (rV g V) (broadcastInDim Cert.AdamOutRefIdeal.S2x256x2048 ![] Cert.AdamOutRefIdeal.Gen.bcast_S_S2x256x2048 (constant Cert.AdamOutRefIdeal.S_ .f32 0x3C231ACC#32)))) (broadcastInDim Cert.AdamOutRefIdeal.S2x256x2048 ![] Cert.AdamOutRefIdeal.Gen.bcast_S_S2x256x2048 (constant Cert.AdamOutRefIdeal.S_ .f32 0x322BCC77#32)))) (mulf (broadcastInDim Cert.AdamOutRefIdeal.S2x256x2048 ![] Cert.AdamOutRefIdeal.Gen.bcast_S_S2x256x2048 (constant Cert.AdamOutRefIdeal.S_ .f32 0x3C23D70A#32)) W))
/-- The weight's shape read as rows. -/
abbrev flat (x : FVec Ideal S2x256x2048 .f32) : FVec Ideal S512x2048 .f32 := shapeCast S512x2048 x Cert.AdamOutRefIdeal.Gen.shapeCasts_S2x256x2048_S512x2048

theorem rM_at (g M : FVec Ideal S2x256x2048 .f32) (j : S2x256x2048.Idx) : rM g M j = first (g j) (M j) := by pointwise [first]
theorem rV_at (g V : FVec Ideal S2x256x2048 .f32) (j : S2x256x2048.Idx) : rV g V j = second (g j) (V j) := by pointwise [second]
theorem rD_at (g W M V : FVec Ideal S2x256x2048 .f32) (j : S2x256x2048.Idx) : rD g W M V j = delta (g j) (W j) (M j) (V j) := by
  pointwise [delta, first, second]

theorem rS_at (S : FVec Ideal S8x256x2048 .bf16) (i : Fin 256) (k : Fin 2048) : rS S (ix2 i k) = ∑ d : Fin 8, S (ix3 d i k) := by
  pointwise
  try rw [zero_add]

theorem ref_grad (S0 S1 : FVec Ideal S8x256x2048 .bf16) : flat (rG S0 S1) = G S0 S1 := by
  funext j
  have hj : (j 0).val < 512 := (j 0).isLt
  idx_vars j
  pointwise [G, rS_at]
  blk_point []
  all_goals omega

theorem ref_first (S0 S1 : FVec Ideal S8x256x2048 .bf16) (M : FVec Ideal S2x256x2048 .f32) : flat (rM (rG S0 S1) M) = fun j => first (G S0 S1 j) (flat M j) := by
  rw [← ref_grad]
  funext j
  exact rM_at _ _ _
theorem ref_second (S0 S1 : FVec Ideal S8x256x2048 .bf16) (V : FVec Ideal S2x256x2048 .f32) : flat (rV (rG S0 S1) V) = fun j => second (G S0 S1 j) (flat V j) := by
  rw [← ref_grad]
  funext j
  exact rV_at _ _ _
theorem ref_delta (S0 S1 : FVec Ideal S8x256x2048 .bf16) (W M V : FVec Ideal S2x256x2048 .f32) :
    flat (rD (rG S0 S1) W M V) = fun j => delta (G S0 S1 j) (flat W j) (flat M j) (flat V j) := by
  rw [← ref_grad]
  funext j
  exact rD_at _ _ _ _ _

theorem host_w (c : Dev nD) : aW m c = flat (m ((c : Thread nD τ).loc main_arg2)) := by unfold aW V; after_results; try rfl
theorem host_m (c : Dev nD) : aM m c = flat (m ((c : Thread nD τ).loc main_arg3)) := by unfold aM V; after_results; try rfl
theorem host_v (c : Dev nD) : aV m c = flat (m ((c : Thread nD τ).loc main_arg4)) := by unfold aV V; after_results; try rfl

theorem equal : Cert.algebraic_AdamOutIdeal_AdamOutRefIdeal := by
  intro m g m' g' _ hagree
  refine ⟨fun c => G (m ((c : Thread nD τ).loc main_arg0)) (m ((c : Thread nD τ).loc main_arg1)),
    fun c j => delta (G (m ((c : Thread nD τ).loc main_arg0)) (m ((c : Thread nD τ).loc main_arg1)) j) (flat (m ((c : Thread nD τ).loc main_arg2)) j) (flat (m ((c : Thread nD τ).loc main_arg3)) j) (flat (m ((c : Thread nD τ).loc main_arg4)) j),
    fun c j => first (G (m ((c : Thread nD τ).loc main_arg0)) (m ((c : Thread nD τ).loc main_arg1)) j) (flat (m ((c : Thread nD τ).loc main_arg3)) j),
    fun c j => second (G (m ((c : Thread nD τ).loc main_arg0)) (m ((c : Thread nD τ).loc main_arg1)) j) (flat (m ((c : Thread nD τ).loc main_arg4)) j), ?_, ?_⟩
  · refine θ_run_mono (Cert.AdamOutIdeal.Value.run_blocks m g) fun r hr c => ?_
    obtain ⟨e0, e1, e2, e3, h⟩ := hr c
    have s0 : aS0 m c = m ((c : Thread nD τ).loc main_arg0) := V_main_arg0 m c
    have s1 : aS1 m c = m ((c : Thread nD τ).loc main_arg1) := V_main_arg1 m c
    have k0 := e0.trans (array_grad m c)
    have k1 := e1.trans (array_delta m c)
    have k2 := e2.trans (array_first m c)
    have k3 := e3.trans (array_second m c)
    rw [s0, s1] at k0 k1 k2 k3
    rw [host_w, host_m, host_v] at k1
    rw [host_m] at k2
    rw [host_v] at k3
    exact ⟨k0, k1, k2, k3, h⟩
  · refine θ_run_mono (Cert.AdamOutRefIdeal.Value.run m' g') fun r hr c => ?_
    obtain ⟨e0, e1, e2, e3, h⟩ := hr c
    obtain ⟨a0, a1, a2, a3, a4⟩ := hagree c
    rw [a0, a1] at e0 e1 e2 e3
    rw [a2, a3, a4] at e1
    rw [a3] at e2
    rw [a4] at e3
    exact ⟨e0.trans (ref_grad _ _), e1.trans (ref_delta _ _ _ _ _),
      e2.trans (ref_first _ _ _), e3.trans (ref_second _ _ _), h⟩
end Cert.Hand.AdamOut
end
-- ==== Proof.AdamMeta.lean ====
/- The optimiser's step of the meta tokens. -/
module
public import proofs.«01_k».proof.Proof.AdamMath
public import proofs.«01_k».proof.Proof.Gen.AdamMetaIdeal.Value
public import proofs.«01_k».proof.Proof.Gen.AdamMetaRefIdeal.Run
public import Idealize.ShloMosaic.Lib.Pipeline.ValueKit
public import Idealize.ShloMosaic.Lib.Claim
@[expose] public section
set_option maxRecDepth 16384
noncomputable section
namespace Cert.Hand.AdamMeta
open Cert.AdamMetaIdeal Cert.AdamMetaIdeal.Gen Idealize.ShloMosaic Idealize.ShloMosaic.TcCoe Idealize.SL.Sem AdamMath
open Idealize.ShloMosaic.Pipeline (Dat)
variable (m : (ℓ : Loc nD τ sig) → Buf (Elt Ideal) ℓ)

theorem pay_first (g p : FVec Ideal S16x256 .f32) (j : S16x256.Idx) : k0_pay3 (F := Ideal) g p j = first (g j) (p j) := by
  pointwise [k0_pay3, k0_pay2]
  rfl
theorem pay_second (g p : FVec Ideal S16x256 .f32) (j : S16x256.Idx) : k0_pay4 (F := Ideal) g p j = second (g j) (p j) := by
  pointwise [k0_pay4, k0_pay2]
  rfl
theorem pay_delta (g p q w : FVec Ideal S16x256 .f32) (j : S16x256.Idx) :
    k0_pay5 (F := Ideal) g p q w j = delta (g j) (w j) (p j) (q j) := by
  pointwise [k0_pay5, k0_pay4, k0_pay3, k0_pay2]
  rfl

/-- What the first result holds after the call: the sum of the eight blocks of gradients. -/
theorem left_grad (c : Dev nD) (t : Fin cfg0.N) (y : S16x256.Idx) :
    (outsAt0 m c t).1 y = ∑ d : Fin 8, (show FVec Ideal S8x16x256 .f32 from iblk m c 0 t) (ix3 d (y 0) (y 1)) := by
  unfold outsAt0
  frame_out
  rw [Fin.sum_univ_eight]
  idx_vars y
  pointwise [k0_pay1]

/-- The other results, from the first. -/
theorem left_rest (c : Dev nD) (t : Fin cfg0.N) (y : S16x256.Idx) :
    (outsAt0 m c t).2.1 y = delta ((outsAt0 m c t).1 y) (iblk m c 1 t y) (iblk m c 2 t y) (iblk m c 3 t y)
    ∧ (outsAt0 m c t).2.2.1 y = first ((outsAt0 m c t).1 y) (iblk m c 2 t y)
    ∧ (outsAt0 m c t).2.2.2 y = second ((outsAt0 m c t).1 y) (iblk m c 3 t y) := by
  unfold outsAt0
  frame_out
  exact ⟨pay_delta _ _ _ _ _, pay_first _ _ _, pay_second _ _ _⟩

abbrev aS (c : Dev nD) : FVec Ideal S8x16x256 .f32 := m ((c : Thread nD τ).loc main_arg0)
abbrev aW (c : Dev nD) : FVec Ideal S16x256 .f32 := m ((c : Thread nD τ).loc main_arg1)
abbrev aM (c : Dev nD) : FVec Ideal S16x256 .f32 := m ((c : Thread nD τ).loc main_arg2)
abbrev aV (c : Dev nD) : FVec Ideal S16x256 .f32 := m ((c : Thread nD τ).loc main_arg3)

/-- The gradient: the eight devices' added. -/
def G (S : FVec Ideal S8x16x256 .f32) : FVec Ideal S16x256 .f32 := fun j => ∑ d : Fin 8, S (ix3 d (j 0) (j 1))

/-- The reference's terms. -/
abbrev rG (S : FVec Ideal S8x16x256 .f32) : FVec Ideal S16x256 .f32 :=
  Host.reduceAdd S (constant Cert.AdamMetaRefIdeal.S_ .f32 0x00000000#32) Cert.AdamMetaRefIdeal.Gen.reducesTo_S8x16x256_S16x256_d0 Cert.AdamMetaRefIdeal.Gen.h_S_
abbrev rM (S : FVec Ideal S8x16x256 .f32) (M : FVec Ideal S16x256 .f32) : FVec Ideal S16x256 .f32 :=
  addf (mulf (broadcastInDim Cert.AdamMetaRefIdeal.S16x256 ![] Cert.AdamMetaRefIdeal.Gen.bcast_S_S16x256 (constant Cert.AdamMetaRefIdeal.S_ .f32 0x3F666666#32)) M) (mulf (broadcastInDim Cert.AdamMetaRefIdeal.S16x256 ![] Cert.AdamMetaRefIdeal.Gen.bcast_S_S16x256 (constant Cert.AdamMetaRefIdeal.S_ .f32 0x3DCCCCCD#32)) (rG S))
abbrev rV (S : FVec Ideal S8x16x256 .f32) (V : FVec Ideal S16x256 .f32) : FVec Ideal S16x256 .f32 :=
  addf (mulf (broadcastInDim Cert.AdamMetaRefIdeal.S16x256 ![] Cert.AdamMetaRefIdeal.Gen.bcast_S_S16x256 (constant Cert.AdamMetaRefIdeal.S_ .f32 0x3F7FBE77#32)) V) (mulf (broadcastInDim Cert.AdamMetaRefIdeal.S16x256 ![] Cert.AdamMetaRefIdeal.Gen.bcast_S_S16x256 (constant Cert.AdamMetaRefIdeal.S_ .f32 0x3A83126F#32)) (mulf (rG S) (rG S)))
abbrev rD (S : FVec Ideal S8x16x256 .f32) (W M V : FVec Ideal S16x256 .f32) : FVec Ideal S16x256 .f32 :=
  mulf (broadcastInDim Cert.AdamMetaRefIdeal.S16x256 ![] Cert.AdamMetaRefIdeal.Gen.bcast_S_S16x256 (constant Cert.AdamMetaRefIdeal.S_ .f32 0xBA83126F#32)) (addf (Host.divf (Host.divf (rM S M) (broadcastInDim Cert.AdamMetaRefIdeal.S16x256 ![] Cert.AdamMetaRefIdeal.Gen.bcast_S_S16x256 (constant Cert.AdamMetaRefIdeal.S_ .f32 0x3F26BD02#32)))
    (addf (Host.sqrt (Host.divf (rV S V) (broadcastInDim Cert.AdamMetaRefIdeal.S16x256 ![] Cert.AdamMetaRefIdeal.Gen.bcast_S_S16x256 (constant Cert.AdamMetaRefIdeal.S_ .f32 0x3C231ACC#32)))) (broadcastInDim Cert.AdamMetaRefIdeal.S16x256 ![] Cert.AdamMetaRefIdeal.Gen.bcast_S_S16x256 (constant Cert.AdamMetaRefIdeal.S_ .f32 0x322BCC77#32)))) (mulf (broadcastInDim Cert.AdamMetaRefIdeal.S16x256 ![] Cert.AdamMetaRefIdeal.Gen.bcast_S_S16x256 (constant Cert.AdamMetaRefIdeal.S_ .f32 0x3C23D70A#32)) W))

theorem ref_grad (S : FVec Ideal S8x16x256 .f32) : rG S = G S := by
  funext j
  idx_vars j
  pointwise [G]
  try rw [zero_add]

theorem ref_first (S : FVec Ideal S8x16x256 .f32) (M : FVec Ideal S16x256 .f32) : rM S M = fun j => first (G S j) (M j) := by
  unfold rM
  rw [ref_grad]
  funext j
  pointwise [first]

theorem ref_second (S : FVec Ideal S8x16x256 .f32) (V : FVec Ideal S16x256 .f32) : rV S V = fun j => second (G S j) (V j) := by
  unfold rV
  rw [ref_grad]
  funext j
  pointwise [second]

theorem ref_delta (S : FVec Ideal S8x16x256 .f32) (W M V : FVec Ideal S16x256 .f32) :
    rD S W M V = fun j => delta (G S j) (W j) (M j) (V j) := by
  unfold rD
  rw [ref_first, ref_second]
  funext j
  pointwise [delta]

theorem blocks : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem grad_at (c : Dev nD) (t : Fin cfg0.N) (y : S16x256.Idx) (j : S16x256.Idx) (h0 : (j 0).val = (y 0).val) (h1 : (j 1).val = (y 1).val) :
    (outsAt0 m c t).1 y = G (aS m c) j := by
  rw [left_grad]
  unfold G
  refine Finset.sum_congr rfl fun d _ => ?_
  blk_point [iblk, V, blocks t]

theorem array_grad (c : Dev nD) : (dats m 0 c).arrAt 4 (cfgs 0).N = G (aS m c) := by
  refine (dats m 0 c).arrAt_eq_of_covers 4 _ (by decide +kernel) fun t _ y => ?_
  blk_simp
  rw [after0_4]
  exact grad_at m c t y _ (by blk_simp [blocks t] <;> try omega) (by blk_simp [blocks t] <;> try omega)

theorem array_delta (c : Dev nD) : (dats m 0 c).arrAt 5 (cfgs 0).N = fun j => delta (G (aS m c) j) (aW m c j) (aM m c j) (aV m c j) := by
  refine (dats m 0 c).arrAt_eq_of_covers 5 _ (by decide +kernel) fun t _ y => ?_
  blk_simp
  rw [after0_5, (left_rest m c t y).1]
  rw [grad_at m c t y (((cfg0.win 5).blk t).view.emb y) (by blk_simp [blocks t] <;> try omega) (by blk_simp [blocks t] <;> try omega)]
  congr 1 <;> blk_point [iblk, V, blocks t]

theorem array_first (c : Dev nD) : (dats m 0 c).arrAt 6 (cfgs 0).N = fun j => first (G (aS m c) j) (aM m c j) := by
  refine (dats m 0 c).arrAt_eq_of_covers 6 _ (by decide +kernel) fun t _ y => ?_
  blk_simp
  rw [after0_6, (left_rest m c t y).2.1]
  rw [grad_at m c t y (((cfg0.win 6).blk t).view.emb y) (by blk_simp [blocks t] <;> try omega) (by blk_simp [blocks t] <;> try omega)]
  congr 1 <;> blk_point [iblk, V, blocks t]

theorem array_second (c : Dev nD) : (dats m 0 c).arrAt 7 (cfgs 0).N = fun j => second (G (aS m c) j) (aV m c j) := by
  refine (dats m 0 c).arrAt_eq_of_covers 7 _ (by decide +kernel) fun t _ y => ?_
  blk_simp
  rw [after0_7, (left_rest m c t y).2.2]
  rw [grad_at m c t y (((cfg0.win 7).blk t).view.emb y) (by blk_simp [blocks t] <;> try omega) (by blk_simp [blocks t] <;> try omega)]
  congr 1 <;> blk_point [iblk, V, blocks t]

theorem equal : Cert.algebraic_AdamMetaIdeal_AdamMetaRefIdeal := by
  pair_intro
  · run_from Cert.AdamMetaIdeal.Gen.run_main m g
  · refine θ_run_mono (Cert.AdamMetaRefIdeal.Value.run m' g') fun r hr c => ?_
    obtain ⟨e0, e1, e2, e3, h⟩ := hr c
    obtain ⟨a0, a1, a2, a3⟩ := hagree c
    rw [a0] at e0 e1 e2 e3
    rw [a1, a2, a3] at e1
    rw [a2] at e2
    rw [a3] at e3
    exact ⟨e0.trans ((ref_grad _).trans (array_grad m c).symm), e1.trans ((ref_delta _ _ _ _).trans (array_delta m c).symm),
      e2.trans ((ref_first _ _).trans (array_first m c).symm), e3.trans ((ref_second _ _).trans (array_second m c).symm), h⟩
end Cert.Hand.AdamMeta
end
-- ==== Proof.AdamNorm.lean ====
/- The optimiser's step of the norms' gains, laid out in lines of 128. -/
module
public import proofs.«01_k».proof.Proof.AdamMath
public import proofs.«01_k».proof.Proof.Gen.AdamNormIdeal.Value
public import proofs.«01_k».proof.Proof.Gen.AdamNormRefIdeal.Run
public import Idealize.ShloMosaic.Lib.Pipeline.ValueKit
public import Idealize.ShloMosaic.Lib.Pipeline.Value
public import Idealize.ShloMosaic.Lib.Claim
@[expose] public section
set_option maxRecDepth 16384
noncomputable section
namespace Cert.Hand.AdamNorm
open Cert.AdamNormIdeal Cert.AdamNormIdeal.Gen Idealize.ShloMosaic Idealize.ShloMosaic.TcCoe Idealize.SL.Sem AdamMath
open Idealize.ShloMosaic.Pipeline (Dat)
variable (m : (ℓ : Loc nD τ sig) → Buf (Elt Ideal) ℓ)

theorem pay_first (g p : FVec Ideal S32x128 .f32) (j : S32x128.Idx) : k0_pay3 (F := Ideal) g p j = first (g j) (p j) := by
  pointwise [k0_pay3, k0_pay2]
  rfl
theorem pay_second (g p : FVec Ideal S32x128 .f32) (j : S32x128.Idx) : k0_pay4 (F := Ideal) g p j = second (g j) (p j) := by
  pointwise [k0_pay4, k0_pay2]
  rfl
theorem pay_delta (g p q w : FVec Ideal S32x128 .f32) (j : S32x128.Idx) :
    k0_pay5 (F := Ideal) g p q w j = delta (g j) (w j) (p j) (q j) := by
  pointwise [k0_pay5, k0_pay4, k0_pay3, k0_pay2]
  rfl

/-- What the first result holds after the call: the sum of the eight blocks of gradients. -/
theorem left_grad (c : Dev nD) (t : Fin cfg0.N) (y : S32x128.Idx) :
    (outsAt0 m c t).1 y = ∑ d : Fin 8, (show FVec Ideal S8x32x128 .f32 from iblk m c 0 t) (ix3 d (y 0) (y 1)) := by
  unfold outsAt0
  frame_out
  rw [Fin.sum_univ_eight]
  idx_vars y
  pointwise [k0_pay1]

/-- The other results, from the first. -/
theorem left_rest (c : Dev nD) (t : Fin cfg0.N) (y : S32x128.Idx) :
    (outsAt0 m c t).2.1 y = delta ((outsAt0 m c t).1 y) (iblk m c 1 t y) (iblk m c 2 t y) (iblk m c 3 t y)
    ∧ (outsAt0 m c t).2.2.1 y = first ((outsAt0 m c t).1 y) (iblk m c 2 t y)
    ∧ (outsAt0 m c t).2.2.2 y = second ((outsAt0 m c t).1 y) (iblk m c 3 t y) := by
  unfold outsAt0
  frame_out
  exact ⟨pay_delta _ _ _ _ _, pay_first _ _ _, pay_second _ _ _⟩

/-- The call's operands, as the host leaves them. -/
abbrev aS (c : Dev nD) : FVec Ideal S8x32x128 .f32 := V m c main_arg0
abbrev aW (c : Dev nD) : FVec Ideal S32x128 .f32 := V m c main_v0
abbrev aM (c : Dev nD) : FVec Ideal S32x128 .f32 := V m c main_v1
abbrev aV (c : Dev nD) : FVec Ideal S32x128 .f32 := V m c main_v2

/-- The gradient: the eight devices' added. -/
def G (S : FVec Ideal S8x32x128 .f32) : FVec Ideal S32x128 .f32 := fun j => ∑ d : Fin 8, S (ix3 d (j 0) (j 1))

theorem blocks : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem grad_at (c : Dev nD) (t : Fin cfg0.N) (y : S32x128.Idx) (j : S32x128.Idx) (h0 : (j 0).val = (y 0).val) (h1 : (j 1).val = (y 1).val) :
    (outsAt0 m c t).1 y = G (aS m c) j := by
  rw [left_grad]
  unfold G
  refine Finset.sum_congr rfl fun d _ => ?_
  blk_point [iblk, blocks t]

theorem array_grad (c : Dev nD) : (dats m 0 c).arrAt 4 (cfgs 0).N = G (aS m c) := by
  refine (dats m 0 c).arrAt_eq_of_covers 4 _ (by decide +kernel) fun t _ y => ?_
  blk_simp
  rw [after0_4]
  exact grad_at m c t y _ (by blk_simp [blocks t] <;> try omega) (by blk_simp [blocks t] <;> try omega)

theorem array_delta (c : Dev nD) : (dats m 0 c).arrAt 5 (cfgs 0).N = fun j => delta (G (aS m c) j) (aW m c j) (aM m c j) (aV m c j) := by
  refine (dats m 0 c).arrAt_eq_of_covers 5 _ (by decide +kernel) fun t _ y => ?_
  blk_simp
  rw [after0_5, (left_rest m c t y).1]
  rw [grad_at m c t y (((cfg0.win 5).blk t).view.emb y) (by blk_simp [blocks t] <;> try omega) (by blk_simp [blocks t] <;> try omega)]
  congr 1 <;> blk_point [iblk, blocks t]

theorem array_first (c : Dev nD) : (dats m 0 c).arrAt 6 (cfgs 0).N = fun j => first (G (aS m c) j) (aM m c j) := by
  refine (dats m 0 c).arrAt_eq_of_covers 6 _ (by decide +kernel) fun t _ y => ?_
  blk_simp
  rw [after0_6, (left_rest m c t y).2.1]
  rw [grad_at m c t y (((cfg0.win 6).blk t).view.emb y) (by blk_simp [blocks t] <;> try omega) (by blk_simp [blocks t] <;> try omega)]
  congr 1 <;> blk_point [iblk, blocks t]

theorem array_second (c : Dev nD) : (dats m 0 c).arrAt 7 (cfgs 0).N = fun j => second (G (aS m c) j) (aV m c j) := by
  refine (dats m 0 c).arrAt_eq_of_covers 7 _ (by decide +kernel) fun t _ y => ?_
  blk_simp
  rw [after0_7, (left_rest m c t y).2.2]
  rw [grad_at m c t y (((cfg0.win 7).blk t).view.emb y) (by blk_simp [blocks t] <;> try omega) (by blk_simp [blocks t] <;> try omega)]
  congr 1 <;> blk_point [iblk, blocks t]

/-- The reference's terms, in the weight's own shape. -/
abbrev rS (S : FVec Ideal S8x32x128 .f32) : FVec Ideal S32x128 .f32 :=
  Host.reduceAdd S (constant Cert.AdamNormRefIdeal.S_ .f32 0x00000000#32) Cert.AdamNormRefIdeal.Gen.reducesTo_S8x32x128_S32x128_d0 Cert.AdamNormRefIdeal.Gen.h_S_
abbrev rG (S : FVec Ideal S8x32x128 .f32) : FVec Ideal S2x2048 .f32 := shapeCast S2x2048 (rS S) Cert.AdamNormRefIdeal.Gen.shapeCasts_S32x128_S2x2048
abbrev rM (g M : FVec Ideal S2x2048 .f32) : FVec Ideal S2x2048 .f32 :=
  addf (mulf (broadcastInDim Cert.AdamNormRefIdeal.S2x2048 ![] Cert.AdamNormRefIdeal.Gen.bcast_S_S2x2048 (constant Cert.AdamNormRefIdeal.S_ .f32 0x3F666666#32)) M) (mulf (broadcastInDim Cert.AdamNormRefIdeal.S2x2048 ![] Cert.AdamNormRefIdeal.Gen.bcast_S_S2x2048 (constant Cert.AdamNormRefIdeal.S_ .f32 0x3DCCCCCD#32)) g)
abbrev rV (g V : FVec Ideal S2x2048 .f32) : FVec Ideal S2x2048 .f32 :=
  addf (mulf (broadcastInDim Cert.AdamNormRefIdeal.S2x2048 ![] Cert.AdamNormRefIdeal.Gen.bcast_S_S2x2048 (constant Cert.AdamNormRefIdeal.S_ .f32 0x3F7FBE77#32)) V) (mulf (broadcastInDim Cert.AdamNormRefIdeal.S2x2048 ![] Cert.AdamNormRefIdeal.Gen.bcast_S_S2x2048 (constant Cert.AdamNormRefIdeal.S_ .f32 0x3A83126F#32)) (mulf g g))
abbrev rD (g W M V : FVec Ideal S2x2048 .f32) : FVec Ideal S2x2048 .f32 :=
  mulf (broadcastInDim Cert.AdamNormRefIdeal.S2x2048 ![] Cert.AdamNormRefIdeal.Gen.bcast_S_S2x2048 (constant Cert.AdamNormRefIdeal.S_ .f32 0xBA83126F#32)) (addf (Host.divf (Host.divf (rM g M) (broadcastInDim Cert.AdamNormRefIdeal.S2x2048 ![] Cert.AdamNormRefIdeal.Gen.bcast_S_S2x2048 (constant Cert.AdamNormRefIdeal.S_ .f32 0x3F26BD02#32)))
    (addf (Host.sqrt (Host.divf (rV g V) (broadcastInDim Cert.AdamNormRefIdeal.S2x2048 ![] Cert.AdamNormRefIdeal.Gen.bcast_S_S2x2048 (constant Cert.AdamNormRefIdeal.S_ .f32 0x3C231ACC#32)))) (broadcastInDim Cert.AdamNormRefIdeal.S2x2048 ![] Cert.AdamNormRefIdeal.Gen.bcast_S_S2x2048 (constant Cert.AdamNormRefIdeal.S_ .f32 0x322BCC77#32)))) (mulf (broadcastInDim Cert.AdamNormRefIdeal.S2x2048 ![] Cert.AdamNormRefIdeal.Gen.bcast_S_S2x2048 (constant Cert.AdamNormRefIdeal.S_ .f32 0x3C23D70A#32)) W))
/-- The weight's shape read in lines. -/
abbrev flat (x : FVec Ideal S2x2048 .f32) : FVec Ideal S32x128 .f32 := shapeCast S32x128 x Cert.AdamNormRefIdeal.Gen.shapeCasts_S2x2048_S32x128

theorem rM_at (g M : FVec Ideal S2x2048 .f32) (j : S2x2048.Idx) : rM g M j = first (g j) (M j) := by pointwise [first]
theorem rV_at (g V : FVec Ideal S2x2048 .f32) (j : S2x2048.Idx) : rV g V j = second (g j) (V j) := by pointwise [second]
theorem rD_at (g W M V : FVec Ideal S2x2048 .f32) (j : S2x2048.Idx) : rD g W M V j = delta (g j) (W j) (M j) (V j) := by
  pointwise [delta, first, second]

theorem ref_sum (S : FVec Ideal S8x32x128 .f32) : rS S = G S := by
  funext j
  idx_vars j
  pointwise [G]
  try rw [zero_add]

theorem ref_grad (S : FVec Ideal S8x32x128 .f32) : flat (rG S) = G S := by
  unfold flat rG
  rw [shapeCast_shapeCast]
  exact ref_sum S

theorem ref_first (S : FVec Ideal S8x32x128 .f32) (M : FVec Ideal S2x2048 .f32) : flat (rM (rG S) M) = fun j => first (G S j) (flat M j) := by
  rw [← ref_grad]
  funext j
  exact rM_at _ _ _
theorem ref_second (S : FVec Ideal S8x32x128 .f32) (V : FVec Ideal S2x2048 .f32) : flat (rV (rG S) V) = fun j => second (G S j) (flat V j) := by
  rw [← ref_grad]
  funext j
  exact rV_at _ _ _
theorem ref_delta (S : FVec Ideal S8x32x128 .f32) (W M V : FVec Ideal S2x2048 .f32) :
    flat (rD (rG S) W M V) = fun j => delta (G S j) (flat W j) (flat M j) (flat V j) := by
  rw [← ref_grad]
  funext j
  exact rD_at _ _ _ _ _

theorem host_w (c : Dev nD) : aW m c = flat (m ((c : Thread nD τ).loc main_arg1)) := by unfold aW V; after_results; try rfl
theorem host_m (c : Dev nD) : aM m c = flat (m ((c : Thread nD τ).loc main_arg2)) := by unfold aM V; after_results; try rfl
theorem host_v (c : Dev nD) : aV m c = flat (m ((c : Thread nD τ).loc main_arg3)) := by unfold aV V; after_results; try rfl

theorem equal : Cert.algebraic_AdamNormIdeal_AdamNormRefIdeal := by
  pair_intro
  · run_from Cert.AdamNormIdeal.Gen.run_main m g
  · refine θ_run_mono (Cert.AdamNormRefIdeal.Value.run m' g') fun r hr c => ?_
    obtain ⟨e0, e1, e2, e3, h⟩ := hr c
    obtain ⟨a0, a1, a2, a3⟩ := hagree c
    rw [a0] at e0 e1 e2 e3
    rw [a1, a2, a3] at e1
    rw [a2] at e2
    rw [a3] at e3
    refine ⟨e0.trans ((ref_grad _).trans ?_), e1.trans ((ref_delta _ _ _ _).trans ?_),
      e2.trans ((ref_first _ _).trans ?_), e3.trans ((ref_second _ _).trans ?_), h⟩
    · exact ((array_grad m c).trans (by rw [aS, V_main_arg0])).symm
    · exact ((array_delta m c).trans (by rw [aS, V_main_arg0, host_w, host_m, host_v])).symm
    · exact ((array_first m c).trans (by rw [aS, V_main_arg0, host_m])).symm
    · exact ((array_second m c).trans (by rw [aS, V_main_arg0, host_v])).symm
end Cert.Hand.AdamNorm
end
-- ==== Proof.AdamSmall.lean ====
/- The optimiser's step of the small weights, laid out one after another in lines of 128. -/
module
public import proofs.«01_k».proof.Proof.AdamMath
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.Value
public import Idealize.ShloMosaic.Lib.Claim
@[expose] public section
set_option maxRecDepth 16384
noncomputable section
namespace Cert.Hand.AdamSmall
open Cert.AdamSmallIdeal Cert.AdamSmallIdeal.Gen Idealize.ShloMosaic Idealize.ShloMosaic.TcCoe Idealize.SL.Sem AdamMath
open Idealize.ShloMosaic.Pipeline (Dat)
variable (m : (ℓ : Loc nD τ sig) → Buf (Elt Ideal) ℓ)

theorem pay_first (g p : FVec Ideal S1048x128 .f32) (j : S1048x128.Idx) : k0_pay3 (F := Ideal) g p j = first (g j) (p j) := by
  pointwise [k0_pay3, k0_pay2]
  rfl
theorem pay_second (g p : FVec Ideal S1048x128 .f32) (j : S1048x128.Idx) : k0_pay4 (F := Ideal) g p j = second (g j) (p j) := by
  pointwise [k0_pay4, k0_pay2]
  rfl
theorem pay_delta (g p q w : FVec Ideal S1048x128 .f32) (j : S1048x128.Idx) :
    k0_pay5 (F := Ideal) g p q w j = delta (g j) (w j) (p j) (q j) := by
  pointwise [k0_pay5, k0_pay4, k0_pay3, k0_pay2]
  rfl

/-- What the first result holds after the call: the sum of the eight blocks of gradients. -/
theorem left_grad (c : Dev nD) (t : Fin cfg0.N) (y : S1048x128.Idx) :
    (outsAt0 m c t).1 y = ∑ d : Fin 8, (show FVec Ideal S8x1048x128 .f32 from iblk m c 0 t) (ix3 d (y 0) (y 1)) := by
  unfold outsAt0
  frame_out
  rw [Fin.sum_univ_eight]
  idx_vars y
  pointwise [k0_pay1]

/-- The other results, from the first. -/
theorem left_rest (c : Dev nD) (t : Fin cfg0.N) (y : S1048x128.Idx) :
    (outsAt0 m c t).2.1 y = delta ((outsAt0 m c t).1 y) (iblk m c 1 t y) (iblk m c 2 t y) (iblk m c 3 t y)
    ∧ (outsAt0 m c t).2.2.1 y = first ((outsAt0 m c t).1 y) (iblk m c 2 t y)
    ∧ (outsAt0 m c t).2.2.2 y = second ((outsAt0 m c t).1 y) (iblk m c 3 t y) := by
  unfold outsAt0
  frame_out
  exact ⟨pay_delta _ _ _ _ _, pay_first _ _ _, pay_second _ _ _⟩

/-- The call's operands, as the host leaves them. -/
abbrev aS (c : Dev nD) : FVec Ideal S8x1048x128 .f32 := V m c main_arg0
abbrev aW (c : Dev nD) : FVec Ideal S1048x128 .f32 := V m c main_v9
abbrev aM (c : Dev nD) : FVec Ideal S1048x128 .f32 := V m c main_v19
abbrev aV (c : Dev nD) : FVec Ideal S1048x128 .f32 := V m c main_v29

/-- The gradient: the eight devices' added. -/
def G (S : FVec Ideal S8x1048x128 .f32) : FVec Ideal S1048x128 .f32 := fun j => ∑ d : Fin 8, S (ix3 d (j 0) (j 1))

theorem blocks : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem grad_at (c : Dev nD) (t : Fin cfg0.N) (y : S1048x128.Idx) (j : S1048x128.Idx) (h0 : (j 0).val = (y 0).val) (h1 : (j 1).val = (y 1).val) :
    (outsAt0 m c t).1 y = G (aS m c) j := by
  rw [left_grad]
  unfold G
  refine Finset.sum_congr rfl fun d _ => ?_
  blk_point [iblk, blocks t]

theorem array_grad (c : Dev nD) : (dats m 0 c).arrAt 4 (cfgs 0).N = G (aS m c) := by
  refine (dats m 0 c).arrAt_eq_of_covers 4 _ (by decide +kernel) fun t _ y => ?_
  blk_simp
  rw [after0_4]
  exact grad_at m c t y _ (by blk_simp [blocks t] <;> try omega) (by blk_simp [blocks t] <;> try omega)

theorem array_delta (c : Dev nD) : (dats m 0 c).arrAt 5 (cfgs 0).N = fun j => delta (G (aS m c) j) (aW m c j) (aM m c j) (aV m c j) := by
  refine (dats m 0 c).arrAt_eq_of_covers 5 _ (by decide +kernel) fun t _ y => ?_
  blk_simp
  rw [after0_5, (left_rest m c t y).1]
  rw [grad_at m c t y (((cfg0.win 5).blk t).view.emb y) (by blk_simp [blocks t] <;> try omega) (by blk_simp [blocks t] <;> try omega)]
  congr 1 <;> blk_point [iblk, blocks t]

theorem array_first (c : Dev nD) : (dats m 0 c).arrAt 6 (cfgs 0).N = fun j => first (G (aS m c) j) (aM m c j) := by
  refine (dats m 0 c).arrAt_eq_of_covers 6 _ (by decide +kernel) fun t _ y => ?_
  blk_simp
  rw [after0_6, (left_rest m c t y).2.1]
  rw [grad_at m c t y (((cfg0.win 6).blk t).view.emb y) (by blk_simp [blocks t] <;> try omega) (by blk_simp [blocks t] <;> try omega)]
  congr 1 <;> blk_point [iblk, blocks t]

theorem array_second (c : Dev nD) : (dats m 0 c).arrAt 7 (cfgs 0).N = fun j => second (G (aS m c) j) (aV m c j) := by
  refine (dats m 0 c).arrAt_eq_of_covers 7 _ (by decide +kernel) fun t _ y => ?_
  blk_simp
  rw [after0_7, (left_rest m c t y).2.2]
  rw [grad_at m c t y (((cfg0.win 7).blk t).view.emb y) (by blk_simp [blocks t] <;> try omega) (by blk_simp [blocks t] <;> try omega)]
  congr 1 <;> blk_point [iblk, blocks t]

/-- Seven weights one after another, in lines. -/
def lines (x0 : FVec Ideal Cert.AdamSmallRefIdeal.S2x512 .f32) (x1 : FVec Ideal Cert.AdamSmallRefIdeal.S2x64 .f32) (x2 : FVec Ideal Cert.AdamSmallRefIdeal.S2x64 .f32) (x3 : FVec Ideal Cert.AdamSmallRefIdeal.S2x16 .f32) (x4 : FVec Ideal Cert.AdamSmallRefIdeal.S2x128 .f32) (x5 : FVec Ideal Cert.AdamSmallRefIdeal.S2x4x128x128 .f32) (x6 : FVec Ideal Cert.AdamSmallRefIdeal.S2x512 .f32) : FVec Ideal S1048x128 .f32 :=
  shapeCast S1048x128 (pad Cert.AdamSmallRefIdeal.S134144 ![0] ![480] ![0] (concatenate Cert.AdamSmallRefIdeal.S133664 0 [⟨Cert.AdamSmallRefIdeal.S1024, (shapeCast Cert.AdamSmallRefIdeal.S1024 x0 Cert.AdamSmallRefIdeal.Gen.shapeCasts_S2x512_S1024 : FVec Ideal Cert.AdamSmallRefIdeal.S1024 .f32)⟩, ⟨Cert.AdamSmallRefIdeal.S128, (shapeCast Cert.AdamSmallRefIdeal.S128 x1 Cert.AdamSmallRefIdeal.Gen.shapeCasts_S2x64_S128 : FVec Ideal Cert.AdamSmallRefIdeal.S128 .f32)⟩, ⟨Cert.AdamSmallRefIdeal.S128, (shapeCast Cert.AdamSmallRefIdeal.S128 x2 Cert.AdamSmallRefIdeal.Gen.shapeCasts_S2x64_S128 : FVec Ideal Cert.AdamSmallRefIdeal.S128 .f32)⟩, ⟨Cert.AdamSmallRefIdeal.S32, (shapeCast Cert.AdamSmallRefIdeal.S32 x3 Cert.AdamSmallRefIdeal.Gen.shapeCasts_S2x16_S32 : FVec Ideal Cert.AdamSmallRefIdeal.S32 .f32)⟩, ⟨Cert.AdamSmallRefIdeal.S256, (shapeCast Cert.AdamSmallRefIdeal.S256 x4 Cert.AdamSmallRefIdeal.Gen.shapeCasts_S2x128_S256 : FVec Ideal Cert.AdamSmallRefIdeal.S256 .f32)⟩, ⟨Cert.AdamSmallRefIdeal.S131072, (shapeCast Cert.AdamSmallRefIdeal.S131072 x5 Cert.AdamSmallRefIdeal.Gen.shapeCasts_S2x4x128x128_S131072 : FVec Ideal Cert.AdamSmallRefIdeal.S131072 .f32)⟩, ⟨Cert.AdamSmallRefIdeal.S1024, (shapeCast Cert.AdamSmallRefIdeal.S1024 x6 Cert.AdamSmallRefIdeal.Gen.shapeCasts_S2x512_S1024 : FVec Ideal Cert.AdamSmallRefIdeal.S1024 .f32)⟩] Cert.AdamSmallRefIdeal.Gen.concatenates_S1024_S128_S128_S32_S256_S131072_S1024_S133664_d0 : FVec Ideal Cert.AdamSmallRefIdeal.S133664 .f32)
    (sitofp .f32 (constantI Cert.AdamSmallRefIdeal.S_ 32 0#32)) Cert.AdamSmallRefIdeal.Gen.pads_S133664_S134144_04800 Cert.AdamSmallRefIdeal.Gen.h_S_) Cert.AdamSmallRefIdeal.Gen.shapeCasts_S134144_S1048x128

/-- The reference's terms. -/
abbrev rG (S : FVec Ideal S8x1048x128 .f32) : FVec Ideal S1048x128 .f32 :=
  Host.reduceAdd S (constant Cert.AdamSmallRefIdeal.S_ .f32 0x00000000#32) Cert.AdamSmallRefIdeal.Gen.reducesTo_S8x1048x128_S1048x128_d0 Cert.AdamSmallRefIdeal.Gen.h_S_
abbrev rM (S : FVec Ideal S8x1048x128 .f32) (M : FVec Ideal S1048x128 .f32) : FVec Ideal S1048x128 .f32 :=
  addf (mulf (broadcastInDim Cert.AdamSmallRefIdeal.S1048x128 ![] Cert.AdamSmallRefIdeal.Gen.bcast_S_S1048x128 (constant Cert.AdamSmallRefIdeal.S_ .f32 0x3F666666#32)) M) (mulf (broadcastInDim Cert.AdamSmallRefIdeal.S1048x128 ![] Cert.AdamSmallRefIdeal.Gen.bcast_S_S1048x128 (constant Cert.AdamSmallRefIdeal.S_ .f32 0x3DCCCCCD#32)) (rG S))
abbrev rV (S : FVec Ideal S8x1048x128 .f32) (V : FVec Ideal S1048x128 .f32) : FVec Ideal S1048x128 .f32 :=
  addf (mulf (broadcastInDim Cert.AdamSmallRefIdeal.S1048x128 ![] Cert.AdamSmallRefIdeal.Gen.bcast_S_S1048x128 (constant Cert.AdamSmallRefIdeal.S_ .f32 0x3F7FBE77#32)) V) (mulf (broadcastInDim Cert.AdamSmallRefIdeal.S1048x128 ![] Cert.AdamSmallRefIdeal.Gen.bcast_S_S1048x128 (constant Cert.AdamSmallRefIdeal.S_ .f32 0x3A83126F#32)) (mulf (rG S) (rG S)))
abbrev rD (S : FVec Ideal S8x1048x128 .f32) (W M V : FVec Ideal S1048x128 .f32) : FVec Ideal S1048x128 .f32 :=
  mulf (broadcastInDim Cert.AdamSmallRefIdeal.S1048x128 ![] Cert.AdamSmallRefIdeal.Gen.bcast_S_S1048x128 (constant Cert.AdamSmallRefIdeal.S_ .f32 0xBA83126F#32)) (addf (Host.divf (Host.divf (rM S M) (broadcastInDim Cert.AdamSmallRefIdeal.S1048x128 ![] Cert.AdamSmallRefIdeal.Gen.bcast_S_S1048x128 (constant Cert.AdamSmallRefIdeal.S_ .f32 0x3F26BD02#32)))
    (addf (Host.sqrt (Host.divf (rV S V) (broadcastInDim Cert.AdamSmallRefIdeal.S1048x128 ![] Cert.AdamSmallRefIdeal.Gen.bcast_S_S1048x128 (constant Cert.AdamSmallRefIdeal.S_ .f32 0x3C231ACC#32)))) (broadcastInDim Cert.AdamSmallRefIdeal.S1048x128 ![] Cert.AdamSmallRefIdeal.Gen.bcast_S_S1048x128 (constant Cert.AdamSmallRefIdeal.S_ .f32 0x322BCC77#32)))) (mulf (broadcastInDim Cert.AdamSmallRefIdeal.S1048x128 ![] Cert.AdamSmallRefIdeal.Gen.bcast_S_S1048x128 (constant Cert.AdamSmallRefIdeal.S_ .f32 0x3C23D70A#32)) W))

theorem ref_grad (S : FVec Ideal S8x1048x128 .f32) : rG S = G S := by
  funext j
  idx_vars j
  pointwise [G]
  try rw [zero_add]

theorem ref_first (S : FVec Ideal S8x1048x128 .f32) (M : FVec Ideal S1048x128 .f32) : rM S M = fun j => first (G S j) (M j) := by
  unfold rM
  rw [ref_grad]
  funext j
  pointwise [first]

theorem ref_second (S : FVec Ideal S8x1048x128 .f32) (V : FVec Ideal S1048x128 .f32) : rV S V = fun j => second (G S j) (V j) := by
  unfold rV
  rw [ref_grad]
  funext j
  pointwise [second]

theorem ref_delta (S : FVec Ideal S8x1048x128 .f32) (W M V : FVec Ideal S1048x128 .f32) :
    rD S W M V = fun j => delta (G S j) (W j) (M j) (V j) := by
  unfold rD
  rw [ref_first, ref_second]
  funext j
  pointwise [delta]

set_option maxHeartbeats 2000000 in
theorem host_w (c : Dev nD) : aW m c = lines (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold aW V
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

set_option maxHeartbeats 2000000 in
theorem host_m (c : Dev nD) : aM m c = lines (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold aM V
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

set_option maxHeartbeats 2000000 in
theorem host_v (c : Dev nD) : aV m c = lines (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  unfold aV V
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

set_option maxHeartbeats 2000000 in
theorem equal : Cert.algebraic_AdamSmallIdeal_AdamSmallRefIdeal := by
  intro m g m' g' _ hagree
  refine ⟨fun c => G (m ((c : Thread nD τ).loc main_arg0)),
    fun c j => delta (G (m ((c : Thread nD τ).loc main_arg0)) j) (lines (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j) (lines (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) j) (lines (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) j),
    fun c j => first (G (m ((c : Thread nD τ).loc main_arg0)) j) (lines (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) j),
    fun c j => second (G (m ((c : Thread nD τ).loc main_arg0)) j) (lines (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) j), ?_, ?_⟩
  · refine θ_run_mono (Cert.AdamSmallIdeal.Value.run_blocks m g) fun r hr c => ?_
    obtain ⟨e0, e1, e2, e3, h⟩ := hr c
    have hs : aS m c = m ((c : Thread nD τ).loc main_arg0) := V_main_arg0 m c
    have k0 := e0.trans (array_grad m c)
    have k1 := e1.trans (array_delta m c)
    have k2 := e2.trans (array_first m c)
    have k3 := e3.trans (array_second m c)
    rw [hs] at k0 k1 k2 k3
    rw [host_w, host_m, host_v] at k1
    rw [host_m] at k2
    rw [host_v] at k3
    exact ⟨k0, k1, k2, k3, h⟩
  · refine θ_run_mono (Cert.AdamSmallRefIdeal.Value.run m' g') fun r hr c => ?_
    obtain ⟨e0, e1, e2, e3, h⟩ := hr c
    obtain ⟨a0, a1, a2, a3, a4, a5, a6, a7, a8, a9, a10, a11, a12, a13, a14, a15, a16, a17, a18, a19, a20, a21⟩ := hagree c
    unfold Cert.AdamSmallRefIdeal.Value.res_main_v54 at e1
    rw [a0] at e0 e1 e2 e3
    rw [a1, a2, a3, a4, a5, a6, a7, a8, a9, a10, a11, a12, a13, a14, a15, a16, a17, a18, a19, a20, a21] at e1
    rw [a8, a9, a10, a11, a12, a13, a14] at e2
    rw [a15, a16, a17, a18, a19, a20, a21] at e3
    exact ⟨e0.trans (ref_grad _), e1.trans (ref_delta _ (lines (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (lines (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (lines (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))),
      e2.trans (ref_first _ (lines (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))), e3.trans (ref_second _ (lines (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))), h⟩
end Cert.Hand.AdamSmall
end
-- ==== Proof.AttnRow.lean ====
/- One query of an attention with a sink, in real numbers: its masked scores, the weights they give, and the gradient of
   the weights, in the short form a kernel uses (from the logarithm of the normaliser) and in the long form differentiation gives
   (through the maximum and the quotient). Both are the same numbers. -/
module
public import proofs.«01_k».proof.Proof.Reals
@[expose] public section
noncomputable section
namespace Cert.Hand.Attn
open Idealize.ShloMosaic

/-- A finite sum of reals, taken among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (a : ℝ) {b : ℝ} (h : b ≠ 0) : Ideal.div (a : EReal) (b : EReal) = ((a / b : ℝ) : EReal) := by
  rw [Ideal.div_coe h, ← EReal.coe_mul]; congr 1; ring

variable {ι : Type} [Fintype ι] (A : ι → Prop) [DecidablePred A] (x : ι → ℝ) (σ : ℝ) (dw : ι → ℝ) (M : ℝ)

/-- A score: a real where the key is allowed, minus infinity where it is not. -/
def score (s : ι) : EReal := if A s then (x s : EReal) else ⊥
/-- The exponential of a score less `M`. -/
def num (s : ι) : ℝ := if A s then Real.exp (x s - M) else 0
/-- The normaliser: all keys and the sink. -/
def den : ℝ := (∑ s, num A x M s) + Real.exp (σ - M)
/-- The weight of a key. -/
def weight (s : ι) : ℝ := num A x 0 s / den A x σ 0
/-- The weight of the sink. -/
def sinkWeight : ℝ := Real.exp σ / den A x σ 0
/-- The mean of `dw` under the weights. -/
def mean : ℝ := ∑ s, weight A x σ s * dw s
/-- The gradient of a score. -/
def dscore (s : ι) : ℝ := weight A x σ s * (dw s - mean A x σ dw)

theorem num_shift (s : ι) : num A x M s = Real.exp (-M) * num A x 0 s := by
  unfold num; split
  · rw [← Real.exp_add]; congr 1; ring
  · simp

theorem den_shift : den A x σ M = Real.exp (-M) * den A x σ 0 := by
  unfold den
  rw [mul_add, Finset.mul_sum, ← Real.exp_add, Finset.sum_congr rfl fun s _ => num_shift A x M s]
  congr 2; ring

theorem num_nonneg (s : ι) : 0 ≤ num A x M s := by unfold num; split <;> positivity

theorem den_pos : 0 < den A x σ M := by
  unfold den
  have := Finset.sum_nonneg fun s (_ : s ∈ Finset.univ) => num_nonneg A x M s
  have := Real.exp_pos (σ - M)
  linarith

theorem weight_eq (s : ι) : num A x M s / den A x σ M = weight A x σ s := by
  unfold weight
  rw [num_shift, den_shift, mul_div_mul_left _ _ (Real.exp_ne_zero _)]

theorem sinkWeight_eq : Real.exp (σ - M) / den A x σ M = sinkWeight A x σ := by
  unfold sinkWeight
  rw [den_shift, show Real.exp (σ - M) = Real.exp (-M) * Real.exp σ by rw [← Real.exp_add]; congr 1; ring,
    mul_div_mul_left _ _ (Real.exp_ne_zero _)]

/-- The maximum of the scores and the sink is a real. -/
theorem max_real : ∃ M : ℝ, max (Finset.univ.fold max ⊥ (score A x)) (σ : EReal) = M := by
  have h : ∀ s : Finset ι, s.fold max ⊥ (score A x) ≠ ⊤ := fun s => by
    classical
    induction s using Finset.induction_on with
    | empty => simp
    | insert a s ha ih =>
      rw [Finset.fold_insert ha]
      refine ne_of_lt (max_lt ?_ (lt_top_iff_ne_top.2 ih))
      unfold score; split
      · exact EReal.coe_lt_top _
      · exact bot_lt_top
  refine ⟨_, (EReal.coe_toReal (ne_of_lt (max_lt (lt_top_iff_ne_top.2 (h _)) (EReal.coe_lt_top _))) (ne_of_gt ?_)).symm⟩
  exact lt_of_lt_of_le (EReal.bot_lt_coe σ) (le_max_right _ _)

theorem exp_score (s : ι) : Ideal.exp (score A x s - (M : EReal)) = (num A x M s : EReal) := by
  unfold score num; split
  · rw [← EReal.coe_sub, Ideal.exp_coe]
  · rw [EReal.bot_sub, Ideal.exp_bot]; rfl

theorem exp_sink : Ideal.exp ((σ : EReal) - (M : EReal)) = (Real.exp (σ - M) : EReal) := by
  rw [← EReal.coe_sub, Ideal.exp_coe]

/-- The normaliser as the programs add it up. -/
theorem den_coe : (∑ s, Ideal.exp (score A x s - (M : EReal))) + Ideal.exp ((σ : EReal) - (M : EReal)) = (den A x σ M : EReal) := by
  rw [Finset.sum_congr rfl fun s _ => exp_score A x M s, coe_sum, exp_sink, ← EReal.coe_add]; rfl

/-- The logarithm of the normaliser, put together from the maximum, does not depend on it. -/
theorem log_den : (M : EReal) + Ideal.log (den A x σ M : EReal) = (Real.log (den A x σ 0) : EReal) := by
  rw [Ideal.log_coe, if_neg (den_pos A x σ M).not_ge, ← EReal.coe_add, den_shift,
    Real.log_mul (Real.exp_ne_zero _) (den_pos A x σ 0).ne', Real.log_exp]
  congr 1; ring

theorem num_log (s : ι) : num A x (Real.log (den A x σ 0)) s = weight A x σ s := by
  unfold weight num; split
  · rw [Real.exp_sub, Real.exp_log (den_pos A x σ 0), sub_zero]
  · simp

theorem sink_log : Real.exp (σ - Real.log (den A x σ 0)) = sinkWeight A x σ := by
  unfold sinkWeight
  rw [Real.exp_sub, Real.exp_log (den_pos A x σ 0)]

/-- What the quotient's gradient gives the normaliser. -/
def pull : ℝ := ∑ s, dw s * (1 / (den A x σ M * den A x σ M)) * num A x M s

theorem pull_eq : pull A x σ dw M = mean A x σ dw / den A x σ M := by
  unfold pull mean
  rw [Finset.sum_div]
  refine Finset.sum_congr rfl fun s _ => ?_
  rw [← weight_eq A x σ M]
  have := (den_pos A x σ M).ne'
  field_simp

/-- A score's gradient, as differentiation gives it before the maximum's part. -/
theorem dscore_eq (s : ι) : (dw s / den A x σ M + -pull A x σ dw M) * num A x M s = dscore A x σ dw s := by
  unfold dscore
  rw [pull_eq, ← weight_eq A x σ M]
  have := (den_pos A x σ M).ne'
  field_simp; ring

/-- The maximum's gradient is zero. -/
theorem dmax_eq : -(-pull A x σ dw M * Real.exp (σ - M)) + ∑ s, -dscore A x σ dw s = 0 := by
  have h : ∑ s, -dscore A x σ dw s = -(mean A x σ dw - (∑ s, weight A x σ s) * mean A x σ dw) := by
    rw [Finset.sum_neg_distrib, Finset.sum_mul]
    congr 1
    unfold dscore
    rw [show mean A x σ dw = ∑ s, weight A x σ s * dw s from rfl, ← Finset.sum_sub_distrib]
    exact Finset.sum_congr rfl fun s _ => by ring
  have hs : (∑ s, weight A x σ s) + sinkWeight A x σ = 1 := by
    unfold weight sinkWeight
    rw [← Finset.sum_div, ← add_div]
    have h0 : (∑ s, num A x 0 s) + Real.exp σ = den A x σ 0 := by unfold den; rw [sub_zero]
    rw [h0]; exact div_self (den_pos A x σ 0).ne'
  rw [h, pull_eq, show -(-(mean A x σ dw / den A x σ M) * Real.exp (σ - M)) = mean A x σ dw * (Real.exp (σ - M) / den A x σ M) by ring,
    sinkWeight_eq]
  have : sinkWeight A x σ = 1 - ∑ s, weight A x σ s := by linarith
  rw [this]; ring

theorem sink_pull : -pull A x σ dw M * Real.exp (σ - M) = -(sinkWeight A x σ * mean A x σ dw) := by
  rw [pull_eq, ← sinkWeight_eq A x σ M]; ring

theorem weight_off (s : ι) (h : ¬A s) : weight A x σ s = 0 := by
  unfold weight num; rw [if_neg h, zero_div]

theorem dscore_off (s : ι) (h : ¬A s) : dscore A x σ dw s = 0 := by
  unfold dscore; rw [weight_off A x σ s h, zero_mul]

/-- A zero shared among the places that meet a maximum is zero at each. -/
theorem tie (e : ι → ℝ) (he : ∀ s, e s = 0 ∨ e s = 1) (s : ι) (y : EReal) :
    Ideal.div (0 * y) (0 + ∑ s, ((e s : ℝ) : EReal)) * (e s : EReal) = 0 := by
  rcases he s with h | h
  · rw [h]; simp
  · have : (0 : ℝ) < ∑ s, e s := by
      refine lt_of_lt_of_le one_pos (h ▸ Finset.single_le_sum (fun i _ => ?_) (Finset.mem_univ s))
      rcases he i with h | h <;> rw [h] <;> norm_num
    rw [zero_mul, zero_add, coe_sum, Ideal.div_coe this.ne', zero_mul, zero_mul]

/-- Two lists of scores that agree where keys are allowed have the same weights … -/
theorem num_congr {x x' : ι → ℝ} (h : ∀ s, A s → x s = x' s) (s : ι) : num A x M s = num A x' M s := by
  unfold num; split
  · next hs => rw [h s hs]
  · rfl
theorem den_congr {x x' : ι → ℝ} (h : ∀ s, A s → x s = x' s) : den A x σ M = den A x' σ M := by
  unfold den; rw [Finset.sum_congr rfl fun s _ => num_congr A M h s]
theorem weight_congr {x x' : ι → ℝ} (h : ∀ s, A s → x s = x' s) (s : ι) : weight A x σ s = weight A x' σ s := by
  unfold weight; rw [num_congr A 0 h, den_congr A σ 0 h]
theorem sinkWeight_congr {x x' : ι → ℝ} (h : ∀ s, A s → x s = x' s) : sinkWeight A x σ = sinkWeight A x' σ := by
  unfold sinkWeight; rw [den_congr A σ 0 h]
/-- … and what a sum of anything under the weights is, only the allowed places say. -/
theorem sum_congr_allowed {x x' : ι → ℝ} (h : ∀ s, A s → x s = x' s) {f f' : ι → ℝ} (hf : ∀ s, A s → f s = f' s) :
    ∑ s, weight A x σ s * f s = ∑ s, weight A x' σ s * f' s := by
  refine Finset.sum_congr rfl fun s _ => ?_
  rw [weight_congr A σ h]
  by_cases hs : A s
  · rw [hf s hs]
  · rw [weight_off A x' σ s hs, zero_mul, zero_mul]
theorem dscore_congr {x x' : ι → ℝ} (h : ∀ s, A s → x s = x' s) {f f' : ι → ℝ} (hf : ∀ s, A s → f s = f' s) (s : ι) :
    dscore A x σ f s = dscore A x' σ f' s := by
  unfold dscore
  rw [show mean A x σ f = mean A x' σ f' from sum_congr_allowed A σ h hf]
  by_cases hs : A s
  · rw [hf s hs, weight_congr A σ h]
  · rw [weight_off A x σ s hs, weight_off A x' σ s hs, zero_mul, zero_mul]

end Cert.Hand.Attn
end
-- ==== Proof.AttnSpec.lean ====
/- The gradient of the windowed attention with a sink, entry by entry in real numbers. A head has a key group `k`, a pair `j`
   within it and a half `p`; a block of 128 queries `n` sees 16 first keys, the block before it and its own. -/
module
public import proofs.«01_k».proof.Proof.AttnRow
@[expose] public section
noncomputable section
namespace Cert.Hand.Attn
open Idealize.ShloMosaic

/-- Row `r` of block `n`. -/
abbrev row (n : Fin 65) (r : Fin 128) : Fin 8320 := ⟨n.val * 128 + r.val, by omega⟩
/-- A query column. -/
abbrev col (k : Fin 2) (j : Fin 4) (p : Fin 2) (d : Fin 64) : Fin 1024 := ⟨k.val * 512 + j.val * 128 + p.val * 64 + d.val, by omega⟩
/-- A key column. -/
abbrev kcol (k : Fin 2) (p : Fin 2) (d : Fin 64) : Fin 256 := ⟨k.val * 128 + p.val * 64 + d.val, by omega⟩
/-- A head's number. -/
abbrev head (k : Fin 2) (j : Fin 4) (p : Fin 2) : Fin 16 := ⟨k.val * 8 + j.val * 2 + p.val, by omega⟩

variable (Q : Fin 8320 → Fin 1024 → ℝ) (K V : Fin 8320 → Fin 256 → ℝ) (σ : Fin 16 → ℝ) (D : Fin 8320 → Fin 1024 → ℝ)
variable (n : Fin 65) (k : Fin 2) (j : Fin 4) (p : Fin 2) (r : Fin 128) (s : Fin 272) (d : Fin 64)

/-- The key (or value) a block sees at place `s`; before the first block there are zeros. -/
def keyAt (c : Fin 256) : ℝ :=
  if s.val < 16 then K ⟨112 + s.val % 16, by omega⟩ c
  else if s.val < 144 then (if 1 ≤ n.val then K ⟨n.val * 128 + (s.val - 16) % 128 - 128, by omega⟩ c else 0)
  else K ⟨n.val * 128 + (s.val - 144) % 128, by omega⟩ c

/-- Which places a query attends to: no later position, and either a first key or a position in the window and not before the sequence's start. -/
def Allowed : Prop :=
  (s.val < 16 ∧ 112 + s.val ≤ n.val * 128 + r.val) ∨
  (16 ≤ s.val ∧ n.val * 128 + s.val ≤ n.val * 128 + r.val + 144 ∧ n.val * 128 + r.val + 16 < n.val * 128 + s.val ∧ 272 ≤ n.val * 128 + s.val)

instance : DecidablePred (Allowed n r) := fun s => by unfold Allowed; infer_instance

/-- A query's product with a key, scaled by the inverse root of the head width. -/
def logit : ℝ := (∑ e, Q (row n r) (col k j p e) * keyAt K n s (kcol k p e)) * (1 / 8)
/-- What the output's gradient gives a weight. -/
def dweight : ℝ := ∑ e, D (row n r) (col k j p e) * keyAt V n s (kcol k p e)

/-- The weight of a place. -/
def W : ℝ := weight (Allowed n r) (logit Q K n k j p r) (σ (head k j p)) s
/-- The gradient of a score. -/
def DS : ℝ := dscore (Allowed n r) (logit Q K n k j p r) (σ (head k j p)) (dweight V D n k j p r) s
/-- What the sink of a head is given by one query. -/
def SK : ℝ := -(sinkWeight (Allowed n r) (logit Q K n k j p r) (σ (head k j p)) * mean (Allowed n r) (logit Q K n k j p r) (σ (head k j p)) (dweight V D n k j p r))

/-- The gradient of a query. -/
def dquery : ℝ := (∑ s, DS Q K V σ D n k j p r s * keyAt K n s (kcol k p d)) * (1 / 8)
/-- What a block gives the key it sees at `s`. -/
def dkey : ℝ := ∑ j, ∑ r, DS Q K V σ D n k j p r s * (Q (row n r) (col k j p d) * (1 / 8))
/-- What a block gives the value it sees at `s`. -/
def dvalue : ℝ := ∑ j, ∑ r, W Q K σ n k j p r s * D (row n r) (col k j p d)

/-- The results: the queries' gradient, … -/
def queryOut (a : Fin 8320) (b : Fin 1024) : EReal :=
  ((dquery Q K V σ D ⟨a.val / 128, by omega⟩ ⟨b.val / 512, by omega⟩ ⟨b.val / 128 % 4, by omega⟩ ⟨b.val / 64 % 2, by omega⟩ ⟨a.val % 128, by omega⟩
    ⟨b.val % 64, by omega⟩ : ℝ) : EReal)
/-- … what each block gives the keys of its own rows (`o` = 144) or of the block before it (`o` = 16), the values likewise, … -/
def keyOut (o : Nat) (ho : o ≤ 144) (a : Fin 8320) (b : Fin 256) : EReal :=
  ((dkey Q K V σ D ⟨a.val / 128, by omega⟩ ⟨b.val / 128, by omega⟩ ⟨b.val / 64 % 2, by omega⟩ ⟨o + a.val % 128, by omega⟩ ⟨b.val % 64, by omega⟩ : ℝ) : EReal)
def valueOut (o : Nat) (ho : o ≤ 144) (a : Fin 8320) (b : Fin 256) : EReal :=
  ((dvalue Q K σ D ⟨a.val / 128, by omega⟩ ⟨b.val / 128, by omega⟩ ⟨b.val / 64 % 2, by omega⟩ ⟨o + a.val % 128, by omega⟩ ⟨b.val % 64, by omega⟩ : ℝ) : EReal)
/-- … what all blocks together give the first keys and values, … -/
def firstKeyOut (a : Fin 16) (b : Fin 256) : EReal :=
  ∑ n, ((dkey Q K V σ D n ⟨b.val / 128, by omega⟩ ⟨b.val / 64 % 2, by omega⟩ ⟨a.val, by omega⟩ ⟨b.val % 64, by omega⟩ : ℝ) : EReal)
def firstValueOut (a : Fin 16) (b : Fin 256) : EReal :=
  ∑ n, ((dvalue Q K σ D n ⟨b.val / 128, by omega⟩ ⟨b.val / 64 % 2, by omega⟩ ⟨a.val, by omega⟩ ⟨b.val % 64, by omega⟩ : ℝ) : EReal)
/-- … and the sinks, in the first 16 of 128 lanes. -/
def sinkOut (b : Fin 128) : EReal :=
  if h : b.val < 16 then ∑ n, ((∑ r, SK Q K V σ D n ⟨b.val / 8, by omega⟩ ⟨b.val / 2 % 4, by omega⟩ ⟨b.val % 2, by omega⟩ r : ℝ) : EReal) else 0

end Cert.Hand.Attn
end
-- ==== Proof.AttnLib.lean ====
/- Two reductions of arrays of rank six and five, and the mask of the attention as the programs compute it on 32-bit integers. -/
module
public import proofs.«01_k».proof.Proof.AttnSpec
public import Idealize.ShloMosaic.Lib.Pointwise
@[expose] public section
noncomputable section
namespace Cert.Hand.Attn
open Idealize.ShloMosaic Idealize.ShloMosaic.Pointwise

variable {n0 n1 n2 n3 n4 n5 : Nat}

/-- What falls on an entry when the last of six axes is dropped. -/
theorem drop_last (h : (⟨6, ![n0, n1, n2, n3, n4, n5]⟩ : Shape).ReducesTo [5] ⟨5, ![n0, n1, n2, n3, n4]⟩) (a : Fin n0) (b : Fin n1)
    (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩) (a : Fin n0) (b : Fin n1)
    (c : Fin n2) (d : Fin n3) (e : Fin n4) (v : (⟨6, ![n0, n1, n2, n3, n4, n5]⟩ : Shape).Idx → EReal) (init : EReal) :
    Ideal.hostReduceAdd h v init (ix5 a b c d e) = init + ∑ k : Fin n5, v (ix6 a b c d e k) :=
  congrArg (init + ·) (Finset.sum_filter_eq_sum_of_fiber _ (fun k : Fin n5 => ix6 a b c d e k) (fun _ _ q => congrFun q 5)
    (drop_last h a b c d e) v)

theorem max_last (h : (⟨6, ![n0, n1, n2, n3, n4, n5]⟩ : Shape).ReducesTo [5] ⟨5, ![n0, n1, n2, n3, n4]⟩) (a : Fin n0) (b : Fin n1)
    (c : Fin n2) (d : Fin n3) (e : Fin n4) (v : (⟨6, ![n0, n1, n2, n3, n4, n5]⟩ : Shape).Idx → EReal) (init : EReal) :
    (Finset.univ.filter fun i => h.drop i = ix5 a b c d e).fold max init v =
      (Finset.univ : Finset (Fin n5)).fold max init fun k => v (ix6 a b c d e k) :=
  Finset.fold_filter_eq_fold_of_fiber max _ (fun k : Fin n5 => ix6 a b c d e k) (fun _ _ q => congrFun q 5)
    (drop_last h a b c d e) init v

/-- … and when the outer two of five are. -/
theorem drop_outer (h : (⟨5, ![n0, n1, n2, n3, n4]⟩ : Shape).ReducesTo [0, 4] ⟨3, ![n1, n2, n3]⟩) (b : Fin n1)
    (c : Fin n2) (d : Fin n3) (i : (⟨5, ![n0, n1, n2, n3, n4]⟩ : Shape).Idx) :
    h.drop i = ix3 b c d ↔ ∃ k : Fin n0 × Fin n4, ix5 k.1 b c d k.2 = i := by
  constructor
  · intro q
    refine ⟨(i 0, i 4), ?_⟩
    funext x; apply Fin.ext
    match x with
    | ⟨0, _⟩ => rfl
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => rfl
  · rintro ⟨k, rfl⟩
    funext x; apply Fin.ext
    match x with
    | ⟨0, _⟩ => rfl
    | ⟨1, _⟩ => rfl
    | ⟨2, _⟩ => rfl

theorem sum_outer (h : (⟨5, ![n0, n1, n2, n3, n4]⟩ : Shape).ReducesTo [0, 4] ⟨3, ![n1, n2, n3]⟩) (b : Fin n1)
    (c : Fin n2) (d : Fin n3) (v : (⟨5, ![n0, n1, n2, n3, n4]⟩ : Shape).Idx → EReal) (init : EReal) :
    Ideal.hostReduceAdd h v init (ix3 b c d) = init + ∑ x : Fin n0, ∑ y : Fin n4, v (ix5 x b c d y) := by
  refine congrArg (init + ·) ((Finset.sum_filter_eq_sum_of_fiber _ (fun k : Fin n0 × Fin n4 => ix5 k.1 b c d k.2)
    (fun _ _ q => Prod.ext (congrFun q 0) (congrFun q 4)) (drop_outer h b c d) v).trans ?_)
  exact Fintype.sum_prod_type' fun x y => v (ix5 x b c d y)

/-- A small integer as a word. -/
theorem toInt_word (z : Int) (h : -2 ^ 31 ≤ z) (h' : z < 2 ^ 31) : (BitVec.ofInt 32 z).toInt = z :=
  BitVec.toInt_ofInt_eq_self (by decide) (by simpa using h) (by simpa using h')

theorem word_nat (a : Nat) : BitVec.ofNat 32 a = BitVec.ofInt 32 (a : Int) := (BitVec.ofInt_natCast 32 a).symm

theorem le_word (x y : Int) (h : -2 ^ 31 ≤ x) (h' : x < 2 ^ 31) (g : -2 ^ 31 ≤ y) (g' : y < 2 ^ 31) :
    (BitVec.ofInt 32 x).sle (BitVec.ofInt 32 y) = decide (x ≤ y) := by
  rw [BitVec.sle_eq_decide, toInt_word x h h', toInt_word y g g']
theorem lt_word (x y : Int) (h : -2 ^ 31 ≤ x) (h' : x < 2 ^ 31) (g : -2 ^ 31 ≤ y) (g' : y < 2 ^ 31) :
    (BitVec.ofInt 32 x).slt (BitVec.ofInt 32 y) = decide (x < y) := by
  rw [BitVec.slt_eq_decide, toInt_word x h h', toInt_word y g g']

theorem bit_and (a b : Bool) : BitVec.ofBool a &&& BitVec.ofBool b = BitVec.ofBool (a && b) := by cases a <;> cases b <;> rfl
theorem bit_or (a b : Bool) : BitVec.ofBool a ||| BitVec.ofBool b = BitVec.ofBool (a || b) := by cases a <;> cases b <;> rfl

/-- The reference's mask. -/
theorem mask_ref (n : Fin 65) (r : Fin 128) (s : Fin 272) :
    IntOp.andi
      (IntOp.cmpi CmpIPredicate.sle
        (if s.val < 16 then IntOp.addi (112#32) (BitVec.ofNat 32 s.val)
        else IntOp.addi (IntOp.subi (IntOp.muli (BitVec.ofNat 32 n.val) 128#32) 128#32) (BitVec.ofNat 32 (s.val - 16)))
        (IntOp.addi (IntOp.muli (BitVec.ofNat 32 n.val) 128#32) (BitVec.ofNat 32 r.val)))
      (IntOp.ori (if s.val < 16 then 1#1 else 0#1)
        (IntOp.andi
          (IntOp.cmpi CmpIPredicate.sgt
            (if s.val < 16 then IntOp.addi (112#32) (BitVec.ofNat 32 s.val)
            else IntOp.addi (IntOp.subi (IntOp.muli (BitVec.ofNat 32 n.val) 128#32) 128#32) (BitVec.ofNat 32 (s.val - 16)))
            (IntOp.subi (IntOp.addi (IntOp.muli (BitVec.ofNat 32 n.val) 128#32) (BitVec.ofNat 32 r.val)) 128#32))
          (IntOp.cmpi CmpIPredicate.sge
            (if s.val < 16 then IntOp.addi (112#32) (BitVec.ofNat 32 s.val)
            else IntOp.addi (IntOp.subi (IntOp.muli (BitVec.ofNat 32 n.val) 128#32) 128#32) (BitVec.ofNat 32 (s.val - 16)))
            128#32))) = BitVec.ofBool (decide (Allowed n r s)) := by
  have hn := n.isLt; have hr := r.isLt; have hs := s.isLt
  have e1 : IntOp.addi (IntOp.muli (BitVec.ofNat 32 n.val) 128#32) (BitVec.ofNat 32 r.val) = BitVec.ofInt 32 ((n.val : Int) * 128 + r.val) := by
    rw [BitVec.ofInt_add, BitVec.ofInt_mul, ← word_nat, ← word_nat]; rfl
  have e2 : IntOp.subi (IntOp.addi (IntOp.muli (BitVec.ofNat 32 n.val) 128#32) (BitVec.ofNat 32 r.val)) 128#32 =
      BitVec.ofInt 32 ((n.val : Int) * 128 + r.val + -128) := by
    rw [e1, BitVec.ofInt_add (n := 32) ((n.val : Int) * 128 + r.val)]; exact BitVec.sub_eq_add_neg _ _
  rw [e1] at e2
  have c3 : (128#32) = BitVec.ofInt 32 128 := rfl
  by_cases h : s.val < 16
  · have e3 : IntOp.addi (112#32) (BitVec.ofNat 32 s.val) = BitVec.ofInt 32 (112 + (s.val : Int)) := by
      rw [BitVec.ofInt_add, ← word_nat]; rfl
    simp only [if_pos h, e1, e2, e3, IntOp.andi, IntOp.ori, IntOp.cmpi]
    rw [le_word _ _ (by omega) (by omega) (by omega) (by omega), show (1#1) = BitVec.ofBool true from rfl, bit_and, bit_or, bit_and]
    refine congrArg BitVec.ofBool ?_
    rw [Bool.true_or, Bool.and_true]
    refine decide_eq_decide.mpr ?_
    unfold Allowed; omega
  · have e3 : IntOp.addi (IntOp.subi (IntOp.muli (BitVec.ofNat 32 n.val) 128#32) 128#32) (BitVec.ofNat 32 (s.val - 16)) =
        BitVec.ofInt 32 ((n.val : Int) * 128 + -128 + ((s.val - 16 : Nat) : Int)) := by
      rw [BitVec.ofInt_add, BitVec.ofInt_add (n := 32) ((n.val : Int) * 128), BitVec.ofInt_mul, ← word_nat, ← word_nat]
      exact congrArg (· + _) (BitVec.sub_eq_add_neg _ _)
    simp only [if_neg h, e2, e1, e3, IntOp.andi, IntOp.ori, IntOp.cmpi]
    rw [le_word _ _ (by omega) (by omega) (by omega) (by omega), lt_word _ _ (by omega) (by omega) (by omega) (by omega), c3,
      le_word _ _ (by omega) (by omega) (by omega) (by omega), show (0#1) = BitVec.ofBool false from rfl, bit_and, bit_or, bit_and]
    refine congrArg BitVec.ofBool ?_
    rw [Bool.false_or, Bool.eq_iff_iff]
    simp only [Bool.and_eq_true, decide_eq_true_eq]
    unfold Allowed; omega

end Cert.Hand.Attn
end
-- ==== Proof.AttnRef.lean ====
/- The reference of the attention gradient, entry by entry: what its named values are in real numbers, and its results. -/
module
public import proofs.«01_k».proof.Proof.Gen.AttnRefIdeal.Run
public import proofs.«01_k».proof.Proof.AttnLib
public import proofs.«01_k».proof.Proof.Reals
public import Idealize.ShloMosaic.Lib.Pointwise
@[expose] public section
set_option maxRecDepth 16384
noncomputable section
open Idealize.ShloMosaic Idealize.ShloMosaic.TcCoe Idealize.SL.Sem Idealize.ShloMosaic.StableHlo
namespace Cert.AttnRefIdeal.Value
open Cert.AttnRefIdeal Cert.AttnRefIdeal.Gen
open Idealize.ShloMosaic.Pointwise Cert.Hand Cert.Hand.Attn

/-- The arguments are real. -/
structure Holds (V0 : Valuation τ sig (Elt Ideal)) (Q : Fin 8320 → Fin 1024 → ℝ) (K V : Fin 8320 → Fin 256 → ℝ) (σ : Fin 16 → ℝ)
    (D : Fin 8320 → Fin 1024 → ℝ) : Prop where
  q : ∀ a b, (V0 (Proc.devRef .tc main_arg0) : FVec Ideal S8320x1024 .bf16) (ix2 a b) = ((Q a b : ℝ) : EReal)
  k : ∀ a b, (V0 (Proc.devRef .tc main_arg1) : FVec Ideal S8320x256 .bf16) (ix2 a b) = ((K a b : ℝ) : EReal)
  v : ∀ a b, (V0 (Proc.devRef .tc main_arg2) : FVec Ideal S8320x256 .bf16) (ix2 a b) = ((V a b : ℝ) : EReal)
  s : ∀ a, (V0 (Proc.devRef .tc main_arg3) : FVec Ideal S16 .f32) (ix1 a) = ((σ a : ℝ) : EReal)
  d : ∀ a b, (V0 (Proc.devRef .tc main_arg4) : FVec Ideal S8320x1024 .f32) (ix2 a b) = ((D a b : ℝ) : EReal)

/-- Entries as extended reals. -/
abbrev A6 (x : FVec Ideal S65x2x4x2x128x272 .f32) (n : Fin 65) (k : Fin 2) (j : Fin 4) (p : Fin 2) (r : Fin 128) (s : Fin 272) : EReal := x (ix6 n k j p r s)
abbrev A5 (x : FVec Ideal S65x2x4x2x128 .f32) (n : Fin 65) (k : Fin 2) (j : Fin 4) (p : Fin 2) (r : Fin 128) : EReal := x (ix5 n k j p r)
abbrev K5 (x : FVec Ideal S65x272x2x2x64 .f32) (n : Fin 65) (s : Fin 272) (k : Fin 2) (p : Fin 2) (d : Fin 64) : EReal := x (ix5 n s k p d)
abbrev Q6 (x : FVec Ideal S65x128x2x4x2x64 .f32) (n : Fin 65) (r : Fin 128) (k : Fin 2) (j : Fin 4) (p : Fin 2) (d : Fin 64) : EReal := x (ix6 n r k j p d)
abbrev T6 (x : FVec Ideal S65x2x2x272x128x4 .f32) (n : Fin 65) (k : Fin 2) (p : Fin 2) (s : Fin 272) (r : Fin 128) (j : Fin 4) : EReal := x (ix6 n k p s r j)

variable {V0 : Valuation τ sig (Elt Ideal)} {Q : Fin 8320 → Fin 1024 → ℝ} {K V : Fin 8320 → Fin 256 → ℝ} {σ : Fin 16 → ℝ}
  {D : Fin 8320 → Fin 1024 → ℝ} (n : Fin 65) (k : Fin 2) (j : Fin 4) (p : Fin 2) (r : Fin 128) (s : Fin 272) (d : Fin 64)

theorem r23 (H : Holds V0 Q K V σ D) : Q6 (res_main_v23 V0) n r k j p d = ((Q (row n r) (col k j p d) : ℝ) : EReal) := by
  refine Eq.trans ?_ (H.q _ _)
  pointwise [A6, A5, K5, Q6, T6, res_main_v23]

theorem keyRow (H : Holds V0 Q K V σ D) (a a' : Fin 8320) (b : Fin 256) (h : a.val = a'.val) :
    (V0 (Proc.devRef .tc main_arg1) : FVec Ideal S8320x256 .bf16) (ix2 a b) = ((K a' b : ℝ) : EReal) := by
  rw [← Fin.ext h]; exact H.k a b

theorem r17 (H : Holds V0 Q K V σ D) : K5 (res_main_v17 V0) n s k p d = ((keyAt K n s (kcol k p d) : ℝ) : EReal) := by
  have hs := s.isLt; have hn := n.isLt
  unfold keyAt
  by_cases h : s.val < 16
  · simp only [if_pos h]
    refine Eq.trans ?_ (keyRow H ⟨112 + s.val, by omega⟩ _ _ (show 112 + s.val = 112 + s.val % 16 by omega))
    pointwise [K5, res_main_v17, h]
  · simp only [if_neg h]
    by_cases h2 : s.val < 144
    · have h2' : s.val - 16 < 128 := by omega
      simp only [if_pos h2]
      by_cases h3 : 1 ≤ n.val
      · simp only [if_pos h3]
        refine Eq.trans ?_ (keyRow H ⟨n.val * 128 + (s.val - 16) - 128, by omega⟩ _ _ (show n.val * 128 + (s.val - 16) - 128 = n.val * 128 + (s.val - 16) % 128 - 128 by omega))
        pointwise [K5, res_main_v17, h, h2']
        refine dif_pos fun a => ?_
        match a with
        | ⟨0, _⟩ => exact ⟨show 128 ≤ n.val * 128 + (s.val - 16) by omega, Nat.mod_one _, show (n.val * 128 + (s.val - 16) - 128) / (0 + 1) < 8320 by omega⟩
        | ⟨1, _⟩ => exact ⟨Nat.zero_le _, Nat.mod_one _, show (k.val * 128 + p.val * 64 + d.val - 0) / (0 + 1) < 256 by omega⟩
      · simp only [if_neg h3]
        pointwise [K5, res_main_v17, h, h2']
        refine (dif_neg fun hh => ?_).trans ?_
        · have h4 : 128 ≤ n.val * 128 + (s.val - 16) := (hh (0 : Fin 2)).1
          omega
        · show (((0#32 : BitVec 32).toInt : ℝ) : EReal) = _
          simp
    · have h2' : ¬ s.val - 16 < 128 := by omega
      simp only [if_neg h2]
      refine Eq.trans ?_ (keyRow H ⟨n.val * 128 + (s.val - 16 - 128), by omega⟩ _ _ (show n.val * 128 + (s.val - 16 - 128) = n.val * 128 + (s.val - 144) % 128 by omega))
      pointwise [K5, res_main_v17, h, h2']

theorem valRow (H : Holds V0 Q K V σ D) (a a' : Fin 8320) (b : Fin 256) (h : a.val = a'.val) :
    (V0 (Proc.devRef .tc main_arg2) : FVec Ideal S8320x256 .bf16) (ix2 a b) = ((V a' b : ℝ) : EReal) := by
  rw [← Fin.ext h]; exact H.v a b

theorem r22 (H : Holds V0 Q K V σ D) : K5 (res_main_v22 V0) n s k p d = ((keyAt V n s (kcol k p d) : ℝ) : EReal) := by
  have hs := s.isLt; have hn := n.isLt
  unfold keyAt
  by_cases h : s.val < 16
  · simp only [if_pos h]
    refine Eq.trans ?_ (valRow H ⟨112 + s.val, by omega⟩ _ _ (show 112 + s.val = 112 + s.val % 16 by omega))
    pointwise [K5, res_main_v22, h]
  · simp only [if_neg h]
    by_cases h2 : s.val < 144
    · have h2' : s.val - 16 < 128 := by omega
      simp only [if_pos h2]
      by_cases h3 : 1 ≤ n.val
      · simp only [if_pos h3]
        refine Eq.trans ?_ (valRow H ⟨n.val * 128 + (s.val - 16) - 128, by omega⟩ _ _ (show n.val * 128 + (s.val - 16) - 128 = n.val * 128 + (s.val - 16) % 128 - 128 by omega))
        pointwise [K5, res_main_v22, h, h2']
        refine dif_pos fun a => ?_
        match a with
        | ⟨0, _⟩ => exact ⟨show 128 ≤ n.val * 128 + (s.val - 16) by omega, Nat.mod_one _, show (n.val * 128 + (s.val - 16) - 128) / (0 + 1) < 8320 by omega⟩
        | ⟨1, _⟩ => exact ⟨Nat.zero_le _, Nat.mod_one _, show (k.val * 128 + p.val * 64 + d.val - 0) / (0 + 1) < 256 by omega⟩
      · simp only [if_neg h3]
        pointwise [K5, res_main_v22, h, h2']
        refine (dif_neg fun hh => ?_).trans ?_
        · have h4 : 128 ≤ n.val * 128 + (s.val - 16) := (hh (0 : Fin 2)).1
          omega
        · show (((0#32 : BitVec 32).toInt : ℝ) : EReal) = _
          simp
    · have h2' : ¬ s.val - 16 < 128 := by omega
      simp only [if_neg h2]
      refine Eq.trans ?_ (valRow H ⟨n.val * 128 + (s.val - 16 - 128), by omega⟩ _ _ (show n.val * 128 + (s.val - 16 - 128) = n.val * 128 + (s.val - 144) % 128 by omega))
      pointwise [K5, res_main_v22, h, h2']

theorem r76_1 : (res_main_v76_1 V0 : IVec S65x2x4x2x128x272 1) (ix6 n k j p r s) = BitVec.ofBool (decide (Allowed n r s)) := by
  refine Eq.trans ?_ (mask_ref n r s)
  pointwise [res_main_v76_1, res_main_v57, res_main_v58]
  simp only [dite_eq_ite]

theorem r78 (H : Holds V0 Q K V σ D) : A5 (res_main_v78 V0) n k j p r = ((σ (head k j p) : ℝ) : EReal) := by
  refine Eq.trans ?_ (H.s _)
  pointwise [A6, A5, K5, Q6, T6, res_main_v78]

theorem r118a (H : Holds V0 Q K V σ D) : A6 (res_main_v118 V0) n k j p r s =
    ∑ x, ((D (row n r) (col k j p x) : ℝ) : EReal) * K5 (res_main_v22 V0) n s k p x := by
  refine Eq.trans ?_ (Finset.sum_congr rfl fun x _ => congrArg (· * _) (H.d _ _))
  pointwise [A6, A5, K5, Q6, T6, res_main_v118, res_main_v116]

theorem bc (x : FVec Ideal S65x2x4x2x128 .f32) : (broadcastInDim S65x2x4x2x128x272 ![0, 1, 2, 3, 4] bcast_S65x2x4x2x128_S65x2x4x2x128x272_0_1_2_3_4 x : FVec Ideal S65x2x4x2x128x272 .f32) (ix6 n k j p r s) = x (ix5 n k j p r) := by
  pointwise

theorem r76a : A6 (res_main_v76_0 V0) n k j p r s = Scalar.select ((res_main_v76_1 V0 : IVec S65x2x4x2x128x272 1) (ix6 n k j p r s))
      ((∑ x, K5 (res_main_v17 V0) n s k p x * Q6 (res_main_v23 V0) n r k j p x) * ((1 / 8 : ℝ) : EReal)) ⊥ := by
  rw [← bits_eighth, ← bits_bot]
  pointwise [A6, A5, K5, Q6, T6, res_main_v76_0]
  rfl

theorem r79a : A5 (res_main_v79 V0) n k j p r =
    (Finset.univ : Finset (Fin 272)).fold max ⊥ fun s => A6 (res_main_v76_0 V0) n k j p r s := by
  rw [← bits_bot]
  refine Eq.trans ?_ (max_last reducesTo_S65x2x4x2x128x272_S65x2x4x2x128_d5 n k j p r (res_main_v76_0 V0) _)
  pointwise [A6, A5, K5, Q6, T6, res_main_v79]
  rfl

theorem mx5 (x y : FVec Ideal S65x2x4x2x128 .f32) : A5 (maximumf x y) n k j p r = max (A5 x n k j p r) (A5 y n k j p r) := rfl

theorem mul5 (x y : FVec Ideal S65x2x4x2x128 .f32) : A5 (mulf x y) n k j p r = A5 x n k j p r * A5 y n k j p r := rfl

theorem r85a : A5 (res_main_v85 V0) n k j p r = max (A5 (res_main_v79 V0) n k j p r) (A5 (res_main_v78 V0) n k j p r) :=
  mx5 n k j p r (res_main_v79 V0) (res_main_v78 V0)

theorem r83a : A6 (res_main_v83 V0) n k j p r s = FloatOps.uitofp (F := Ideal) FTy.f32
      (BitVec.ofBool (decide (A6 (res_main_v76_0 V0) n k j p r s = A5 (res_main_v79 V0) n k j p r))) := by
  pointwise [A6, A5, K5, Q6, T6, res_main_v83]

theorem expsub (x y : FVec Ideal S65x2x4x2x128x272 .f32) : A6 (Host.exp (subf x y)) n k j p r s = Ideal.exp (A6 x n k j p r s - A6 y n k j p r s) := by
  pointwise

theorem r102a : A6 (res_main_v102 V0) n k j p r s = Ideal.exp (A6 (res_main_v76_0 V0) n k j p r s - A5 (res_main_v85 V0) n k j p r) := by
  have h := expsub n k j p r s (res_main_v76_0 V0) (broadcastInDim S65x2x4x2x128x272 ![0, 1, 2, 3, 4] bcast_S65x2x4x2x128_S65x2x4x2x128x272_0_1_2_3_4 (res_main_v85 V0))
  rw [show A6 (broadcastInDim S65x2x4x2x128x272 ![0, 1, 2, 3, 4] bcast_S65x2x4x2x128_S65x2x4x2x128x272_0_1_2_3_4 (res_main_v85 V0)) n k j p r s = A5 (res_main_v85 V0) n k j p r from bc n k j p r s (res_main_v85 V0)] at h
  exact h

theorem r105a : A5 (res_main_v105 V0) n k j p r =
    Ideal.exp (A5 (res_main_v78 V0) n k j p r - A5 (res_main_v85 V0) n k j p r) := by
  pointwise [A6, A5, K5, Q6, T6, res_main_v105]

theorem r107a : A6 (res_main_v107 V0) n k j p r s =
    (0 + ∑ s, A6 (res_main_v102 V0) n k j p r s) + A5 (res_main_v105 V0) n k j p r := by
  rw [← sum_last reducesTo_S65x2x4x2x128x272_S65x2x4x2x128_d5 n k j p r (res_main_v102 V0)]
  pointwise [A6, A5, K5, Q6, T6, res_main_v107]

theorem r108a : A6 (res_main_v108 V0) n k j p r s =
    Ideal.div (A6 (res_main_v102 V0) n k j p r s) (A6 (res_main_v107 V0) n k j p r s) := by
  pointwise [A6, A5, K5, Q6, T6, res_main_v108]

theorem r125a : A5 (res_main_v125 V0) n k j p r = 0 + ∑ s,
    -(A6 (res_main_v118 V0) n k j p r s * Ideal.div 1 (A6 (res_main_v107 V0) n k j p r s * A6 (res_main_v107 V0) n k j p r s) * A6 (res_main_v102 V0) n k j p r s) := by
  refine Eq.trans ?_ ((sum_last reducesTo_S65x2x4x2x128x272_S65x2x4x2x128_d5 n k j p r (Host.negf (mulf (mulf (res_main_v118 V0) (Host.divf (broadcastInDim S65x2x4x2x128x272 ![] bcast_S_S65x2x4x2x128x272 (constant S_ .f32 0x3F800000#32)) (mulf (res_main_v107 V0) (res_main_v107 V0)))) (res_main_v102 V0)) : FVec Ideal S65x2x4x2x128x272 .f32) 0).trans (congrArg (0 + ·) (Finset.sum_congr rfl fun s _ => ?_)))
  · pointwise [A6, A5, K5, Q6, T6, res_main_v125]
  · pointwise

theorem r126a : A5 (res_main_v126 V0) n k j p r = A5 (res_main_v125 V0) n k j p r * A5 (res_main_v105 V0) n k j p r :=
  mul5 n k j p r (res_main_v125 V0) (res_main_v105 V0)

theorem r130a : A6 (res_main_v130 V0) n k j p r s =
    (Ideal.div (A6 (res_main_v118 V0) n k j p r s) (A6 (res_main_v107 V0) n k j p r s) + A5 (res_main_v125 V0) n k j p r) * A6 (res_main_v102 V0) n k j p r s := by
  refine Eq.trans ?_ (congrArg (fun y => (_ + y) * _) (bc n k j p r s (res_main_v125 V0)))
  pointwise [A6, A5, K5, Q6, T6, res_main_v130]

theorem r133a : A5 (res_main_v133 V0) n k j p r =
    -A5 (res_main_v126 V0) n k j p r + (0 + ∑ s, -A6 (res_main_v130 V0) n k j p r s) := by
  refine Eq.trans ?_ (congrArg (_ + ·) ((sum_last reducesTo_S65x2x4x2x128x272_S65x2x4x2x128_d5 n k j p r (Host.negf (res_main_v130 V0) : FVec Ideal S65x2x4x2x128x272 .f32) 0).trans (congrArg (0 + ·) (Finset.sum_congr rfl fun s _ => ?_))))
  · pointwise [A6, A5, K5, Q6, T6, res_main_v133]
  · pointwise

theorem tr147 (x : FVec Ideal S65x2x4x2x128x272 .f32) : (transpose S65x2x2x272x128x4 [0, 1, 3, 5, 4, 2] x transposes_S65x2x4x2x128x272_S65x2x2x272x128x4_0_1_3_5_4_2 : FVec Ideal S65x2x2x272x128x4 .f32) (ix6 n k p s r j) = x (ix6 n k j p r s) := by
  pointwise

theorem half147 (c : IVec S65x2x4x2x128x272 1) (x y e : FVec Ideal S65x2x4x2x128x272 .f32) : (mulf (select c (addf x (mulf y e)) (broadcastInDim S65x2x4x2x128x272 ![] bcast_S_S65x2x4x2x128x272 (constant S_ .f32 0x00000000#32))) (broadcastInDim S65x2x4x2x128x272 ![] bcast_S_S65x2x4x2x128x272 (constant S_ .f32 0x3E000000#32)) : FVec Ideal S65x2x4x2x128x272 .f32) (ix6 n k j p r s) = Scalar.select (c (ix6 n k j p r s)) (x (ix6 n k j p r s) + y (ix6 n k j p r s) * e (ix6 n k j p r s)) 0 * ((1 / 8 : ℝ) : EReal) := by
  rw [← bits_eighth]
  pointwise

theorem share147 (g q : FVec Ideal S65x2x4x2x128 .f32) (t : FVec Ideal S65x2x4x2x128 .f32) : (Host.divf (mulf g q) t : FVec Ideal S65x2x4x2x128 .f32) (ix5 n k j p r) = Ideal.div (g (ix5 n k j p r) * q (ix5 n k j p r)) (t (ix5 n k j p r)) := by
  pointwise

theorem r120a (H : Holds V0 Q K V σ D) : K5 (res_main_v120 V0) n s k p d =
    ∑ j, ∑ r, ((D (row n r) (col k j p d) : ℝ) : EReal) * A6 (res_main_v108 V0) n k j p r s := by
  refine Eq.trans ?_ (Finset.sum_congr rfl fun x _ => Finset.sum_congr rfl fun y _ => congrArg (· * _) (H.d _ _))
  pointwise [A6, A5, K5, Q6, T6, res_main_v120, res_main_v116]

theorem r151a : K5 (res_main_v151 V0) n s k p d =
    ∑ r, ∑ j, T6 (res_main_v147 V0) n k p s r j * Q6 (res_main_v23 V0) n r k j p d := by
  pointwise [A6, A5, K5, Q6, T6, res_main_v151]

theorem r76 (H : Holds V0 Q K V σ D) : A6 (res_main_v76_0 V0) n k j p r s = score (Allowed n r) (logit Q K n k j p r) s := by
  rw [r76a, show (res_main_v76_1 V0 : IVec S65x2x4x2x128x272 1) (ix6 n k j p r s) = _ from r76_1 n k j p r s,
    Finset.sum_congr rfl fun x _ => by rw [r17 n k p s x H, r23 n k j p r x H, ← EReal.coe_mul], coe_sum, ← EReal.coe_mul]
  unfold score logit Scalar.select
  by_cases h : Allowed n r s
  · rw [if_pos h, if_pos (by rw [decide_eq_true h]; rfl)]
    exact congrArg (fun t : ℝ => ((t * (1 / 8) : ℝ) : EReal)) (Finset.sum_congr rfl fun x _ => mul_comm _ _)
  · rw [if_neg h, if_neg (by rw [decide_eq_false h]; decide)]

theorem r85 (H : Holds V0 Q K V σ D) : ∃ M : ℝ, A5 (res_main_v85 V0) n k j p r = M := by
  obtain ⟨M, h⟩ := max_real (Allowed n r) (logit Q K n k j p r) (σ (head k j p))
  refine ⟨M, ?_⟩
  rw [r85a, r79a, r78 n k j p r H, ← h]
  exact congrArg (fun f => max ((Finset.univ : Finset (Fin 272)).fold max ⊥ f) _) (funext fun s => r76 n k j p r s H)

variable {M : ℝ}

theorem r102 (H : Holds V0 Q K V σ D) (hM : A5 (res_main_v85 V0) n k j p r = M) :
    A6 (res_main_v102 V0) n k j p r s = ((num (Allowed n r) (logit Q K n k j p r) M s : ℝ) : EReal) := by
  rw [r102a, hM, r76 n k j p r s H, exp_score]

theorem r105 (H : Holds V0 Q K V σ D) (hM : A5 (res_main_v85 V0) n k j p r = M) :
    A5 (res_main_v105 V0) n k j p r = ((Real.exp (σ (head k j p) - M) : ℝ) : EReal) := by
  rw [r105a, hM, r78 n k j p r H, exp_sink]

theorem r107 (H : Holds V0 Q K V σ D) (hM : A5 (res_main_v85 V0) n k j p r = M) :
    A6 (res_main_v107 V0) n k j p r s = ((den (Allowed n r) (logit Q K n k j p r) (σ (head k j p)) M : ℝ) : EReal) := by
  rw [r107a, r105 n k j p r H hM, Finset.sum_congr rfl fun s _ => r102 n k j p r s H hM, coe_sum, zero_add, ← EReal.coe_add]; rfl

theorem r108 (H : Holds V0 Q K V σ D) : A6 (res_main_v108 V0) n k j p r s = ((W Q K σ n k j p r s : ℝ) : EReal) := by
  obtain ⟨M, hM⟩ := r85 n k j p r H
  rw [r108a, r102 n k j p r s H hM, r107 n k j p r s H hM, div_real _ (den_pos _ _ _ _).ne', weight_eq]; rfl

theorem r118 (H : Holds V0 Q K V σ D) : A6 (res_main_v118 V0) n k j p r s = ((dweight V D n k j p r s : ℝ) : EReal) := by
  rw [r118a n k j p r s H, Finset.sum_congr rfl fun x _ => by rw [r22 n k p s x H, ← EReal.coe_mul], coe_sum]; rfl

theorem r125 (H : Holds V0 Q K V σ D) (hM : A5 (res_main_v85 V0) n k j p r = M) : A5 (res_main_v125 V0) n k j p r =
    ((-pull (Allowed n r) (logit Q K n k j p r) (σ (head k j p)) (dweight V D n k j p r) M : ℝ) : EReal) := by
  have h := (den_pos (Allowed n r) (logit Q K n k j p r) (σ (head k j p)) M).ne'
  rw [r125a, Finset.sum_congr rfl fun s _ => by
    rw [r118 n k j p r s H, r107 n k j p r s H hM, r102 n k j p r s H hM, ← EReal.coe_mul, ← EReal.coe_one,
      div_real _ (mul_ne_zero h h), ← EReal.coe_mul, ← EReal.coe_mul, ← EReal.coe_neg], coe_sum, zero_add, Finset.sum_neg_distrib]
  rfl

theorem r126 (H : Holds V0 Q K V σ D) : A5 (res_main_v126 V0) n k j p r = ((SK Q K V σ D n k j p r : ℝ) : EReal) := by
  obtain ⟨M, hM⟩ := r85 n k j p r H
  rw [r126a, r125 n k j p r H hM, r105 n k j p r H hM, ← EReal.coe_mul, sink_pull]; rfl

theorem r130 (H : Holds V0 Q K V σ D) : A6 (res_main_v130 V0) n k j p r s = ((DS Q K V σ D n k j p r s : ℝ) : EReal) := by
  obtain ⟨M, hM⟩ := r85 n k j p r H
  rw [r130a, r118 n k j p r s H, r107 n k j p r s H hM, r125 n k j p r H hM, r102 n k j p r s H hM,
    div_real _ (den_pos _ _ _ _).ne', ← EReal.coe_add, ← EReal.coe_mul, dscore_eq]; rfl

theorem r133 (H : Holds V0 Q K V σ D) : A5 (res_main_v133 V0) n k j p r = 0 := by
  obtain ⟨M, hM⟩ := r85 n k j p r H
  rw [r133a, Finset.sum_congr rfl fun s _ => by rw [r130 n k j p r s H, ← EReal.coe_neg], coe_sum, zero_add,
    r126 n k j p r H, ← EReal.coe_neg, ← EReal.coe_add, ← EReal.coe_zero]
  refine congrArg _ (Eq.trans ?_ (dmax_eq (Allowed n r) (logit Q K n k j p r) (σ (head k j p)) (dweight V D n k j p r) M))
  rw [sink_pull]; rfl

theorem r83 : ∃ e : Fin 272 → ℝ, (∀ s, e s = 0 ∨ e s = 1) ∧ ∀ s, A6 (res_main_v83 V0) n k j p r s = ((e s : ℝ) : EReal) := by
  classical
  refine ⟨fun s => if A6 (res_main_v76_0 V0) n k j p r s = A5 (res_main_v79 V0) n k j p r then 1 else 0, fun s => ?_, fun s => ?_⟩
  · dsimp only; split <;> simp
  · rw [r83a]; dsimp only; split
    · next h => rw [decide_eq_true h]; show (((BitVec.ofBool true).toNat : ℝ) : EReal) = _; simp
    · next h => rw [decide_eq_false h]; show (((BitVec.ofBool false).toNat : ℝ) : EReal) = _; simp

theorem tot147 (e : FVec Ideal S65x2x4x2x128x272 .f32) : A5 (Host.reduceAdd e (constant S_ .f32 0x00000000#32) reducesTo_S65x2x4x2x128x272_S65x2x4x2x128_d5 h_S_) n k j p r = 0 + ∑ s, A6 e n k j p r s := by
  rw [← sum_last reducesTo_S65x2x4x2x128x272_S65x2x4x2x128_d5 n k j p r e]
  pointwise

theorem whole147 (c : IVec S65x2x4x2x128x272 1) (x e : FVec Ideal S65x2x4x2x128x272 .f32) (g q : FVec Ideal S65x2x4x2x128 .f32) : ∃ y : EReal,
    T6 (transpose S65x2x2x272x128x4 [0, 1, 3, 5, 4, 2] (mulf (select c (addf x (mulf (broadcastInDim S65x2x4x2x128x272 ![0, 1, 2, 3, 4] bcast_S65x2x4x2x128_S65x2x4x2x128x272_0_1_2_3_4 (Host.divf (mulf g q) (Host.reduceAdd e (constant S_ .f32 0x00000000#32) reducesTo_S65x2x4x2x128x272_S65x2x4x2x128_d5 h_S_))) e)) (broadcastInDim S65x2x4x2x128x272 ![] bcast_S_S65x2x4x2x128x272 (constant S_ .f32 0x00000000#32))) (broadcastInDim S65x2x4x2x128x272 ![] bcast_S_S65x2x4x2x128x272 (constant S_ .f32 0x3E000000#32))) transposes_S65x2x4x2x128x272_S65x2x2x272x128x4_0_1_3_5_4_2) n k p s r j =
      Scalar.select (c (ix6 n k j p r s)) (A6 x n k j p r s + Ideal.div (A5 g n k j p r * y) (0 + ∑ s, A6 e n k j p r s) * A6 e n k j p r s) 0 * ((1 / 8 : ℝ) : EReal) := by
  refine ⟨A5 q n k j p r, (tr147 n k j p r s _).trans ((half147 n k j p r s _ _ _ _).trans ?_)⟩
  rw [bc, share147, ← tot147]

theorem r147a : ∃ y : EReal, T6 (res_main_v147 V0) n k p s r j =
    Scalar.select ((res_main_v76_1 V0 : IVec S65x2x4x2x128x272 1) (ix6 n k j p r s)) (A6 (res_main_v130 V0) n k j p r s + Ideal.div (A5 (res_main_v133 V0) n k j p r * y) (0 + ∑ s, A6 (res_main_v83 V0) n k j p r s) * A6 (res_main_v83 V0) n k j p r s) 0 * ((1 / 8 : ℝ) : EReal) :=
  whole147 n k j p r s (res_main_v76_1 V0) (res_main_v130 V0) (res_main_v83 V0) (res_main_v133 V0) _

theorem r147 (H : Holds V0 Q K V σ D) : T6 (res_main_v147 V0) n k p s r j = ((DS Q K V σ D n k j p r s * (1 / 8) : ℝ) : EReal) := by
  obtain ⟨e, he, h83⟩ := r83 (V0 := V0) n k j p r
  obtain ⟨y, hy⟩ := r147a (V0 := V0) n k j p r s
  rw [hy, r130 n k j p r s H, r133 n k j p r H, Finset.sum_congr rfl fun s _ => h83 s, h83 s, tie e he s y, add_zero,
    show (res_main_v76_1 V0 : IVec S65x2x4x2x128x272 1) (ix6 n k j p r s) = _ from r76_1 n k j p r s]
  unfold Scalar.select
  by_cases h : Allowed n r s
  · rw [if_pos (by rw [decide_eq_true h]; rfl), ← EReal.coe_mul]
  · rw [if_neg (by rw [decide_eq_false h]; decide), zero_mul]
    unfold DS
    rw [dscore_off _ _ _ _ _ h, zero_mul]; rfl

theorem r120 (H : Holds V0 Q K V σ D) : K5 (res_main_v120 V0) n s k p d = ((dvalue Q K σ D n k p s d : ℝ) : EReal) := by
  rw [r120a n k p s d H, Finset.sum_congr rfl fun j _ => by
    rw [Finset.sum_congr rfl fun r _ => by rw [r108 n k j p r s H, ← EReal.coe_mul], coe_sum], coe_sum]
  exact congrArg _ (Finset.sum_congr rfl fun j _ => Finset.sum_congr rfl fun r _ => mul_comm _ _)

theorem r151 (H : Holds V0 Q K V σ D) : K5 (res_main_v151 V0) n s k p d = ((dkey Q K V σ D n k p s d : ℝ) : EReal) := by
  rw [r151a, Finset.sum_congr rfl fun r _ => by
    rw [Finset.sum_congr rfl fun j _ => by rw [r147 n k j p r s H, r23 n k j p r d H, ← EReal.coe_mul], coe_sum], coe_sum]
  refine congrArg _ (Finset.sum_comm.trans ?_)
  exact Finset.sum_congr rfl fun j _ => Finset.sum_congr rfl fun r _ => by ring

theorem o0 (H : Holds V0 Q K V σ D) : (shapeCast S8320x1024 (transpose S65x128x2x4x2x64 [0, 3, 1, 4, 2, 5] (Host.dotGeneral (φ₁ := .f32) (φ₂ := .f32) dot_S65x2x2x272x128x4_S65x272x2x2x64_S65x2x2x128x4x64_3_1_45_4_012_023 none (res_main_v147 V0) (res_main_v17 V0)) transposes_S65x2x2x128x4x64_S65x128x2x4x2x64_0_3_1_4_2_5) shapeCasts_S65x128x2x4x2x64_S8320x1024 : FVec Ideal S8320x1024 .f32)
    = fun i => queryOut Q K V σ D (i 0) (i 1) := by
  funext i
  have h0 := (i 0).isLt; have h1 := (i 1).isLt
  simp at h0 h1
  refine Eq.trans (b := ∑ s, T6 (res_main_v147 V0) ⟨(i 0).val / 128, by omega⟩ ⟨(i 1).val / 512, by omega⟩ ⟨(i 1).val / 64 % 2, by omega⟩ s ⟨(i 0).val % 128, by omega⟩ ⟨(i 1).val / 128 % 4, by omega⟩ *
    K5 (res_main_v17 V0) ⟨(i 0).val / 128, by omega⟩ s ⟨(i 1).val / 512, by omega⟩ ⟨(i 1).val / 64 % 2, by omega⟩ ⟨(i 1).val % 64, by omega⟩) ?_ ?_
  · pointwise [T6, K5]
  · rw [Finset.sum_congr rfl fun s _ => by rw [r147 _ _ _ _ _ _ H, r17 _ _ _ _ _ H, ← EReal.coe_mul], coe_sum]
    unfold queryOut dquery
    refine congrArg _ (Eq.trans (Finset.sum_congr rfl fun s _ => ?_) (Finset.sum_mul ..).symm)
    ring

theorem o1 (H : Holds V0 Q K V σ D) : (shapeCast S8320x256 (extractStridedSlice S65x128x2x2x64 ![0, 144, 0, 0, 0] (res_main_v151 V0 : FVec Ideal S65x272x2x2x64 .f32) slices_S65x272x2x2x64_S65x128x2x2x64_0_144_0_0_0) shapeCasts_S65x128x2x2x64_S8320x256 : FVec Ideal S8320x256 .f32)
    = fun i => keyOut Q K V σ D 144 (by decide) (i 0) (i 1) := by
  funext i
  refine Eq.trans ?_ (r151 _ _ _ _ _ H)
  pointwise [K5]

theorem o2 (H : Holds V0 Q K V σ D) : (shapeCast S8320x256 (extractStridedSlice S65x128x2x2x64 ![0, 16, 0, 0, 0] (res_main_v151 V0 : FVec Ideal S65x272x2x2x64 .f32) slices_S65x272x2x2x64_S65x128x2x2x64_0_16_0_0_0) shapeCasts_S65x128x2x2x64_S8320x256 : FVec Ideal S8320x256 .f32)
    = fun i => keyOut Q K V σ D 16 (by decide) (i 0) (i 1) := by
  funext i
  refine Eq.trans ?_ (r151 _ _ _ _ _ H)
  pointwise [K5]

theorem o3 (H : Holds V0 Q K V σ D) : (shapeCast S8320x256 (extractStridedSlice S65x128x2x2x64 ![0, 144, 0, 0, 0] (res_main_v120 V0 : FVec Ideal S65x272x2x2x64 .f32) slices_S65x272x2x2x64_S65x128x2x2x64_0_144_0_0_0) shapeCasts_S65x128x2x2x64_S8320x256 : FVec Ideal S8320x256 .f32)
    = fun i => valueOut Q K σ D 144 (by decide) (i 0) (i 1) := by
  funext i
  refine Eq.trans ?_ (r120 _ _ _ _ _ H)
  pointwise [K5]

theorem o4 (H : Holds V0 Q K V σ D) : (shapeCast S8320x256 (extractStridedSlice S65x128x2x2x64 ![0, 16, 0, 0, 0] (res_main_v120 V0 : FVec Ideal S65x272x2x2x64 .f32) slices_S65x272x2x2x64_S65x128x2x2x64_0_16_0_0_0) shapeCasts_S65x128x2x2x64_S8320x256 : FVec Ideal S8320x256 .f32)
    = fun i => valueOut Q K σ D 16 (by decide) (i 0) (i 1) := by
  funext i
  refine Eq.trans ?_ (r120 _ _ _ _ _ H)
  pointwise [K5]

theorem o5 (H : Holds V0 Q K V σ D) : (shapeCast S16x256 (broadcastInDim S1x16x2x2x64 ![1, 2, 3, 4] bcast_S16x2x2x64_S1x16x2x2x64_1_2_3_4 (Host.reduceAdd (extractStridedSlice S65x16x2x2x64 ![0, 0, 0, 0, 0] (res_main_v151 V0 : FVec Ideal S65x272x2x2x64 .f32) slices_S65x272x2x2x64_S65x16x2x2x64_0_0_0_0_0) (constant S_ .f32 0x00000000#32) reducesTo_S65x16x2x2x64_S16x2x2x64_d0 h_S_)) shapeCasts_S1x16x2x2x64_S16x256 : FVec Ideal S16x256 .f32)
    = fun i => firstKeyOut Q K V σ D (i 0) (i 1) := by
  funext i
  refine Eq.trans ?_ (Finset.sum_congr rfl fun n _ => r151 n _ _ _ _ H)
  pointwise [K5]

theorem o6 (H : Holds V0 Q K V σ D) : (shapeCast S16x256 (broadcastInDim S1x16x2x2x64 ![1, 2, 3, 4] bcast_S16x2x2x64_S1x16x2x2x64_1_2_3_4 (Host.reduceAdd (extractStridedSlice S65x16x2x2x64 ![0, 0, 0, 0, 0] (res_main_v120 V0 : FVec Ideal S65x272x2x2x64 .f32) slices_S65x272x2x2x64_S65x16x2x2x64_0_0_0_0_0) (constant S_ .f32 0x00000000#32) reducesTo_S65x16x2x2x64_S16x2x2x64_d0 h_S_)) shapeCasts_S1x16x2x2x64_S16x256 : FVec Ideal S16x256 .f32)
    = fun i => firstValueOut Q K σ D (i 0) (i 1) := by
  funext i
  refine Eq.trans ?_ (Finset.sum_congr rfl fun n _ => r120 n _ _ _ _ H)
  pointwise [K5]

theorem lanes (x : FVec Ideal S2x4x2 .f32) (i : S1x128.Idx) (h : (i 1).val < 16) : (pad S1x128 ![0, 0] ![0, 112] ![0, 0] (shapeCast S1x16 (shapeCast S16 (broadcastInDim S2x4x2x1 ![0, 1, 2] bcast_S2x4x2_S2x4x2x1_0_1_2 x) shapeCasts_S2x4x2x1_S16) shapeCasts_S16_S1x16) (sitofp .f32 (constantI S_ 32 0#32)) pads_S1x16_S1x128_000_01120 h_S_ : FVec Ideal S1x128 .f32) i =
    x (ix3 ⟨(i 1).val / 8, by omega⟩ ⟨(i 1).val / 2 % 4, by omega⟩ ⟨(i 1).val % 2, by omega⟩) := by
  pointwise [h]

theorem lanes_rest (x : FVec Ideal S2x4x2 .f32) (i : S1x128.Idx) (h : ¬(i 1).val < 16) : (pad S1x128 ![0, 0] ![0, 112] ![0, 0] (shapeCast S1x16 (shapeCast S16 (broadcastInDim S2x4x2x1 ![0, 1, 2] bcast_S2x4x2_S2x4x2x1_0_1_2 x) shapeCasts_S2x4x2x1_S16) shapeCasts_S16_S1x16) (sitofp .f32 (constantI S_ 32 0#32)) pads_S1x16_S1x128_000_01120 h_S_ : FVec Ideal S1x128 .f32) i = (0 : EReal) := by
  pointwise [h]
  show (((0#32 : BitVec 32).toInt : ℝ) : EReal) = _
  simp

theorem total (x y q : FVec Ideal S65x2x4x2x128 .f32) (k : Fin 2) (j : Fin 4) (p : Fin 2) :
    (Host.reduceAdd (addf x (mulf y q)) (constant S_ .f32 0x00000000#32) reducesTo_S65x2x4x2x128_S2x4x2_d0_4 h_S_ : FVec Ideal S2x4x2 .f32) (ix3 k j p) =
      0 + ∑ n, ∑ r, (A5 x n k j p r + A5 y n k j p r * A5 q n k j p r) := by
  refine Eq.trans ?_ (sum_outer reducesTo_S65x2x4x2x128_S2x4x2_d0_4 k j p (addf x (mulf y q) : FVec Ideal S65x2x4x2x128 .f32) 0)
  pointwise

theorem o7 (H : Holds V0 Q K V σ D) (q : FVec Ideal S65x2x4x2x128 .f32) : (pad S1x128 ![0, 0] ![0, 112] ![0, 0] (shapeCast S1x16 (shapeCast S16 (broadcastInDim S2x4x2x1 ![0, 1, 2] bcast_S2x4x2_S2x4x2x1_0_1_2 (Host.reduceAdd (addf (res_main_v126 V0) (mulf (res_main_v133 V0) q)) (constant S_ .f32 0x00000000#32) reducesTo_S65x2x4x2x128_S2x4x2_d0_4 h_S_)) shapeCasts_S2x4x2x1_S16) shapeCasts_S16_S1x16) (sitofp .f32 (constantI S_ 32 0#32)) pads_S1x16_S1x128_000_01120 h_S_ : FVec Ideal S1x128 .f32)
    = fun i => sinkOut Q K V σ D (i 1) := by
  funext i
  unfold sinkOut
  by_cases h : (i 1).val < 16
  · rw [lanes _ i h, dif_pos h, total, zero_add]
    refine Finset.sum_congr rfl fun n _ => ?_
    rw [← coe_sum]
    refine Finset.sum_congr rfl fun r _ => ?_
    rw [r126 _ _ _ _ _ H, r133 _ _ _ _ _ H, zero_mul, add_zero]
  · rw [lanes_rest _ i h, dif_neg h]

end Cert.AttnRefIdeal.Value
end
-- ==== Proof.AttnTile.lean ====
/- One head of the kernel, written as the operations it runs on the blocks a grid point reads, and what each gives entry by entry. -/
module
public import proofs.«01_k».proof.Defs
public import proofs.«01_k».proof.Proof.AttnLib
public import proofs.«01_k».proof.Proof.Gen.AttnIdeal.Value
public import Idealize.ShloMosaic.Lib.Pipeline.ValueKit
public import Idealize.ShloMosaic.Lib.Pointwise
@[expose] public section
set_option maxRecDepth 16384
noncomputable section
namespace Cert.AttnIdeal.Tile
open Cert.AttnIdeal Cert.AttnIdeal.Gen Idealize.ShloMosaic Idealize.ShloMosaic.Pointwise Cert.Hand Cert.Hand.Attn

/-- The lanes of the even head of a pair, and of the odd one. -/
def even : IVec S1x128 1 := cmpi .slt (iota .tc S1x128 32 [1] iota_S1x128_d1_w32) (broadcast S1x128 64#32)
def odd : IVec S1x128 1 := xori even (constantI S1x128 1 1#1)

/-- A row of lanes stretched over a block. -/
abbrev over (b : IVec S1x128 1) : IVec S128x128 1 := broadcastTo S128x128 (shapeCast S1x128 b shapeCasts_S1x128_S1x128) broadcasts_S1x128_S128x128

/-- A head's queries, scaled, and its part of the output's gradient; zeros in the other head's lanes. -/
def halfQ (b : IVec S1x128 1) (q : FVec Ideal S128x128 .bf16) : FVec Ideal S128x128 .bf16 :=
  select (over b) (mulf q (broadcast S128x128 (Scalar.ofBits .bf16 0x3E00#16))) (broadcast S128x128 (Scalar.ofBits .bf16 0x0000#16))
def halfD (b : IVec S1x128 1) (d : FVec Ideal S128x128 .f32) : FVec Ideal S128x128 .f32 :=
  select (over b) d (broadcast S128x128 (Scalar.ofBits .f32 0x00000000#32))

/-- The scores, the products with the values, and a block's row sums. -/
def scoreT (M : IVec S128x272 1) (k : FVec Ideal S272x128 .bf16) (qm : FVec Ideal S128x128 .bf16) : FVec Ideal S128x272 .f32 :=
  select M (matmul dot_S128x128_S272x128_S128x272_1_1_0_0_n_n none qm k (constant S128x272 .f32 0x00000000#32))
    (broadcast S128x272 (Named.named κ "mask" 0xF149F2CA#32))
def dweightT (v : FVec Ideal S272x128 .bf16) (dm : FVec Ideal S128x128 .f32) : FVec Ideal S128x272 .f32 :=
  matmul dot_S128x128_S272x128_S128x272_1_1_0_0_n_n none (truncf .bf16 dm bitsLt_bf16_f32) v (constant S128x272 .f32 0x00000000#32)
def rowSum (x : FVec Ideal S128x128 .f32) : FVec Ideal S128x1 .f32 :=
  shapeCast S128x1 (multiReduction .add [1] S128 x 0x00000000#32 reduces_S128x128_S128 (.inl rfl) rfl) shapeCasts_S128_S128x1

/-- A lane of a block, picked by a row sum. -/
def laneIs (i : BitVec 32) : IVec S1x128 1 := cmpi .eq (iota .tc S1x128 32 [1] iota_S1x128_d1_w32) (broadcast S1x128 i)
def logCol (l : FVec Ideal S128x128 .f32) (i : BitVec 32) : FVec Ideal S128x1 .f32 :=
  rowSum (select (over (laneIs i)) l (broadcast S128x128 (Scalar.ofBits .f32 0x00000000#32)))
def deltaT (b : IVec S1x128 1) (d o : FVec Ideal S128x128 .f32) : FVec Ideal S128x1 .f32 := rowSum (mulf (halfD b d) o)

/-- The weights and the gradient of the scores. -/
def weightT (x : FVec Ideal S128x272 .f32) (l : FVec Ideal S128x1 .f32) : FVec Ideal S128x272 .f32 :=
  exp (subf x (broadcastTo S128x272 l broadcasts_S128x1_S128x272))
def dscoreT (w dw : FVec Ideal S128x272 .f32) (e : FVec Ideal S128x1 .f32) : FVec Ideal S128x272 .f32 :=
  mulf w (subf dw (broadcastTo S128x272 e broadcasts_S128x1_S128x272))

/-- What a head gives its queries, and its keys or values. -/
def toQuery (ds : FVec Ideal S128x272 .f32) (k : FVec Ideal S272x128 .bf16) : FVec Ideal S128x128 .f32 :=
  mulf (matmul dot_S128x272_S272x128_S128x128_1_0_0_1_n_n none (truncf .bf16 ds bitsLt_bf16_f32) k (constant S128x128 .f32 0x00000000#32))
    (broadcast S128x128 (Scalar.ofBits .f32 0x3E000000#32))
def toKey (ds : FVec Ideal S128x272 .f32) (x : FVec Ideal S128x128 .bf16) : FVec Ideal S272x128 .f32 :=
  matmul dot_S128x272_S128x128_S272x128_0_0_1_1_n_n none (truncf .bf16 ds bitsLt_bf16_f32) x (constant S272x128 .f32 0x00000000#32)

/-- What a head's queries give its sink, in the head's lane. -/
def toSink (y : Ideal .f32) (l e : FVec Ideal S128x1 .f32) (i : BitVec 32) : FVec Ideal S128x128 .f32 :=
  select (over (laneIs i))
    (broadcastTo S128x128 (shapeCast S128x1 (subf (broadcast S128x1 (Scalar.ofBits .f32 0x00000000#32)) (mulf (exp (subf (broadcast S128x1 y) l)) e))
      shapeCasts_S128x1_S128x1) broadcasts_S128x1_S128x128)
    (broadcast S128x128 (Scalar.ofBits .f32 0x00000000#32))

theorem even_at (x : Fin 1) (c : Fin 128) : even (ix2 x c) = BitVec.ofBool (decide (c.val / 64 = 0)) := by
  unfold even
  pointwise []
  rw [show ∀ a b : BitVec 32, IntOp.cmpi CmpIPredicate.slt a b = BitVec.ofBool (a.slt b) from fun _ _ => rfl, word_nat,
    show (64#32) = BitVec.ofInt 32 64 from rfl, lt_word _ _ (by omega) (by omega) (by omega) (by omega)]
  refine congrArg BitVec.ofBool (decide_eq_decide.mpr ?_); omega
theorem odd_at (x : Fin 1) (c : Fin 128) : odd (ix2 x c) = BitVec.ofBool (decide (c.val / 64 = 1)) := by
  have h : odd (ix2 x c) = even (ix2 x c) ^^^ 1#1 := rfl
  rw [h, even_at, show (1#1) = BitVec.ofBool true from rfl]
  have : c.val / 64 = 0 ∨ c.val / 64 = 1 := by omega
  rcases this with h | h <;> simp [h]

theorem laneIs_at (l c : Fin 128) (x : Fin 1) : laneIs (BitVec.ofNat 32 l.val) (ix2 x c) = BitVec.ofBool (decide (c = l)) := by
  unfold laneIs
  pointwise []
  rw [show ∀ a b : BitVec 32, IntOp.cmpi CmpIPredicate.eq a b = BitVec.ofBool (a == b) from fun _ _ => rfl]
  refine congrArg BitVec.ofBool ?_
  rw [Bool.eq_iff_iff, beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

theorem halfQ_at (b : IVec S1x128 1) (q : FVec Ideal S128x128 .bf16) (r c : Fin 128) :
    halfQ b q (ix2 r c) = if b (ix2 0 c) = 1#1 then q (ix2 r c) * ((1 / 8 : ℝ) : EReal) else 0 := by
  unfold halfQ
  pointwise [bits_eighth_bf16]
  rfl
theorem halfD_at (b : IVec S1x128 1) (q : FVec Ideal S128x128 .f32) (r c : Fin 128) :
    halfD b q (ix2 r c) = if b (ix2 0 c) = 1#1 then q (ix2 r c) else 0 := by
  unfold halfD
  pointwise []
  rfl
theorem scoreT_at (M : IVec S128x272 1) (k : FVec Ideal S272x128 .bf16) (qm : FVec Ideal S128x128 .bf16) (r : Fin 128) (s : Fin 272) :
    scoreT M k qm (ix2 r s) = if M (ix2 r s) = 1#1 then ∑ c : Fin 128, qm (ix2 r c) * k (ix2 s c) else ⊥ := by
  unfold scoreT
  pointwise []
  rfl
theorem dweightT_at (v : FVec Ideal S272x128 .bf16) (dm : FVec Ideal S128x128 .f32) (r : Fin 128) (s : Fin 272) :
    dweightT v dm (ix2 r s) = ∑ c : Fin 128, dm (ix2 r c) * v (ix2 s c) := by
  unfold dweightT
  pointwise []
theorem rowSum_at (x : FVec Ideal S128x128 .f32) (r : Fin 128) (z : Fin 1) : rowSum x (ix2 r z) = ∑ c : Fin 128, x (ix2 r c) := by
  unfold rowSum
  pointwise []
theorem logCol_at (x : FVec Ideal S128x128 .f32) (l r : Fin 128) (z : Fin 1) : logCol x (BitVec.ofNat 32 l.val) (ix2 r z) = x (ix2 r l) := by
  unfold logCol
  rw [rowSum_at]
  have h : ∀ c : Fin 128, select (over (laneIs (BitVec.ofNat 32 l.val))) x (broadcast S128x128 (Scalar.ofBits .f32 0x00000000#32)) (ix2 r c)
      = if c = l then x (ix2 r c) else 0 := fun c => by
    have : select (over (laneIs (BitVec.ofNat 32 l.val))) x (broadcast S128x128 (Scalar.ofBits .f32 0x00000000#32)) (ix2 r c)
      = if laneIs (BitVec.ofNat 32 l.val) (ix2 0 c) = 1#1 then x (ix2 r c) else 0 := by pointwise []; rfl
    rw [this, laneIs_at]
    by_cases h : c = l <;> simp [h]
  rw [Finset.sum_congr rfl fun c _ => h c, Finset.sum_ite_eq' Finset.univ l, if_pos (Finset.mem_univ _)]
theorem deltaT_at (b : IVec S1x128 1) (d o : FVec Ideal S128x128 .f32) (r : Fin 128) (z : Fin 1) :
    deltaT b d o (ix2 r z) = ∑ c : Fin 128, halfD b d (ix2 r c) * o (ix2 r c) := by
  unfold deltaT
  rw [rowSum_at]; rfl
theorem weightT_at (x : FVec Ideal S128x272 .f32) (l : FVec Ideal S128x1 .f32) (r : Fin 128) (s : Fin 272) :
    weightT x l (ix2 r s) = Ideal.exp (x (ix2 r s) - l (ix2 r 0)) := by
  unfold weightT
  pointwise []
theorem dscoreT_at (w dw : FVec Ideal S128x272 .f32) (e : FVec Ideal S128x1 .f32) (r : Fin 128) (s : Fin 272) :
    dscoreT w dw e (ix2 r s) = w (ix2 r s) * (dw (ix2 r s) - e (ix2 r 0)) := by
  unfold dscoreT
  pointwise []
theorem toQuery_at (ds : FVec Ideal S128x272 .f32) (k : FVec Ideal S272x128 .bf16) (r c : Fin 128) :
    toQuery ds k (ix2 r c) = (∑ s : Fin 272, ds (ix2 r s) * k (ix2 s c)) * ((1 / 8 : ℝ) : EReal) := by
  unfold toQuery
  pointwise [bits_eighth]
theorem toKey_at (ds : FVec Ideal S128x272 .f32) (x : FVec Ideal S128x128 .bf16) (s : Fin 272) (c : Fin 128) :
    toKey ds x (ix2 s c) = ∑ r : Fin 128, ds (ix2 r s) * x (ix2 r c) := by
  unfold toKey
  pointwise []
theorem toSink_at (y : Ideal .f32) (u e : FVec Ideal S128x1 .f32) (l r c : Fin 128) :
    toSink y u e (BitVec.ofNat 32 l.val) (ix2 r c) = if c = l then 0 - Ideal.exp (y - u (ix2 r 0)) * e (ix2 r 0) else 0 := by
  have : ∀ i, toSink y u e i (ix2 r c) = if laneIs i (ix2 0 c) = 1#1 then 0 - Ideal.exp (y - u (ix2 r 0)) * e (ix2 r 0) else 0 := fun i => by
    unfold toSink
    pointwise []
    rfl
  rw [this, laneIs_at]
  by_cases h : c = l <;> simp [h]

/-- The kernel's mask: what a query attends to. -/
theorem mask_at (i : grid0.Coords) (n : Fin 65) (hn : (i 0).val = n.val) (r : Fin 128) (s : Fin 272) :
    k0_pay5 i (ix2 r s) = BitVec.ofBool (decide (Allowed n r s)) := by
  have hr := r.isLt; have hs := s.isLt; have hn' := n.isLt
  have a1 : ∀ x y : Int, IntOp.addi (BitVec.ofInt 32 x) (BitVec.ofInt 32 y) = BitVec.ofInt 32 (x + y) := fun x y => (BitVec.ofInt_add x y).symm
  have a2 : ∀ x y : Int, IntOp.subi (BitVec.ofInt 32 x) (BitVec.ofInt 32 y) = BitVec.ofInt 32 (x - y) := fun x y => by
    rw [sub_eq_add_neg x y, BitVec.ofInt_add, BitVec.ofInt_neg]; exact BitVec.sub_eq_add_neg _ _
  unfold k0_pay5
  pointwise []
  rw [hn]
  simp only [word_nat, show (16#32) = BitVec.ofInt 32 16 from rfl, show (112#32) = BitVec.ofInt 32 112 from rfl, show (144#32) = BitVec.ofInt 32 144 from rfl,
    show (1#32) = BitVec.ofInt 32 1 from rfl, show (2#32) = BitVec.ofInt 32 2 from rfl, a1, a2]
  simp only [IntOp.andi, IntOp.ori, Scalar.cmpi, IntOp.cmpi]
  rw [le_word _ _ (by omega) (by omega) (by omega) (by omega), le_word _ _ (by omega) (by omega) (by omega) (by omega),
    le_word _ _ (by omega) (by omega) (by omega) (by omega), le_word _ _ (by omega) (by omega) (by omega) (by omega),
    le_word _ _ (by omega) (by omega) (by omega) (by omega), le_word _ _ (by omega) (by omega) (by omega) (by omega),
    lt_word _ _ (by omega) (by omega) (by omega) (by omega), lt_word _ _ (by omega) (by omega) (by omega) (by omega),
    lt_word _ _ (by omega) (by omega) (by omega) (by omega)]
  simp only [bit_and, bit_or]
  refine congrArg BitVec.ofBool ?_
  rw [Bool.eq_iff_iff]
  simp only [Bool.or_eq_true, Bool.and_eq_true, decide_eq_true_eq]
  unfold Allowed; omega

end Cert.AttnIdeal.Tile
end
-- ==== Proof.AttnHost.lean ====
/- The attention gradient's arguments as the host prepares them: the stages of the host's lines, and what each stage leaves. -/
module
public import proofs.«01_k».proof.Proof.Gen.AttnIdeal.Value
public import proofs.«01_k».proof.Proof.AttnLib
public import proofs.«01_k».proof.Proof.Reals
public import Idealize.ShloMosaic.Lib.Pointwise
@[expose] public section
set_option maxRecDepth 16384
noncomputable section
open Idealize.ShloMosaic Idealize.ShloMosaic.TcCoe Idealize.SL.Sem Idealize.ShloMosaic.StableHlo
namespace Cert.AttnIdeal.Host
open Cert.AttnIdeal Cert.AttnIdeal.Gen
open Idealize.ShloMosaic.Pointwise Cert.Hand Cert.Hand.Attn

variable (X : Valuation τ sig (Elt Ideal))

/-- The last lines but one group: scores to weights, in three parts. -/
abbrev opsA : List (HloOp τ sig (Elt Ideal)) := (hostOps0_6 (F := Ideal)).take 5
abbrev opsB : List (HloOp τ sig (Elt Ideal)) := ((hostOps0_6 (F := Ideal)).drop 5).take 10
abbrev opsC : List (HloOp τ sig (Elt Ideal)) := (hostOps0_6 (F := Ideal)).drop 15

/-- What the references hold after each stage. -/
def e1 : Valuation τ sig (Elt Ideal) := after hostOps0 X
def e2 : Valuation τ sig (Elt Ideal) := after hostOps0_1 (e1 X)
def e3 : Valuation τ sig (Elt Ideal) := after hostOps0_2 (e2 X)
def e4 : Valuation τ sig (Elt Ideal) := after hostOps0_3 (e3 X)
def e5 : Valuation τ sig (Elt Ideal) := after hostOps0_4 (e4 X)
def e6 : Valuation τ sig (Elt Ideal) := after hostOps0_5 (e5 X)
def e7 : Valuation τ sig (Elt Ideal) := after opsA (e6 X)
def e8 : Valuation τ sig (Elt Ideal) := after opsB (e7 X)
def e9 : Valuation τ sig (Elt Ideal) := after opsC (e8 X)
def e10 : Valuation τ sig (Elt Ideal) := after hostOps0_7 (e9 X)

theorem V_eq (m : (ℓ : Loc nD τ sig) → Buf (Elt Ideal) ℓ) (c : Dev nD) (b : Ref sig .tc) :
    V m c b = e10 (fun b => m (c, b)) (Proc.devRef .tc b) := by
  unfold e10 e9 e8 e7 e6 e5 e4 e3 e2 e1
  rw [← after_append, ← after_append, ← after_append, ← after_append, ← after_append, ← after_append, ← after_append, ← after_append, ← after_append]
  rfl

variable (n : Fin 65) (r : Fin 128) (s : Fin 272)

theorem mask : (e1 X (Proc.devRef .tc main_v47) : IVec S65x1x1x1x128x272 1) (ix6 n 0 0 0 r s) = BitVec.ofBool (decide (Allowed n r s)) := by
  refine Eq.trans ?_ (mask_ref n r s)
  unfold e1
  simp only [hostOps0, TRef.binary, TRef.unary, TRef.ternary, TRef.toBuf, TRef.ofBuf, cast_eq]
  after_results_simp
  pointwise
  after_results_simp
  pointwise
  simp only [dite_eq_ite]

/-- The arguments are real. -/
structure Args (Q : Fin 8320 → Fin 1024 → ℝ) (K V : Fin 8320 → Fin 256 → ℝ) (σ : Fin 16 → ℝ) : Prop where
  q : ∀ a b, (X (Proc.devRef .tc main_arg0) : FVec Ideal S8320x1024 .bf16) (ix2 a b) = ((Q a b : ℝ) : EReal)
  k : ∀ a b, (X (Proc.devRef .tc main_arg1) : FVec Ideal S8320x256 .bf16) (ix2 a b) = ((K a b : ℝ) : EReal)
  v : ∀ a b, (X (Proc.devRef .tc main_arg2) : FVec Ideal S8320x256 .bf16) (ix2 a b) = ((V a b : ℝ) : EReal)
  s : ∀ a, (X (Proc.devRef .tc main_arg3) : FVec Ideal S16 .f32) (ix1 a) = ((σ a : ℝ) : EReal)

/-- Entries as extended reals. -/
abbrev A6 (x : FVec Ideal S65x2x4x2x128x272 .f32) (n : Fin 65) (k : Fin 2) (j : Fin 4) (p : Fin 2) (r : Fin 128) (s : Fin 272) : EReal := x (ix6 n k j p r s)
abbrev A5 (x : FVec Ideal S65x2x4x2x128 .f32) (n : Fin 65) (k : Fin 2) (j : Fin 4) (p : Fin 2) (r : Fin 128) : EReal := x (ix5 n k j p r)
abbrev K5 (x : FVec Ideal S65x272x2x2x64 .f32) (n : Fin 65) (s : Fin 272) (k : Fin 2) (p : Fin 2) (d : Fin 64) : EReal := x (ix5 n s k p d)
abbrev Q6 (x : FVec Ideal S65x128x2x4x2x64 .f32) (n : Fin 65) (r : Fin 128) (k : Fin 2) (j : Fin 4) (p : Fin 2) (d : Fin 64) : EReal := x (ix6 n r k j p d)

variable {X}
variable {Q : Fin 8320 → Fin 1024 → ℝ} {K V : Fin 8320 → Fin 256 → ℝ} {σ : Fin 16 → ℝ} (k : Fin 2) (j : Fin 4) (p : Fin 2) (d : Fin 64)

theorem keyRow (H : Args X Q K V σ) (a a' : Fin 8320) (b : Fin 256) (h : a.val = a'.val) :
    (X (Proc.devRef .tc main_arg1) : FVec Ideal S8320x256 .bf16) (ix2 a b) = ((K a' b : ℝ) : EReal) := by
  rw [← Fin.ext h]; exact H.k a b
theorem valRow (H : Args X Q K V σ) (a a' : Fin 8320) (b : Fin 256) (h : a.val = a'.val) :
    (X (Proc.devRef .tc main_arg2) : FVec Ideal S8320x256 .bf16) (ix2 a b) = ((V a' b : ℝ) : EReal) := by
  rw [← Fin.ext h]; exact H.v a b

theorem keys (H : Args X Q K V σ) : K5 (e3 X (Proc.devRef .tc main_v58)) n s k p d = ((keyAt K n s (kcol k p d) : ℝ) : EReal) := by
  have hs := s.isLt; have hn := n.isLt
  unfold keyAt
  by_cases h : s.val < 16
  · simp only [if_pos h]
    refine Eq.trans ?_ (keyRow H ⟨112 + s.val, by omega⟩ _ _ (show 112 + s.val = 112 + s.val % 16 by omega))
    unfold e3 e2 e1
    simp only [hostOps0_2, hostOps0_1, hostOps0, TRef.binary, TRef.unary, TRef.ternary, TRef.toBuf, TRef.ofBuf, cast_eq]
    after_results_simp
    pointwise [K5, h]
    after_results_simp
    pointwise
  · simp only [if_neg h]
    by_cases h2 : s.val < 144
    · have h2' : s.val - 16 < 128 := by omega
      simp only [if_pos h2]
      by_cases h3 : 1 ≤ n.val
      · simp only [if_pos h3]
        refine Eq.trans ?_ (keyRow H ⟨n.val * 128 + (s.val - 16) - 128, by omega⟩ _ _ (show n.val * 128 + (s.val - 16) - 128 = n.val * 128 + (s.val - 16) % 128 - 128 by omega))
        unfold e3 e2 e1
        simp only [hostOps0_2, hostOps0_1, hostOps0, TRef.binary, TRef.unary, TRef.ternary, TRef.toBuf, TRef.ofBuf, cast_eq]
        after_results_simp
        pointwise [K5, h, h2']
        after_results_simp
        pointwise
        exact dif_pos ⟨⟨by omega, by omega⟩, by omega⟩
      · simp only [if_neg h3]
        unfold e3 e2 e1
        simp only [hostOps0_2, hostOps0_1, hostOps0, TRef.binary, TRef.unary, TRef.ternary, TRef.toBuf, TRef.ofBuf, cast_eq]
        after_results_simp
        pointwise [K5, h, h2']
        after_results_simp
        pointwise
        refine (dif_neg fun hh => ?_).trans ?_
        · have h4 : 128 ≤ n.val * 128 + (s.val - 16) := hh.1.1
          omega
        · show (((0#32 : BitVec 32).toInt : ℝ) : EReal) = _
          simp
    · have h2' : ¬ s.val - 16 < 128 := by omega
      simp only [if_neg h2]
      refine Eq.trans ?_ (keyRow H ⟨n.val * 128 + (s.val - 16 - 128), by omega⟩ _ _ (show n.val * 128 + (s.val - 16 - 128) = n.val * 128 + (s.val - 144) % 128 by omega))
      unfold e3 e2 e1
      simp only [hostOps0_2, hostOps0_1, hostOps0, TRef.binary, TRef.unary, TRef.ternary, TRef.toBuf, TRef.ofBuf, cast_eq]
      after_results_simp
      pointwise [K5, h, h2']
      after_results_simp
      pointwise

theorem values (H : Args X Q K V σ) : K5 (e5 X (Proc.devRef .tc main_v69)) n s k p d = ((keyAt V n s (kcol k p d) : ℝ) : EReal) := by
  have hs := s.isLt; have hn := n.isLt
  unfold keyAt
  by_cases h : s.val < 16
  · simp only [if_pos h]
    refine Eq.trans ?_ (valRow H ⟨112 + s.val, by omega⟩ _ _ (show 112 + s.val = 112 + s.val % 16 by omega))
    unfold e5 e4 e3 e2 e1
    simp only [hostOps0_4, hostOps0_3, hostOps0_2, hostOps0_1, hostOps0, TRef.binary, TRef.unary, TRef.ternary, TRef.toBuf, TRef.ofBuf, cast_eq]
    after_results_simp
    pointwise [K5, h]
    after_results_simp
    pointwise
  · simp only [if_neg h]
    by_cases h2 : s.val < 144
    · have h2' : s.val - 16 < 128 := by omega
      simp only [if_pos h2]
      by_cases h3 : 1 ≤ n.val
      · simp only [if_pos h3]
        refine Eq.trans ?_ (valRow H ⟨n.val * 128 + (s.val - 16) - 128, by omega⟩ _ _ (show n.val * 128 + (s.val - 16) - 128 = n.val * 128 + (s.val - 16) % 128 - 128 by omega))
        unfold e5 e4 e3 e2 e1
        simp only [hostOps0_4, hostOps0_3, hostOps0_2, hostOps0_1, hostOps0, TRef.binary, TRef.unary, TRef.ternary, TRef.toBuf, TRef.ofBuf, cast_eq]
        after_results_simp
        pointwise [K5, h, h2']
        after_results_simp
        pointwise
        exact dif_pos ⟨⟨by omega, by omega⟩, by omega⟩
      · simp only [if_neg h3]
        unfold e5 e4 e3 e2 e1
        simp only [hostOps0_4, hostOps0_3, hostOps0_2, hostOps0_1, hostOps0, TRef.binary, TRef.unary, TRef.ternary, TRef.toBuf, TRef.ofBuf, cast_eq]
        after_results_simp
        pointwise [K5, h, h2']
        after_results_simp
        pointwise
        refine (dif_neg fun hh => ?_).trans ?_
        · have h4 : 128 ≤ n.val * 128 + (s.val - 16) := hh.1.1
          omega
        · show (((0#32 : BitVec 32).toInt : ℝ) : EReal) = _
          simp
    · have h2' : ¬ s.val - 16 < 128 := by omega
      simp only [if_neg h2]
      refine Eq.trans ?_ (valRow H ⟨n.val * 128 + (s.val - 16 - 128), by omega⟩ _ _ (show n.val * 128 + (s.val - 16 - 128) = n.val * 128 + (s.val - 144) % 128 by omega))
      unfold e5 e4 e3 e2 e1
      simp only [hostOps0_4, hostOps0_3, hostOps0_2, hostOps0_1, hostOps0, TRef.binary, TRef.unary, TRef.ternary, TRef.toBuf, TRef.ofBuf, cast_eq]
      after_results_simp
      pointwise [K5, h, h2']
      after_results_simp
      pointwise

theorem keep_mask : e5 X (Proc.devRef .tc main_v47) = e1 X (Proc.devRef .tc main_v47) := by
  unfold e5 e4 e3 e2
  simp only [hostOps0_4, hostOps0_3, hostOps0_2, hostOps0_1, TRef.binary, TRef.unary, TRef.ternary, TRef.toBuf, TRef.ofBuf, cast_eq]
  after_results_simp

theorem keep_arg0 : e4 X (Proc.devRef .tc main_arg0) = X (Proc.devRef .tc main_arg0) := by
  unfold e4 e3 e2 e1
  simp only [hostOps0_3, hostOps0_2, hostOps0_1, hostOps0, TRef.binary, TRef.unary, TRef.ternary, TRef.toBuf, TRef.ofBuf, cast_eq]
  after_results_simp

theorem keep_arg3 : e6 X (Proc.devRef .tc main_arg3) = X (Proc.devRef .tc main_arg3) := by
  unfold e6 e5 e4 e3 e2 e1
  simp only [hostOps0_5, hostOps0_4, hostOps0_3, hostOps0_2, hostOps0_1, hostOps0, TRef.binary, TRef.unary, TRef.ternary, TRef.toBuf, TRef.ofBuf, cast_eq]
  after_results_simp

theorem keep_keys : e4 X (Proc.devRef .tc main_v58) = e3 X (Proc.devRef .tc main_v58) := by
  unfold e4
  simp only [hostOps0_3, TRef.binary, TRef.unary, TRef.ternary, TRef.toBuf, TRef.ofBuf, cast_eq]
  after_results_simp

theorem keep_values : e8 X (Proc.devRef .tc main_v69) = e5 X (Proc.devRef .tc main_v69) := by
  unfold e8 e7 e6
  simp only [opsB, hostOps0_6, List.take, List.drop, opsA, hostOps0_6, List.take, List.drop, hostOps0_5, TRef.binary, TRef.unary, TRef.ternary, TRef.toBuf, TRef.ofBuf, cast_eq]
  after_results_simp

theorem keep_scores : e7 X (Proc.devRef .tc main_v76) = e6 X (Proc.devRef .tc main_v76) := by
  unfold e7
  simp only [opsA, hostOps0_6, List.take, List.drop, TRef.binary, TRef.unary, TRef.ternary, TRef.toBuf, TRef.ofBuf, cast_eq]
  after_results_simp

theorem keep_max : e8 X (Proc.devRef .tc main_v80) = e7 X (Proc.devRef .tc main_v80) := by
  unfold e8
  simp only [opsB, hostOps0_6, List.take, List.drop, TRef.binary, TRef.unary, TRef.ternary, TRef.toBuf, TRef.ofBuf, cast_eq]
  after_results_simp

theorem scores : A6 (e5 X (Proc.devRef .tc main_v75)) n k j p r s =
    (∑ x, K5 (e4 X (Proc.devRef .tc main_v58)) n s k p x * Q6 (shapeCast S65x128x2x4x2x64 (extf .f32 (e4 X (Proc.devRef .tc main_arg0) : FVec Ideal S8320x1024 .bf16) bitsLt_bf16_f32) shapeCasts_S8320x1024_S65x128x2x4x2x64) n r k j p x) * ((1 / 8 : ℝ) : EReal) := by
  rw [← bits_eighth]
  unfold e5
  simp only [hostOps0_4, TRef.binary, TRef.unary, TRef.ternary, TRef.toBuf, TRef.ofBuf, cast_eq]
  after_results_simp
  pointwise [A6, K5, Q6]

theorem query (H : Args X Q K V σ) : Q6 (shapeCast S65x128x2x4x2x64 (extf .f32 (e4 X (Proc.devRef .tc main_arg0) : FVec Ideal S8320x1024 .bf16) bitsLt_bf16_f32) shapeCasts_S8320x1024_S65x128x2x4x2x64) n r k j p d = ((Q (row n r) (col k j p d) : ℝ) : EReal) := by
  rw [keep_arg0]
  refine Eq.trans ?_ (H.q _ _)
  pointwise [Q6]

theorem masked : A6 (e6 X (Proc.devRef .tc main_v76)) n k j p r s = Scalar.select ((e5 X (Proc.devRef .tc main_v47) : IVec S65x1x1x1x128x272 1) (ix6 n 0 0 0 r s))
    (A6 (e5 X (Proc.devRef .tc main_v75)) n k j p r s) (Ideal.ofBits FTy.f32 (0xFF800000#32)) := by
  have hc : @Eq (FVec Ideal S_ .f32) (e5 X (Proc.devRef .tc main_cst_9)) (constant S_ .f32 0xFF800000#32) := by
    unfold e5
    simp only [hostOps0_4, TRef.binary, TRef.unary, TRef.ternary, TRef.toBuf, TRef.ofBuf, cast_eq]
    after_results_simp
    try rfl
  unfold e6
  simp only [hostOps0_5, TRef.binary, TRef.unary, TRef.ternary, TRef.toBuf, TRef.ofBuf, cast_eq]
  after_results_simp
  rw [hc]
  pointwise [A6]
  rfl

theorem sinks (H : Args X Q K V σ) : A5 (e7 X (Proc.devRef .tc main_v78)) n k j p r = ((σ (head k j p) : ℝ) : EReal) := by
  refine Eq.trans ?_ (H.s _)
  unfold e7
  simp only [opsA, hostOps0_6, List.take, List.drop, TRef.binary, TRef.unary, TRef.ternary, TRef.toBuf, TRef.ofBuf, cast_eq]
  after_results_simp
  rw [keep_arg3]
  pointwise [A5]

theorem maxima : A5 (e7 X (Proc.devRef .tc main_v79)) n k j p r =
    (Finset.univ : Finset (Fin 272)).fold max ⊥ fun s => A6 (e6 X (Proc.devRef .tc main_v76)) n k j p r s := by
  rw [← bits_bot]
  refine Eq.trans ?_ (max_last reducesTo_S65x2x4x2x128x272_S65x2x4x2x128_d5 n k j p r (e6 X (Proc.devRef .tc main_v76) : FVec Ideal S65x2x4x2x128x272 .f32) _)
  unfold e7
  simp only [opsA, hostOps0_6, List.take, List.drop, TRef.binary, TRef.unary, TRef.ternary, TRef.toBuf, TRef.ofBuf, cast_eq]
  after_results_simp
  pointwise [A5, A6]

theorem top : @Eq (FVec Ideal S65x2x4x2x128 .f32) (e7 X (Proc.devRef .tc main_v80)) (maximumf (e7 X (Proc.devRef .tc main_v79) : FVec Ideal S65x2x4x2x128 .f32) (e7 X (Proc.devRef .tc main_v78) : FVec Ideal S65x2x4x2x128 .f32)) := by
  unfold e7
  simp only [opsA, hostOps0_6, List.take, List.drop, TRef.binary, TRef.unary, TRef.ternary, TRef.toBuf, TRef.ofBuf, cast_eq]
  after_results_simp

theorem exps : A6 (e8 X (Proc.devRef .tc main_v85)) n k j p r s = Ideal.exp (A6 (e7 X (Proc.devRef .tc main_v76)) n k j p r s - A5 (e7 X (Proc.devRef .tc main_v80)) n k j p r) := by
  unfold e8
  simp only [opsB, hostOps0_6, List.take, List.drop, TRef.binary, TRef.unary, TRef.ternary, TRef.toBuf, TRef.ofBuf, cast_eq]
  after_results_simp
  pointwise [A6, A5]

theorem sinkExp : A5 (e8 X (Proc.devRef .tc main_v82)) n k j p r = Ideal.exp (A5 (e7 X (Proc.devRef .tc main_v78)) n k j p r - A5 (e7 X (Proc.devRef .tc main_v80)) n k j p r) := by
  unfold e8
  simp only [opsB, hostOps0_6, List.take, List.drop, TRef.binary, TRef.unary, TRef.ternary, TRef.toBuf, TRef.ofBuf, cast_eq]
  after_results_simp
  pointwise [A6, A5]

theorem dens : A5 (e8 X (Proc.devRef .tc main_v87)) n k j p r = (0 + ∑ s, A6 (e8 X (Proc.devRef .tc main_v85)) n k j p r s) + A5 (e8 X (Proc.devRef .tc main_v82)) n k j p r := by
  rw [← sum_last reducesTo_S65x2x4x2x128x272_S65x2x4x2x128_d5 n k j p r (e8 X (Proc.devRef .tc main_v85) : FVec Ideal S65x2x4x2x128x272 .f32)]
  unfold e8
  simp only [opsB, hostOps0_6, List.take, List.drop, TRef.binary, TRef.unary, TRef.ternary, TRef.toBuf, TRef.ofBuf, cast_eq]
  after_results_simp
  pointwise [A6, A5]

theorem weights : A6 (e8 X (Proc.devRef .tc main_v89)) n k j p r s = Ideal.div (A6 (e8 X (Proc.devRef .tc main_v85)) n k j p r s) (A5 (e8 X (Proc.devRef .tc main_v87)) n k j p r) := by
  unfold e8
  simp only [opsB, hostOps0_6, List.take, List.drop, TRef.binary, TRef.unary, TRef.ternary, TRef.toBuf, TRef.ofBuf, cast_eq]
  after_results_simp
  pointwise [A6, A5]

theorem outShape (v : FVec Ideal S65x272x2x2x64 .f32) (w : FVec Ideal S65x2x4x2x128x272 .f32) (a : Fin 8320) (b : Fin 1024) :
    (shapeCast S8320x1024 (transpose S65x128x2x4x2x64 [0, 5, 1, 4, 2, 3] (Host.dotGeneral dot_S65x272x2x2x64_S65x2x4x2x128x272_S65x2x2x64x4x128_1_5_4_24_023_013 none v w : FVec Ideal S65x2x2x64x4x128 .f32) transposes_S65x2x2x64x4x128_S65x128x2x4x2x64_0_5_1_4_2_3) shapeCasts_S65x128x2x4x2x64_S8320x1024 : FVec Ideal S8320x1024 .f32) (ix2 a b) =
    ∑ s, K5 v ⟨a.val / 128, by omega⟩ s ⟨b.val / 512, by omega⟩ ⟨b.val / 64 % 2, by omega⟩ ⟨b.val % 64, by omega⟩ *
      A6 w ⟨a.val / 128, by omega⟩ ⟨b.val / 512, by omega⟩ ⟨b.val / 128 % 4, by omega⟩ ⟨b.val / 64 % 2, by omega⟩ ⟨a.val % 128, by omega⟩ s := by
  pointwise [K5, A6]

theorem outs (a : Fin 8320) (b : Fin 1024) : (e9 X (Proc.devRef .tc main_v92) : FVec Ideal S8320x1024 .f32) (ix2 a b) =
    ∑ s, K5 (e8 X (Proc.devRef .tc main_v69)) ⟨a.val / 128, by omega⟩ s ⟨b.val / 512, by omega⟩ ⟨b.val / 64 % 2, by omega⟩ ⟨b.val % 64, by omega⟩ *
      A6 (e8 X (Proc.devRef .tc main_v89)) ⟨a.val / 128, by omega⟩ ⟨b.val / 512, by omega⟩ ⟨b.val / 128 % 4, by omega⟩ ⟨b.val / 64 % 2, by omega⟩ ⟨a.val % 128, by omega⟩ s := by
  unfold e9
  simp only [opsC, hostOps0_6, List.take, List.drop, TRef.binary, TRef.unary, TRef.ternary, TRef.toBuf, TRef.ofBuf, cast_eq]
  after_results_simp
  exact outShape _ _ a b

theorem logShape (x y : FVec Ideal S65x2x4x2x128 .f32) (a : Fin 8320) (l : Fin 16) :
    (shapeCast S8320x16 (transpose S65x128x2x4x2 [0, 4, 1, 2, 3] (addf x (Host.log y)) transposes_S65x2x4x2x128_S65x128x2x4x2_0_4_1_2_3) shapeCasts_S65x128x2x4x2_S8320x16 : FVec Ideal S8320x16 .f32) (ix2 a l) =
    A5 x ⟨a.val / 128, by omega⟩ ⟨l.val / 8, by omega⟩ ⟨l.val / 2 % 4, by omega⟩ ⟨l.val % 2, by omega⟩ ⟨a.val % 128, by omega⟩ +
      Ideal.log (A5 y ⟨a.val / 128, by omega⟩ ⟨l.val / 8, by omega⟩ ⟨l.val / 2 % 4, by omega⟩ ⟨l.val % 2, by omega⟩ ⟨a.val % 128, by omega⟩) := by
  pointwise [A5]

theorem logs (a : Fin 8320) (l : Fin 16) : (e9 X (Proc.devRef .tc main_v96) : FVec Ideal S8320x16 .f32) (ix2 a l) =
    A5 (e8 X (Proc.devRef .tc main_v80)) ⟨a.val / 128, by omega⟩ ⟨l.val / 8, by omega⟩ ⟨l.val / 2 % 4, by omega⟩ ⟨l.val % 2, by omega⟩ ⟨a.val % 128, by omega⟩ +
      Ideal.log (A5 (e8 X (Proc.devRef .tc main_v87)) ⟨a.val / 128, by omega⟩ ⟨l.val / 8, by omega⟩ ⟨l.val / 2 % 4, by omega⟩ ⟨l.val % 2, by omega⟩ ⟨a.val % 128, by omega⟩) := by
  unfold e9
  simp only [opsC, hostOps0_6, List.take, List.drop, TRef.binary, TRef.unary, TRef.ternary, TRef.toBuf, TRef.ofBuf, cast_eq]
  after_results_simp
  exact logShape _ _ a l

theorem padded (a : Fin 8320) (l : Fin 128) (h : l.val < 16) : (e10 X (Proc.devRef .tc main_v97) : FVec Ideal S8320x128 .f32) (ix2 a l) =
    (e9 X (Proc.devRef .tc main_v96) : FVec Ideal S8320x16 .f32) (ix2 a ⟨l.val, h⟩) := by
  unfold e10
  simp only [hostOps0_7, TRef.binary, TRef.unary, TRef.ternary, TRef.toBuf, TRef.ofBuf, cast_eq]
  after_results_simp
  pointwise [h]

theorem kept_out : e10 X (Proc.devRef .tc main_v92) = e9 X (Proc.devRef .tc main_v92) := by
  unfold e10
  simp only [hostOps0_7, TRef.binary, TRef.unary, TRef.ternary, TRef.toBuf, TRef.ofBuf, cast_eq]
  after_results_simp

theorem score_eq (H : Args X Q K V σ) : A6 (e6 X (Proc.devRef .tc main_v76)) n k j p r s = score (Allowed n r) (logit Q K n k j p r) s := by
  rw [masked, keep_mask, mask, scores, bits_bot, keep_keys,
    Finset.sum_congr rfl fun x _ => by rw [keys n s k p x H, query n r k j p x H, ← EReal.coe_mul], coe_sum, ← EReal.coe_mul]
  unfold score logit Scalar.select
  by_cases h : Allowed n r s
  · rw [if_pos h, if_pos (by rw [decide_eq_true h]; rfl)]
    exact congrArg (fun t : ℝ => ((t * (1 / 8) : ℝ) : EReal)) (Finset.sum_congr rfl fun x _ => mul_comm _ _)
  · rw [if_neg h, if_neg (by rw [decide_eq_false h]; decide)]

theorem mx5 (x y : FVec Ideal S65x2x4x2x128 .f32) : A5 (maximumf x y) n k j p r = max (A5 x n k j p r) (A5 y n k j p r) := rfl

theorem top_real (H : Args X Q K V σ) : ∃ M : ℝ, A5 (e7 X (Proc.devRef .tc main_v80)) n k j p r = M := by
  obtain ⟨M, h⟩ := max_real (Allowed n r) (logit Q K n k j p r) (σ (head k j p))
  refine ⟨M, ?_⟩
  rw [top, mx5, maxima, sinks n r k j p H, ← h]
  exact congrArg (fun f => max ((Finset.univ : Finset (Fin 272)).fold max ⊥ f) _) (funext fun s => score_eq n r s k j p H)

theorem exp_eq (H : Args X Q K V σ) {M : ℝ} (hM : A5 (e7 X (Proc.devRef .tc main_v80)) n k j p r = M) :
    A6 (e8 X (Proc.devRef .tc main_v85)) n k j p r s = ((num (Allowed n r) (logit Q K n k j p r) M s : ℝ) : EReal) := by
  rw [exps, hM, keep_scores, score_eq n r s k j p H, exp_score]

theorem den_eq (H : Args X Q K V σ) {M : ℝ} (hM : A5 (e7 X (Proc.devRef .tc main_v80)) n k j p r = M) :
    A5 (e8 X (Proc.devRef .tc main_v87)) n k j p r = ((den (Allowed n r) (logit Q K n k j p r) (σ (head k j p)) M : ℝ) : EReal) := by
  rw [dens, sinkExp, hM, sinks n r k j p H, exp_sink, Finset.sum_congr rfl fun s _ => exp_eq n r s k j p H hM, coe_sum, zero_add, ← EReal.coe_add]; rfl

theorem weight_real (H : Args X Q K V σ) : A6 (e8 X (Proc.devRef .tc main_v89)) n k j p r s = ((W Q K σ n k j p r s : ℝ) : EReal) := by
  obtain ⟨M, hM⟩ := top_real n r k j p H
  rw [weights, exp_eq n r s k j p H hM, den_eq n r k j p H hM, div_real _ (den_pos _ _ _ _).ne', weight_eq]; rfl

/-- The forward output and the logarithm of the softmax's denominator, in real numbers. -/
def attnOut (Q : Fin 8320 → Fin 1024 → ℝ) (K V : Fin 8320 → Fin 256 → ℝ) (σ : Fin 16 → ℝ) (n : Fin 65) (k : Fin 2) (j : Fin 4) (p : Fin 2) (r : Fin 128) (d : Fin 64) : ℝ :=
  ∑ s, W Q K σ n k j p r s * keyAt V n s (kcol k p d)
def logDen (Q : Fin 8320 → Fin 1024 → ℝ) (K : Fin 8320 → Fin 256 → ℝ) (σ : Fin 16 → ℝ) (n : Fin 65) (k : Fin 2) (j : Fin 4) (p : Fin 2) (r : Fin 128) : ℝ :=
  Real.log (den (Allowed n r) (logit Q K n k j p r) (σ (head k j p)) 0)

theorem out_real (H : Args X Q K V σ) (a : Fin 8320) (b : Fin 1024) (ha : a.val = n.val * 128 + r.val) (hb : b.val = k.val * 512 + j.val * 128 + p.val * 64 + d.val) :
    (e10 X (Proc.devRef .tc main_v92) : FVec Ideal S8320x1024 .f32) (ix2 a b) = ((attnOut Q K V σ n k j p r d : ℝ) : EReal) := by
  have q1 : (⟨a.val / 128, by omega⟩ : Fin 65) = n := Fin.ext (by show a.val / 128 = n.val; omega)
  have q2 : (⟨a.val % 128, by omega⟩ : Fin 128) = r := Fin.ext (by show a.val % 128 = r.val; omega)
  have q3 : (⟨b.val / 512, by omega⟩ : Fin 2) = k := Fin.ext (by show b.val / 512 = k.val; omega)
  have q4 : (⟨b.val / 128 % 4, by omega⟩ : Fin 4) = j := Fin.ext (by show b.val / 128 % 4 = j.val; omega)
  have q5 : (⟨b.val / 64 % 2, by omega⟩ : Fin 2) = p := Fin.ext (by show b.val / 64 % 2 = p.val; omega)
  have q6 : (⟨b.val % 64, by omega⟩ : Fin 64) = d := Fin.ext (by show b.val % 64 = d.val; omega)
  rw [kept_out, outs, q1, q2, q3, q4, q5, q6, keep_values,
    Finset.sum_congr rfl fun s _ => by rw [values n s k p d H, weight_real n r s k j p H, ← EReal.coe_mul, mul_comm], coe_sum]
  rfl

theorem log_real (H : Args X Q K V σ) (a : Fin 8320) (l : Fin 128) (ha : a.val = n.val * 128 + r.val) (hl : l.val = k.val * 8 + j.val * 2 + p.val) :
    (e10 X (Proc.devRef .tc main_v97) : FVec Ideal S8320x128 .f32) (ix2 a l) = ((logDen Q K σ n k j p r : ℝ) : EReal) := by
  have q1 : (⟨a.val / 128, by omega⟩ : Fin 65) = n := Fin.ext (by show a.val / 128 = n.val; omega)
  have q2 : (⟨a.val % 128, by omega⟩ : Fin 128) = r := Fin.ext (by show a.val % 128 = r.val; omega)
  have q3 : (⟨l.val / 8, by omega⟩ : Fin 2) = k := Fin.ext (by show l.val / 8 = k.val; omega)
  have q4 : (⟨l.val / 2 % 4, by omega⟩ : Fin 4) = j := Fin.ext (by show l.val / 2 % 4 = j.val; omega)
  have q5 : (⟨l.val % 2, by omega⟩ : Fin 2) = p := Fin.ext (by show l.val % 2 = p.val; omega)
  obtain ⟨M, hM⟩ := top_real n r k j p H
  have hl' : l.val < 16 := by omega
  rw [padded a l hl', logs, q1, q2, q3, q4, q5, keep_max, hM, den_eq n r k j p H hM, log_den]
  rfl

end Cert.AttnIdeal.Host
end
-- ==== Proof.AttnHead.lean ====
/- What a head of the kernel gives, in real numbers, when its blocks hold the rows and columns of the arrays it should see. -/
module
public import proofs.«01_k».proof.Proof.AttnTile
public import proofs.«01_k».proof.Proof.AttnHost
@[expose] public section
set_option maxRecDepth 16384
noncomputable section
namespace Cert.AttnIdeal.Tile
open Cert.AttnIdeal Cert.AttnIdeal.Gen Idealize.ShloMosaic Idealize.ShloMosaic.Pointwise Cert.Hand Cert.Hand.Attn Cert.AttnIdeal.Host

/-- A lane of a pair's columns, and of a group's key columns. -/
abbrev lane (k : Fin 2) (j : Fin 4) (c : Fin 128) : Fin 1024 := ⟨k.val * 512 + j.val * 128 + c.val, by omega⟩
abbrev klane (k : Fin 2) (c : Fin 128) : Fin 256 := ⟨k.val * 128 + c.val, by omega⟩
/-- The lane of a half, the half of a lane, and the place in it. -/
abbrev lower (p : Fin 2) (e : Fin 64) : Fin 128 := ⟨p.val * 64 + e.val, by omega⟩
abbrev halfOf (c : Fin 128) : Fin 2 := ⟨c.val / 64, by omega⟩
abbrev placeOf (c : Fin 128) : Fin 64 := ⟨c.val % 64, by omega⟩

/-- A sum over the lanes of one half. -/
theorem half_sum (p : Fin 2) (f : Fin 128 → ℝ) : ∑ c : Fin 128, (if c.val / 64 = p.val then f c else 0) = ∑ e : Fin 64, f (lower p e) := by
  have h : ∀ g : Fin 128 → ℝ, ∑ c : Fin 128, g c = ∑ x : Fin 2 × Fin 64, g (lower x.1 x.2) := fun g =>
    (Fintype.sum_bijective (fun x : Fin 2 × Fin 64 => lower x.1 x.2)
      ⟨fun x y q => by
        have := congrArg Fin.val q
        simp only at this
        exact Prod.ext (Fin.ext (by omega)) (Fin.ext (by omega)),
       fun c => ⟨(halfOf c, placeOf c), Fin.ext (by simp only; omega)⟩⟩ _ _ fun _ => rfl).symm
  rw [h, Fintype.sum_prod_type, Finset.sum_eq_single p]
  · exact Finset.sum_congr rfl fun e _ => if_pos (by simp only; omega)
  · intro q _ hq
    refine Finset.sum_eq_zero fun e _ => if_neg ?_
    have : q.val ≠ p.val := fun h => hq (Fin.ext h)
    simp only; omega
  · intro h; exact absurd (Finset.mem_univ _) h

variable (Q : Fin 8320 → Fin 1024 → ℝ) (K V : Fin 8320 → Fin 256 → ℝ) (σ : Fin 16 → ℝ) (D : Fin 8320 → Fin 1024 → ℝ)
variable (n : Fin 65) (k : Fin 2) (j : Fin 4) (p : Fin 2) (r : Fin 128) (s : Fin 272) (d : Fin 64)

/-- The keys the kernel sees: before the first block it sees the first again, where the mask lets nothing through. -/
def keyNear (c : Fin 256) : ℝ :=
  if s.val < 16 then K ⟨112 + s.val % 16, by omega⟩ c
  else if s.val < 144 then K ⟨(n.val - 1) * 128 + (s.val - 16) % 128, by omega⟩ c
  else K ⟨n.val * 128 + (s.val - 144) % 128, by omega⟩ c

theorem keyNear_eq (h : Allowed n r s) (c : Fin 256) : keyNear K n s c = keyAt K n s c := by
  unfold keyNear keyAt
  split
  · rfl
  · split
    · have : 1 ≤ n.val := by unfold Allowed at h; omega
      rw [if_pos this]
      congr 1; apply Fin.ext; simp only; omega
    · rfl

def logitNear : ℝ := (∑ e, Q (row n r) (col k j p e) * keyNear K n s (kcol k p e)) * (1 / 8)
def dweightNear : ℝ := ∑ e, D (row n r) (col k j p e) * keyNear V n s (kcol k p e)

theorem logitNear_eq (h : Allowed n r s) : logitNear Q K n k j p r s = logit Q K n k j p r s := by
  unfold logitNear logit
  rw [Finset.sum_congr rfl fun e _ => by rw [keyNear_eq K n r s h]]
theorem dweightNear_eq (h : Allowed n r s) : dweightNear V D n k j p r s = dweight V D n k j p r s := by
  unfold dweightNear dweight
  rw [Finset.sum_congr rfl fun e _ => by rw [keyNear_eq V n r s h]]

/-- What a grid point's blocks hold that all pairs of a key group share. -/
structure Shared (M : IVec S128x272 1) (x y : FVec Ideal S272x128 .bf16) (l : FVec Ideal S128x128 .f32) : Prop where
  mask : ∀ r s, M (ix2 r s) = BitVec.ofBool (decide (Allowed n r s))
  keys : ∀ s c, x (ix2 s c) = ((keyNear K n s (klane k c) : ℝ) : EReal)
  vals : ∀ s c, y (ix2 s c) = ((keyNear V n s (klane k c) : ℝ) : EReal)
  logs : ∀ r j p (i : Fin 128), i.val = k.val * 8 + j.val * 2 + p.val → l (ix2 r i) = ((logDen Q K σ n k j p r : ℝ) : EReal)

/-- What the blocks of one pair hold. -/
structure Own (q : FVec Ideal S128x128 .bf16) (g o : FVec Ideal S128x128 .f32) : Prop where
  query : ∀ r c, q (ix2 r c) = ((Q (row n r) (lane k j c) : ℝ) : EReal)
  grad : ∀ r c, g (ix2 r c) = ((D (row n r) (lane k j c) : ℝ) : EReal)
  out : ∀ r c, o (ix2 r c) = ((attnOut Q K V σ n k j (halfOf c) r (placeOf c) : ℝ) : EReal)

variable {Q K V σ D n k j p}
variable {M : IVec S128x272 1} {x y : FVec Ideal S272x128 .bf16} {l : FVec Ideal S128x128 .f32}
variable {q : FVec Ideal S128x128 .bf16} {g o : FVec Ideal S128x128 .f32} {b : IVec S1x128 1} {i : BitVec 32}

/-- A half's lanes, and the sink's lane. -/
abbrev IsHalf (p : Fin 2) (b : IVec S1x128 1) : Prop := ∀ (z : Fin 1) (c : Fin 128), b (ix2 z c) = BitVec.ofBool (decide (c.val / 64 = p.val))
abbrev IsLane (k : Fin 2) (j : Fin 4) (p : Fin 2) (i : BitVec 32) : Prop := i = BitVec.ofNat 32 (k.val * 8 + j.val * 2 + p.val)

theorem bit_true (t : Bool) : (BitVec.ofBool t = 1#1) ↔ t = true := by cases t <;> decide

theorem halfQ_real (O : Own Q K V σ D n k j q g o) (hb : IsHalf p b) (c : Fin 128) :
    halfQ b q (ix2 r c) = (((if c.val / 64 = p.val then Q (row n r) (lane k j c) * (1 / 8) else 0) : ℝ) : EReal) := by
  rw [halfQ_at, hb, O.query]
  by_cases h : c.val / 64 = p.val
  · rw [if_pos (by rw [bit_true]; exact decide_eq_true h), if_pos h, EReal.coe_mul]
  · rw [if_neg (by rw [bit_true]; simpa using h), if_neg h]; rfl
theorem halfD_real (O : Own Q K V σ D n k j q g o) (hb : IsHalf p b) (c : Fin 128) :
    halfD b g (ix2 r c) = (((if c.val / 64 = p.val then D (row n r) (lane k j c) else 0) : ℝ) : EReal) := by
  rw [halfD_at, hb, O.grad]
  by_cases h : c.val / 64 = p.val
  · rw [if_pos (by rw [bit_true]; exact decide_eq_true h), if_pos h]
  · rw [if_neg (by rw [bit_true]; simpa using h), if_neg h]; rfl

/-- A sum over lanes of which one half counts. -/
theorem lanes_sum (p : Fin 2) (f h : Fin 128 → ℝ) :
    ∑ c : Fin 128, (((if c.val / 64 = p.val then f c else 0 : ℝ)) : EReal) * ((h c : ℝ) : EReal) = ((∑ e : Fin 64, f (lower p e) * h (lower p e) : ℝ) : EReal) := by
  rw [← half_sum p fun c => f c * h c, ← coe_sum]
  refine Finset.sum_congr rfl fun c _ => ?_
  rw [← EReal.coe_mul]; congr 1
  split
  · rfl
  · rw [zero_mul]

theorem lane_col (k : Fin 2) (j : Fin 4) (p : Fin 2) (e : Fin 64) : lane k j (lower p e) = col k j p e := Fin.ext (by simp only; omega)
theorem klane_col (k : Fin 2) (p : Fin 2) (e : Fin 64) : klane k (lower p e) = kcol k p e := Fin.ext (by simp only; omega)

theorem score_real (S : Shared Q K V σ n k M x y l) (O : Own Q K V σ D n k j q g o) (hb : IsHalf p b) :
    scoreT M x (halfQ b q) (ix2 r s) = score (Allowed n r) (logitNear Q K n k j p r) s := by
  rw [scoreT_at, S.mask]
  unfold score
  by_cases h : Allowed n r s
  · rw [if_pos (by rw [bit_true]; exact decide_eq_true h), if_pos h,
      Finset.sum_congr rfl fun c _ => by rw [halfQ_real r O hb, S.keys], lanes_sum]
    congr 1
    unfold logitNear
    rw [Finset.sum_mul]
    refine Finset.sum_congr rfl fun e _ => ?_
    rw [lane_col, klane_col]; ring
  · rw [if_neg (by rw [bit_true]; simpa using h), if_neg h]

theorem dweight_real (S : Shared Q K V σ n k M x y l) (O : Own Q K V σ D n k j q g o) (hb : IsHalf p b) :
    dweightT y (halfD b g) (ix2 r s) = ((dweightNear V D n k j p r s : ℝ) : EReal) := by
  rw [dweightT_at, Finset.sum_congr rfl fun c _ => by rw [halfD_real r O hb, S.vals], lanes_sum]
  unfold dweightNear
  refine congrArg Real.toEReal (Finset.sum_congr rfl fun e _ => ?_)
  rw [lane_col, klane_col]

theorem log_at (S : Shared Q K V σ n k M x y l) (hi : IsLane k j p i) (z : Fin 1) :
    logCol l i (ix2 r z) = ((logDen Q K σ n k j p r : ℝ) : EReal) := by
  subst hi
  exact (logCol_at l ⟨k.val * 8 + j.val * 2 + p.val, by omega⟩ r z).trans (S.logs r j p _ rfl)

/-- The row sums of the output and its gradient: the mean of the weights' gradient. -/
theorem delta_real (O : Own Q K V σ D n k j q g o) (hb : IsHalf p b) (z : Fin 1) :
    deltaT b g o (ix2 r z) = ((mean (Allowed n r) (logit Q K n k j p r) (σ (head k j p)) (dweight V D n k j p r) : ℝ) : EReal) := by
  rw [deltaT_at, Finset.sum_congr rfl fun c _ => by rw [halfD_real r O hb, O.out],
    lanes_sum p (fun c => D (row n r) (lane k j c)) fun c => attnOut Q K V σ n k j (halfOf c) r (placeOf c)]
  congr 1
  have h : ∀ e : Fin 64, attnOut Q K V σ n k j (halfOf (lower p e)) r (placeOf (lower p e)) = attnOut Q K V σ n k j p r e := fun e => by
    rw [show halfOf (lower p e) = p from Fin.ext (by simp only; omega), show placeOf (lower p e) = e from Fin.ext (by simp only; omega)]
  rw [Finset.sum_congr rfl fun e _ => by rw [h, lane_col]]
  unfold attnOut mean dweight
  simp only [Finset.mul_sum]
  rw [Finset.sum_comm]
  refine Finset.sum_congr rfl fun s _ => Finset.sum_congr rfl fun e _ => ?_
  unfold W; ring

/-- A head's weights and the gradient of its scores. -/
def headW (b : IVec S1x128 1) (M : IVec S128x272 1) (x : FVec Ideal S272x128 .bf16) (l : FVec Ideal S128x128 .f32) (q : FVec Ideal S128x128 .bf16) (i : BitVec 32) :
    FVec Ideal S128x272 .f32 := weightT (scoreT M x (halfQ b q)) (logCol l i)
def headDS (b : IVec S1x128 1) (M : IVec S128x272 1) (x y : FVec Ideal S272x128 .bf16) (l : FVec Ideal S128x128 .f32) (q : FVec Ideal S128x128 .bf16)
    (g o : FVec Ideal S128x128 .f32) (i : BitVec 32) : FVec Ideal S128x272 .f32 :=
  dscoreT (headW b M x l q i) (dweightT y (halfD b g)) (deltaT b g o)

theorem headW_real (S : Shared Q K V σ n k M x y l) (O : Own Q K V σ D n k j q g o) (hb : IsHalf p b) (hi : IsLane k j p i) :
    headW b M x l q i (ix2 r s) = ((W Q K σ n k j p r s : ℝ) : EReal) := by
  unfold headW
  rw [weightT_at, score_real r s S O hb, log_at r S hi, exp_score]
  congr 1
  rw [num_congr (Allowed n r) _ fun s h => logitNear_eq Q K n k j p r s h]
  exact num_log _ _ _ _

theorem headDS_real (S : Shared Q K V σ n k M x y l) (O : Own Q K V σ D n k j q g o) (hb : IsHalf p b) (hi : IsLane k j p i) :
    headDS b M x y l q g o i (ix2 r s) = ((DS Q K V σ D n k j p r s : ℝ) : EReal) := by
  unfold headDS
  rw [dscoreT_at, headW_real r s S O hb hi, dweight_real r s S O hb, delta_real r O hb, ← EReal.coe_sub, ← EReal.coe_mul]
  congr 1
  by_cases h : Allowed n r s
  · rw [dweightNear_eq V D n k j p r s h]; rfl
  · unfold W DS; rw [weight_off _ _ _ _ h, dscore_off _ _ _ _ _ h, zero_mul]

/-- A pair's tile of the queries' gradient. -/
def pairQuery (M : IVec S128x272 1) (x y : FVec Ideal S272x128 .bf16) (l : FVec Ideal S128x128 .f32) (q : FVec Ideal S128x128 .bf16)
    (g o : FVec Ideal S128x128 .f32) (i i' : BitVec 32) : FVec Ideal S128x128 .f32 :=
  select (over even) (toQuery (headDS even M x y l q g o i) x) (toQuery (headDS odd M x y l q g o i') x)

theorem toQuery_real (S : Shared Q K V σ n k M x y l) (O : Own Q K V σ D n k j q g o) (hb : IsHalf p b) (hi : IsLane k j p i) (c : Fin 128)
    (hc : halfOf c = p) : toQuery (headDS b M x y l q g o i) x (ix2 r c) = ((dquery Q K V σ D n k j p r (placeOf c) : ℝ) : EReal) := by
  rw [toQuery_at, Finset.sum_congr rfl fun s _ => by rw [headDS_real r s S O hb hi, S.keys, ← EReal.coe_mul], coe_sum, ← EReal.coe_mul]
  congr 1
  unfold dquery
  congr 1
  refine Finset.sum_congr rfl fun s _ => ?_
  have hk : klane k c = kcol k p (placeOf c) := by rw [← hc]; exact Fin.ext (by simp only; omega)
  by_cases h : Allowed n r s
  · rw [keyNear_eq K n r s h, hk]
  · unfold DS; rw [dscore_off _ _ _ _ _ h, zero_mul, zero_mul]

theorem even_half : IsHalf 0 even := fun z c => even_at z c
theorem odd_half : IsHalf 1 odd := fun z c => odd_at z c

theorem pairQuery_real (S : Shared Q K V σ n k M x y l) (O : Own Q K V σ D n k j q g o) {i i' : BitVec 32} (hi : IsLane k j 0 i) (hi' : IsLane k j 1 i') (c : Fin 128) :
    pairQuery M x y l q g o i i' (ix2 r c) = ((dquery Q K V σ D n k j (halfOf c) r (placeOf c) : ℝ) : EReal) := by
  have e : pairQuery M x y l q g o i i' (ix2 r c) = if even (ix2 0 c) = 1#1 then toQuery (headDS even M x y l q g o i) x (ix2 r c)
      else toQuery (headDS odd M x y l q g o i') x (ix2 r c) := by
    unfold pairQuery
    generalize headDS even M x y l q g o i = u
    generalize headDS odd M x y l q g o i' = u'
    generalize toQuery u x = t
    generalize toQuery u' x = t'
    generalize even = z
    pointwise []; rfl
  rw [e, even_at]
  by_cases h : c.val / 64 = 0
  · have hc : halfOf c = 0 := Fin.ext h
    rw [if_pos (by rw [bit_true]; exact decide_eq_true h), toQuery_real r S O even_half hi c hc, hc]
  · have hc : halfOf c = 1 := Fin.ext (by simp only [Fin.val_one]; omega)
    rw [if_neg (by rw [bit_true]; simpa using h), toQuery_real r S O odd_half hi' c hc, hc]

/-- A pair's part of the sums for the keys, for the values and for the sinks. -/
def pairKey (M : IVec S128x272 1) (x y : FVec Ideal S272x128 .bf16) (l : FVec Ideal S128x128 .f32) (q : FVec Ideal S128x128 .bf16)
    (g o : FVec Ideal S128x128 .f32) (i i' : BitVec 32) (a : FVec Ideal S272x128 .f32) : FVec Ideal S272x128 .f32 :=
  addf (addf a (toKey (headDS even M x y l q g o i) (halfQ even q))) (toKey (headDS odd M x y l q g o i') (halfQ odd q))
def pairVal (M : IVec S128x272 1) (x : FVec Ideal S272x128 .bf16) (l : FVec Ideal S128x128 .f32) (q : FVec Ideal S128x128 .bf16)
    (g : FVec Ideal S128x128 .f32) (i i' : BitVec 32) (a : FVec Ideal S272x128 .f32) : FVec Ideal S272x128 .f32 :=
  addf (addf a (toKey (headW even M x l q i) (truncf .bf16 (halfD even g) bitsLt_bf16_f32))) (toKey (headW odd M x l q i') (truncf .bf16 (halfD odd g) bitsLt_bf16_f32))
def pairSink (l g o : FVec Ideal S128x128 .f32) (u u' : Ideal .f32) (i i' : BitVec 32) (a : FVec Ideal S128x128 .f32) : FVec Ideal S128x128 .f32 :=
  addf (addf a (toSink u (logCol l i) (deltaT even g o) i)) (toSink u' (logCol l i') (deltaT odd g o) i')

theorem toKey_half (w : FVec Ideal S128x272 .f32) (h : FVec Ideal S128x128 .bf16) (s : Fin 272) (c : Fin 128) (p : Fin 2) (f v : Fin 128 → ℝ)
    (hw : ∀ r, w (ix2 r s) = ((f r : ℝ) : EReal)) (hh : ∀ r, h (ix2 r c) = (((if c.val / 64 = p.val then v r else 0) : ℝ) : EReal)) :
    toKey w h (ix2 s c) = (((if c.val / 64 = p.val then ∑ r, f r * v r else 0) : ℝ) : EReal) := by
  rw [toKey_at, Finset.sum_congr rfl fun r _ => by rw [hw, hh, ← EReal.coe_mul], coe_sum]
  congr 1
  split
  · rfl
  · simp

theorem add_halves (a z z' : FVec Ideal S272x128 .f32) (s : Fin 272) (c : Fin 128) (α : ℝ) (f : Fin 2 → ℝ) (ha : a (ix2 s c) = ((α : ℝ) : EReal))
    (h : z (ix2 s c) = (((if c.val / 64 = (0 : Fin 2).val then f 0 else 0) : ℝ) : EReal))
    (h' : z' (ix2 s c) = (((if c.val / 64 = (1 : Fin 2).val then f 1 else 0) : ℝ) : EReal)) :
    addf (addf a z) z' (ix2 s c) = ((α + f (halfOf c) : ℝ) : EReal) := by
  have e : addf (addf a z) z' (ix2 s c) = a (ix2 s c) + z (ix2 s c) + z' (ix2 s c) := by pointwise []
  rw [e, ha, h, h', ← EReal.coe_add, ← EReal.coe_add]
  congr 1
  have hv : (1 : Fin 2).val = 1 := rfl
  have hv' : (0 : Fin 2).val = 0 := rfl
  rw [hv, hv']
  by_cases hc : c.val / 64 = 0
  · rw [if_pos hc, if_neg (by omega), add_zero, show halfOf c = 0 from Fin.ext hc]
  · rw [if_neg hc, if_pos (by omega), add_zero, show halfOf c = 1 from Fin.ext (by simp only [Fin.val_one]; omega)]

theorem pairKey_real (S : Shared Q K V σ n k M x y l) (O : Own Q K V σ D n k j q g o) {i i' : BitVec 32} (hi : IsLane k j 0 i) (hi' : IsLane k j 1 i') (c : Fin 128)
    {a : FVec Ideal S272x128 .f32} {α : ℝ} (ha : a (ix2 s c) = ((α : ℝ) : EReal)) :
    pairKey M x y l q g o i i' a (ix2 s c) = ((α + ∑ r, DS Q K V σ D n k j (halfOf c) r s * (Q (row n r) (col k j (halfOf c) (placeOf c)) * (1 / 8)) : ℝ) : EReal) := by
  have hl : lane k j c = col k j (halfOf c) (placeOf c) := Fin.ext (by simp only; omega)
  rw [← hl]
  exact add_halves _ _ _ s c α (fun p => ∑ r, DS Q K V σ D n k j p r s * (Q (row n r) (lane k j c) * (1 / 8))) ha
    (toKey_half _ _ s c 0 _ _ (fun r => headDS_real r s S O even_half hi) fun r => halfQ_real r O even_half c)
    (toKey_half _ _ s c 1 _ _ (fun r => headDS_real r s S O odd_half hi') fun r => halfQ_real r O odd_half c)

theorem pairVal_real (S : Shared Q K V σ n k M x y l) (O : Own Q K V σ D n k j q g o) {i i' : BitVec 32} (hi : IsLane k j 0 i) (hi' : IsLane k j 1 i') (c : Fin 128)
    {a : FVec Ideal S272x128 .f32} {α : ℝ} (ha : a (ix2 s c) = ((α : ℝ) : EReal)) :
    pairVal M x l q g i i' a (ix2 s c) = ((α + ∑ r, W Q K σ n k j (halfOf c) r s * D (row n r) (col k j (halfOf c) (placeOf c)) : ℝ) : EReal) := by
  have hl : lane k j c = col k j (halfOf c) (placeOf c) := Fin.ext (by simp only; omega)
  rw [← hl]
  exact add_halves _ _ _ s c α (fun p => ∑ r, W Q K σ n k j p r s * D (row n r) (lane k j c)) ha
    (toKey_half _ _ s c 0 _ _ (fun r => headW_real r s S O even_half hi) fun r => halfD_real r O even_half c)
    (toKey_half _ _ s c 1 _ _ (fun r => headW_real r s S O odd_half hi') fun r => halfD_real r O odd_half c)

theorem toSink_real (S : Shared Q K V σ n k M x y l) (O : Own Q K V σ D n k j q g o) (hb : IsHalf p b) (hi : IsLane k j p i) {u : Ideal .f32}
    (hu : u = ((σ (head k j p) : ℝ) : EReal)) (c : Fin 128) :
    toSink u (logCol l i) (deltaT b g o) i (ix2 r c) = (((if c.val = k.val * 8 + j.val * 2 + p.val then SK Q K V σ D n k j p r else 0) : ℝ) : EReal) := by
  have hlog := log_at r S hi (0 : Fin 1)
  have hi' := hi
  subst hi
  rw [toSink_at u _ _ ⟨k.val * 8 + j.val * 2 + p.val, by omega⟩ r c, hlog, delta_real r O hb, hu, exp_sink]
  by_cases h : c.val = k.val * 8 + j.val * 2 + p.val
  · rw [if_pos (Fin.ext h), if_pos h, ← EReal.coe_mul, ← EReal.coe_zero, ← EReal.coe_sub]
    congr 1
    unfold SK logDen
    rw [sink_log]; ring
  · rw [if_neg fun q => h (congrArg Fin.val q), if_neg h]; rfl

/-- What lane `c` of the sink sums holds of query `r` once all heads are added. -/
def sinkAt (Q : Fin 8320 → Fin 1024 → ℝ) (K V : Fin 8320 → Fin 256 → ℝ) (σ : Fin 16 → ℝ) (D : Fin 8320 → Fin 1024 → ℝ) (n : Fin 65) (r c : Fin 128) : ℝ :=
  SK Q K V σ D n ⟨c.val / 8 % 2, by omega⟩ ⟨c.val / 2 % 4, by omega⟩ ⟨c.val % 2, by omega⟩ r

theorem pairSink_real (S : Shared Q K V σ n k M x y l) (O : Own Q K V σ D n k j q g o) {i i' : BitVec 32} (hi : IsLane k j 0 i) (hi' : IsLane k j 1 i')
    {u u' : Ideal .f32} (hu : u = ((σ (head k j 0) : ℝ) : EReal)) (hu' : u' = ((σ (head k j 1) : ℝ) : EReal)) (c : Fin 128)
    {a : FVec Ideal S128x128 .f32} (w : Nat) (hw : w = k.val * 8 + j.val * 2)
    (ha : a (ix2 r c) = (((if c.val < w then sinkAt Q K V σ D n r c else 0) : ℝ) : EReal)) :
    pairSink l g o u u' i i' a (ix2 r c) = (((if c.val < w + 2 then sinkAt Q K V σ D n r c else 0) : ℝ) : EReal) := by
  have e : ∀ z z' : FVec Ideal S128x128 .f32, addf (addf a z) z' (ix2 r c) = a (ix2 r c) + z (ix2 r c) + z' (ix2 r c) := fun z z' => by pointwise []
  refine (e _ _).trans ?_
  rw [ha, toSink_real r S O even_half hi hu, toSink_real r S O odd_half hi' hu', ← EReal.coe_add, ← EReal.coe_add]
  congr 1
  have hv : (1 : Fin 2).val = 1 := rfl
  have hv' : (0 : Fin 2).val = 0 := rfl
  rw [hv, hv', add_zero, hw]
  have hk := k.isLt; have hj := j.isLt
  by_cases h0 : c.val < k.val * 8 + j.val * 2
  · rw [if_pos h0, if_neg (by omega), if_neg (by omega), if_pos (by omega), add_zero, add_zero]
  · by_cases h1 : c.val = k.val * 8 + j.val * 2
    · rw [if_neg h0, if_pos h1, if_neg (by omega), if_pos (by omega), add_zero, zero_add]
      unfold sinkAt
      congr 1
      · exact Fin.ext (by simp only; omega)
      · exact Fin.ext (by simp only; omega)
      · exact Fin.ext (by simp only [Fin.val_zero]; omega)
    · by_cases h2 : c.val = k.val * 8 + j.val * 2 + 1
      · rw [if_neg h0, if_neg h1, if_pos h2, if_pos (by omega), zero_add, zero_add]
        unfold sinkAt
        congr 1
        · exact Fin.ext (by simp only; omega)
        · exact Fin.ext (by simp only; omega)
        · exact Fin.ext (by simp only [Fin.val_one]; omega)
      · rw [if_neg h0, if_neg h1, if_neg h2, if_neg (by omega), add_zero, add_zero]

end Cert.AttnIdeal.Tile
end
-- ==== Proof.AttnReads.lean ====
/- What a grid point's blocks hold: rows and columns of the arrays, in real numbers. -/
module
public import proofs.«01_k».proof.Proof.AttnHead
public import Idealize.ShloMosaic.Lib.Pipeline.ReadBack
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable (m : (ℓ : Loc nD τ sig) → Buf (Elt Ideal) ℓ) (c : Dev nD) (t : Fin cfg0.N)

/-- Which block of each array a grid point works on. -/
theorem blocks : ∀ t : Fin cfg0.N, win0_0.index t = ![0] ∧ win0_1.index t = ![t.val, 0] ∧ win0_2.index t = ![t.val, 0] ∧ win0_3.index t = ![t.val - 1, 0]
    ∧ win0_4.index t = ![7, 0] ∧ win0_5.index t = ![t.val, 0] ∧ win0_6.index t = ![t.val - 1, 0] ∧ win0_7.index t = ![7, 0]
    ∧ win0_8.index t = ![t.val, 0] ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![0, 0] ∧ win0_17.index t = ![0, 0]
    ∧ win0_18.index t = ![0, 0] :=
  (by decide +kernel : ∀ t : Fin grid0.N, _)
theorem coord : ∀ t : Fin cfg0.N, (grid0.coords t 0).val = t.val := (by decide +kernel : ∀ t : Fin grid0.N, _)

/-- The block of queries a grid point works on. -/
abbrev blockOf (t : Fin cfg0.N) : Fin 65 := ⟨t.val, t.isLt⟩

/-- The arrays' entries are real. -/
structure Inputs (Q : Fin 8320 → Fin 1024 → ℝ) (K V : Fin 8320 → Fin 256 → ℝ) (σ : Fin 16 → ℝ) (D : Fin 8320 → Fin 1024 → ℝ) : Prop where
  args : Args (fun b => m (c, b)) Q K V σ
  grad : ∀ a b, (m ((c : Thread nD τ).loc main_arg4) : FVec Ideal S8320x1024 .f32) (ix2 a b) = ((D a b : ℝ) : EReal)

/-- Entries of the blocks as extended reals. -/
abbrev I0 (a : Fin 16) : EReal := (iblk m c 0 t : FVec Ideal S16 .f32) (ix1 a)
abbrev I1 (r : Fin 128) (b : Fin 1024) : EReal := (iblk m c 1 t : FVec Ideal S128x1024 .bf16) (ix2 r b)
abbrev I2 (r : Fin 128) (b : Fin 256) : EReal := (iblk m c 2 t : FVec Ideal S128x256 .bf16) (ix2 r b)
abbrev I3 (r : Fin 128) (b : Fin 256) : EReal := (iblk m c 3 t : FVec Ideal S128x256 .bf16) (ix2 r b)
abbrev I4 (r : Fin 16) (b : Fin 256) : EReal := (iblk m c 4 t : FVec Ideal S16x256 .bf16) (ix2 r b)
abbrev I5 (r : Fin 128) (b : Fin 256) : EReal := (iblk m c 5 t : FVec Ideal S128x256 .bf16) (ix2 r b)
abbrev I6 (r : Fin 128) (b : Fin 256) : EReal := (iblk m c 6 t : FVec Ideal S128x256 .bf16) (ix2 r b)
abbrev I7 (r : Fin 16) (b : Fin 256) : EReal := (iblk m c 7 t : FVec Ideal S16x256 .bf16) (ix2 r b)
abbrev I8 (r : Fin 128) (b : Fin 1024) : EReal := (iblk m c 8 t : FVec Ideal S128x1024 .f32) (ix2 r b)
abbrev I9 (r : Fin 128) (b : Fin 128) : EReal := (iblk m c 9 t : FVec Ideal S128x128 .f32) (ix2 r b)
abbrev I10 (r : Fin 128) (b : Fin 1024) : EReal := (iblk m c 10 t : FVec Ideal S128x1024 .f32) (ix2 r b)

theorem read0 (a : Fin 16) : I0 m c t a = (V m c main_arg3 : FVec Ideal S16 .f32) (ix1 a) := by
  show (iblk m c 0 t : FVec Ideal S16 .f32) (ix1 a) = (V m c main_arg3 : FVec Ideal S16 .f32) (ix1 a)
  generalize hV : V m c main_arg3 = X
  blk_ext [iblk, blocks t, hV]
theorem read1 (r : Fin 128) (b : Fin 1024) : I1 m c t r b = (V m c main_arg0 : FVec Ideal S8320x1024 .bf16) (ix2 (row (blockOf t) r) b) := by
  show (iblk m c 1 t : FVec Ideal S128x1024 .bf16) (ix2 r b) = (V m c main_arg0 : FVec Ideal S8320x1024 .bf16) (ix2 (row (blockOf t) r) b)
  generalize hV : V m c main_arg0 = X
  blk_ext [iblk, blocks t, hV]
theorem read2 (r : Fin 128) (b : Fin 256) : I2 m c t r b = (V m c main_arg1 : FVec Ideal S8320x256 .bf16) (ix2 (row (blockOf t) r) b) := by
  show (iblk m c 2 t : FVec Ideal S128x256 .bf16) (ix2 r b) = (V m c main_arg1 : FVec Ideal S8320x256 .bf16) (ix2 (row (blockOf t) r) b)
  generalize hV : V m c main_arg1 = X
  blk_ext [iblk, blocks t, hV]
theorem read3 (r : Fin 128) (b : Fin 256) : I3 m c t r b = (V m c main_arg1 : FVec Ideal S8320x256 .bf16) (ix2 ⟨((blockOf t).val - 1) * 128 + r.val, by omega⟩ b) := by
  show (iblk m c 3 t : FVec Ideal S128x256 .bf16) (ix2 r b) = (V m c main_arg1 : FVec Ideal S8320x256 .bf16) (ix2 ⟨((blockOf t).val - 1) * 128 + r.val, by omega⟩ b)
  generalize hV : V m c main_arg1 = X
  blk_ext [iblk, blocks t, hV]
theorem read4 (r : Fin 16) (b : Fin 256) : I4 m c t r b = (V m c main_arg1 : FVec Ideal S8320x256 .bf16) (ix2 ⟨112 + r.val, by omega⟩ b) := by
  show (iblk m c 4 t : FVec Ideal S16x256 .bf16) (ix2 r b) = (V m c main_arg1 : FVec Ideal S8320x256 .bf16) (ix2 ⟨112 + r.val, by omega⟩ b)
  generalize hV : V m c main_arg1 = X
  blk_ext [iblk, blocks t, hV]
theorem read5 (r : Fin 128) (b : Fin 256) : I5 m c t r b = (V m c main_arg2 : FVec Ideal S8320x256 .bf16) (ix2 (row (blockOf t) r) b) := by
  show (iblk m c 5 t : FVec Ideal S128x256 .bf16) (ix2 r b) = (V m c main_arg2 : FVec Ideal S8320x256 .bf16) (ix2 (row (blockOf t) r) b)
  generalize hV : V m c main_arg2 = X
  blk_ext [iblk, blocks t, hV]
theorem read6 (r : Fin 128) (b : Fin 256) : I6 m c t r b = (V m c main_arg2 : FVec Ideal S8320x256 .bf16) (ix2 ⟨((blockOf t).val - 1) * 128 + r.val, by omega⟩ b) := by
  show (iblk m c 6 t : FVec Ideal S128x256 .bf16) (ix2 r b) = (V m c main_arg2 : FVec Ideal S8320x256 .bf16) (ix2 ⟨((blockOf t).val - 1) * 128 + r.val, by omega⟩ b)
  generalize hV : V m c main_arg2 = X
  blk_ext [iblk, blocks t, hV]
theorem read7 (r : Fin 16) (b : Fin 256) : I7 m c t r b = (V m c main_arg2 : FVec Ideal S8320x256 .bf16) (ix2 ⟨112 + r.val, by omega⟩ b) := by
  show (iblk m c 7 t : FVec Ideal S16x256 .bf16) (ix2 r b) = (V m c main_arg2 : FVec Ideal S8320x256 .bf16) (ix2 ⟨112 + r.val, by omega⟩ b)
  generalize hV : V m c main_arg2 = X
  blk_ext [iblk, blocks t, hV]
theorem read8 (r : Fin 128) (b : Fin 1024) : I8 m c t r b = (V m c main_v92 : FVec Ideal S8320x1024 .f32) (ix2 (row (blockOf t) r) b) := by
  show (iblk m c 8 t : FVec Ideal S128x1024 .f32) (ix2 r b) = (V m c main_v92 : FVec Ideal S8320x1024 .f32) (ix2 (row (blockOf t) r) b)
  generalize hV : V m c main_v92 = X
  blk_ext [iblk, blocks t, hV]
theorem read9 (r : Fin 128) (b : Fin 128) : I9 m c t r b = (V m c main_v97 : FVec Ideal S8320x128 .f32) (ix2 (row (blockOf t) r) b) := by
  show (iblk m c 9 t : FVec Ideal S128x128 .f32) (ix2 r b) = (V m c main_v97 : FVec Ideal S8320x128 .f32) (ix2 (row (blockOf t) r) b)
  generalize hV : V m c main_v97 = X
  blk_ext [iblk, blocks t, hV]
theorem read10 (r : Fin 128) (b : Fin 1024) : I10 m c t r b = (V m c main_arg4 : FVec Ideal S8320x1024 .f32) (ix2 (row (blockOf t) r) b) := by
  show (iblk m c 10 t : FVec Ideal S128x1024 .f32) (ix2 r b) = (V m c main_arg4 : FVec Ideal S8320x1024 .f32) (ix2 (row (blockOf t) r) b)
  generalize hV : V m c main_arg4 = X
  blk_ext [iblk, blocks t, hV]

variable {m c}
variable {Q : Fin 8320 → Fin 1024 → ℝ} {K U : Fin 8320 → Fin 256 → ℝ} {σ : Fin 16 → ℝ} {D : Fin 8320 → Fin 1024 → ℝ}

theorem sink_at (H : Inputs m c Q K U σ D) (a a' : Fin 16) (h : a.val = a'.val) : I0 m c t a = ((σ a' : ℝ) : EReal) := by
  obtain rfl := Fin.ext h
  rw [read0, V_main_arg3]; exact H.args.s a
theorem query_at (H : Inputs m c Q K U σ D) (r : Fin 128) (b b' : Fin 1024) (h : b.val = b'.val) : I1 m c t r b = ((Q (row (blockOf t) r) b' : ℝ) : EReal) := by
  obtain rfl := Fin.ext h
  rw [read1, V_main_arg0]; exact H.args.q _ b
theorem grad_at (H : Inputs m c Q K U σ D) (r : Fin 128) (b b' : Fin 1024) (h : b.val = b'.val) : I10 m c t r b = ((D (row (blockOf t) r) b' : ℝ) : EReal) := by
  obtain rfl := Fin.ext h
  rw [read10, V_main_arg4]; exact H.grad _ b
theorem key2 (H : Inputs m c Q K U σ D) (r : Fin 128) (b b' : Fin 256) (h : b.val = b'.val) : I2 m c t r b = ((K (row (blockOf t) r) b' : ℝ) : EReal) := by
  obtain rfl := Fin.ext h
  rw [read2, V_main_arg1]; exact H.args.k _ b
theorem key3 (H : Inputs m c Q K U σ D) (r : Fin 128) (b b' : Fin 256) (h : b.val = b'.val) :
    I3 m c t r b = ((K ⟨((blockOf t).val - 1) * 128 + r.val, by omega⟩ b' : ℝ) : EReal) := by
  obtain rfl := Fin.ext h
  rw [read3, V_main_arg1]; exact H.args.k _ b
theorem key4 (H : Inputs m c Q K U σ D) (r : Fin 16) (b b' : Fin 256) (h : b.val = b'.val) : I4 m c t r b = ((K ⟨112 + r.val, by omega⟩ b' : ℝ) : EReal) := by
  obtain rfl := Fin.ext h
  rw [read4, V_main_arg1]; exact H.args.k _ b
theorem val5 (H : Inputs m c Q K U σ D) (r : Fin 128) (b b' : Fin 256) (h : b.val = b'.val) : I5 m c t r b = ((U (row (blockOf t) r) b' : ℝ) : EReal) := by
  obtain rfl := Fin.ext h
  rw [read5, V_main_arg2]; exact H.args.v _ b
theorem val6 (H : Inputs m c Q K U σ D) (r : Fin 128) (b b' : Fin 256) (h : b.val = b'.val) :
    I6 m c t r b = ((U ⟨((blockOf t).val - 1) * 128 + r.val, by omega⟩ b' : ℝ) : EReal) := by
  obtain rfl := Fin.ext h
  rw [read6, V_main_arg2]; exact H.args.v _ b
theorem val7 (H : Inputs m c Q K U σ D) (r : Fin 16) (b b' : Fin 256) (h : b.val = b'.val) : I7 m c t r b = ((U ⟨112 + r.val, by omega⟩ b' : ℝ) : EReal) := by
  obtain rfl := Fin.ext h
  rw [read7, V_main_arg2]; exact H.args.v _ b
theorem out_at (H : Inputs m c Q K U σ D) (k : Fin 2) (j : Fin 4) (r e : Fin 128) (b : Fin 1024) (h : b.val = (lane k j e).val) :
    I8 m c t r b = ((attnOut Q K U σ (blockOf t) k j (halfOf e) r (placeOf e) : ℝ) : EReal) := by
  rw [read8, V_eq]
  exact out_real (blockOf t) r k j (halfOf e) (placeOf e) H.args _ b rfl (by rw [h]; simp only; omega)
theorem log_at (H : Inputs m c Q K U σ D) (k : Fin 2) (j : Fin 4) (p : Fin 2) (r b : Fin 128) (h : b.val = k.val * 8 + j.val * 2 + p.val) :
    I9 m c t r b = ((logDen Q K σ (blockOf t) k j p r : ℝ) : EReal) := by
  rw [read9, V_eq]
  exact log_real (blockOf t) r k j p H.args _ b rfl h

/-- First keys, the block before and the own block, stacked. -/
theorem stack (n : Fin 65) (k : Fin 2) (A : FVec Ideal S16x128 .bf16) (B C : FVec Ideal S128x128 .bf16)
    (hA : ∀ a e, A (ix2 a e) = ((K ⟨112 + a.val, by omega⟩ (klane k e) : ℝ) : EReal))
    (hB : ∀ a e, B (ix2 a e) = ((K ⟨(n.val - 1) * 128 + a.val, by omega⟩ (klane k e) : ℝ) : EReal))
    (hC : ∀ a e, C (ix2 a e) = ((K (row n a) (klane k e) : ℝ) : EReal)) (s : Fin 272) (e : Fin 128) :
    concatenate S272x128 0 [⟨S16x128, A⟩, ⟨S128x128, B⟩, ⟨S128x128, C⟩] concatenates_S16x128_S128x128_S128x128_S272x128_d0 (ix2 s e)
      = ((keyNear K n s (klane k e) : ℝ) : EReal) := by
  have hs := s.isLt
  unfold keyNear
  by_cases h : s.val < 16
  · rw [if_pos h]
    refine Eq.trans ?_ ((hA ⟨s.val, h⟩ e).trans (congrArg (fun z => ((K z (klane k e) : ℝ) : EReal)) (Fin.ext (by simp only; omega))))
    pointwise [h]
  · rw [if_neg h]
    by_cases h2 : s.val < 144
    · rw [if_pos h2]
      refine Eq.trans ?_ ((hB ⟨s.val - 16, by omega⟩ e).trans (congrArg (fun z => ((K z (klane k e) : ℝ) : EReal)) (Fin.ext (by simp only; omega))))
      have h3 : s.val - 16 < 128 := by omega
      pointwise [h, h3]
    · rw [if_neg h2]
      refine Eq.trans ?_ ((hC ⟨s.val - 144, by omega⟩ e).trans (congrArg (fun z => ((K z (klane k e) : ℝ) : EReal)) (Fin.ext (by simp only; omega))))
      have h3 : ¬s.val - 16 < 128 := by omega
      pointwise [h, h3]
      exact congrArg (fun z => C (ix2 z e)) (Fin.ext (Nat.sub_sub _ _ _))

end Cert.AttnIdeal.Kernel
end
-- ==== Proof.AttnStore.lean ====
/- The values the kernel stores: the sums over a key group's four pairs, and their rows. -/
module
public import proofs.«01_k».proof.Proof.AttnReads
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn

variable {Q : Fin 8320 → Fin 1024 → ℝ} {K U : Fin 8320 → Fin 256 → ℝ} {σ : Fin 16 → ℝ} {D : Fin 8320 → Fin 1024 → ℝ} {n : Fin 65} {k : Fin 2}
variable {M : IVec S128x272 1} {x y : FVec Ideal S272x128 .bf16} {l : FVec Ideal S128x128 .f32}
variable {q0 q1 q2 q3 : FVec Ideal S128x128 .bf16} {g0 o0 g1 o1 g2 o2 g3 o3 : FVec Ideal S128x128 .f32} {i0 i1 i2 i3 i4 i5 i6 i7 : BitVec 32}

/-- A block of zeros to start a sum from. -/
theorem zeros_at (s : Fin 272) (e : Fin 128) :
    (broadcast S272x128 (Scalar.ofBits .f32 0x00000000#32) : FVec Ideal S272x128 .f32) (ix2 s e) = ((0 : ℝ) : EReal) := by
  pointwise []
  exact EReal.coe_zero.symm

theorem keyChain (S : Shared Q K U σ n k M x y l) (O0 : Own Q K U σ D n k 0 q0 g0 o0) (O1 : Own Q K U σ D n k 1 q1 g1 o1)
    (O2 : Own Q K U σ D n k 2 q2 g2 o2) (O3 : Own Q K U σ D n k 3 q3 g3 o3)
    (h0 : IsLane k 0 0 i0) (h1 : IsLane k 0 1 i1) (h2 : IsLane k 1 0 i2) (h3 : IsLane k 1 1 i3)
    (h4 : IsLane k 2 0 i4) (h5 : IsLane k 2 1 i5) (h6 : IsLane k 3 0 i6) (h7 : IsLane k 3 1 i7) (s : Fin 272) (e : Fin 128) :
    pairKey M x y l q3 g3 o3 i6 i7 (pairKey M x y l q2 g2 o2 i4 i5 (pairKey M x y l q1 g1 o1 i2 i3 (pairKey M x y l q0 g0 o0 i0 i1
      (broadcast S272x128 (Scalar.ofBits .f32 0x00000000#32))))) (ix2 s e) = ((dkey Q K U σ D n k (halfOf e) s (placeOf e) : ℝ) : EReal) := by
  refine (pairKey_real s S O3 h6 h7 e (pairKey_real s S O2 h4 h5 e (pairKey_real s S O1 h2 h3 e (pairKey_real s S O0 h0 h1 e (zeros_at s e))))).trans ?_
  unfold dkey
  rw [Fin.sum_univ_four, zero_add]

/-- The parts of this that the values' gradient needs, and that the sinks' does. -/
structure SharedV (Q : Fin 8320 → Fin 1024 → ℝ) (K : Fin 8320 → Fin 256 → ℝ) (σ : Fin 16 → ℝ) (n : Fin 65) (k : Fin 2)
    (M : IVec S128x272 1) (x : FVec Ideal S272x128 .bf16) (l : FVec Ideal S128x128 .f32) : Prop where
  mask : ∀ r s, M (ix2 r s) = BitVec.ofBool (decide (Allowed n r s))
  keys : ∀ s c, x (ix2 s c) = ((keyNear K n s (klane k c) : ℝ) : EReal)
  logs : ∀ r j p (i : Fin 128), i.val = k.val * 8 + j.val * 2 + p.val → l (ix2 r i) = ((logDen Q K σ n k j p r : ℝ) : EReal)
structure OwnV (Q D : Fin 8320 → Fin 1024 → ℝ) (n : Fin 65) (k : Fin 2) (j : Fin 4) (q : FVec Ideal S128x128 .bf16) (g : FVec Ideal S128x128 .f32) : Prop where
  query : ∀ r c, q (ix2 r c) = ((Q (row n r) (lane k j c) : ℝ) : EReal)
  grad : ∀ r c, g (ix2 r c) = ((D (row n r) (lane k j c) : ℝ) : EReal)
structure OwnS (Q : Fin 8320 → Fin 1024 → ℝ) (K U : Fin 8320 → Fin 256 → ℝ) (σ : Fin 16 → ℝ) (D : Fin 8320 → Fin 1024 → ℝ) (n : Fin 65) (k : Fin 2) (j : Fin 4)
    (g o : FVec Ideal S128x128 .f32) : Prop where
  grad : ∀ r c, g (ix2 r c) = ((D (row n r) (lane k j c) : ℝ) : EReal)
  out : ∀ r c, o (ix2 r c) = ((attnOut Q K U σ n k j (halfOf c) r (placeOf c) : ℝ) : EReal)

/-- Blocks of the right numbers, for what is not needed. -/
def maskBit (n : Fin 65) (r : Fin 128) (s : Fin 272) : BitVec 1 := BitVec.ofBool (decide (Allowed n r s))
def someMask (n : Fin 65) : IVec S128x272 1 := fun z => maskBit n (z 0) (z 1)
def someKeys (K : Fin 8320 → Fin 256 → ℝ) (n : Fin 65) (k : Fin 2) : FVec Ideal S272x128 .bf16 := fun z => ((keyNear K n (z 0) (klane k (z 1)) : ℝ) : EReal)
def someQuery (Q : Fin 8320 → Fin 1024 → ℝ) (n : Fin 65) (k : Fin 2) (j : Fin 4) : FVec Ideal S128x128 .bf16 := fun z => ((Q (row n (z 0)) (lane k j (z 1)) : ℝ) : EReal)
def someOut (Q : Fin 8320 → Fin 1024 → ℝ) (K U : Fin 8320 → Fin 256 → ℝ) (σ : Fin 16 → ℝ) (n : Fin 65) (k : Fin 2) (j : Fin 4) : FVec Ideal S128x128 .f32 :=
  fun z => ((attnOut Q K U σ n k j (halfOf (z 1)) (z 0) (placeOf (z 1)) : ℝ) : EReal)

theorem SharedV.full (S : SharedV Q K σ n k M x l) : Shared Q K U σ n k M x (someKeys U n k) l :=
  ⟨S.mask, S.keys, fun _ _ => rfl, S.logs⟩
theorem OwnV.full {j : Fin 4} (O : OwnV Q D n k j q0 g0) : Own Q K U σ D n k j q0 g0 (someOut Q K U σ n k j) :=
  ⟨O.query, O.grad, fun _ _ => rfl⟩
theorem OwnS.full {j : Fin 4} (O : OwnS Q K U σ D n k j g0 o0) : Own Q K U σ D n k j (someQuery Q n k j) g0 o0 :=
  ⟨fun _ _ => rfl, O.grad, O.out⟩

theorem valChain (U : Fin 8320 → Fin 256 → ℝ) (S : SharedV Q K σ n k M x l) (P0 : OwnV Q D n k 0 q0 g0) (P1 : OwnV Q D n k 1 q1 g1)
    (P2 : OwnV Q D n k 2 q2 g2) (P3 : OwnV Q D n k 3 q3 g3)
    (h0 : IsLane k 0 0 i0) (h1 : IsLane k 0 1 i1) (h2 : IsLane k 1 0 i2) (h3 : IsLane k 1 1 i3)
    (h4 : IsLane k 2 0 i4) (h5 : IsLane k 2 1 i5) (h6 : IsLane k 3 0 i6) (h7 : IsLane k 3 1 i7) (s : Fin 272) (e : Fin 128) :
    pairVal M x l q3 g3 i6 i7 (pairVal M x l q2 g2 i4 i5 (pairVal M x l q1 g1 i2 i3 (pairVal M x l q0 g0 i0 i1
      (broadcast S272x128 (Scalar.ofBits .f32 0x00000000#32))))) (ix2 s e) = ((dvalue Q K σ D n k (halfOf e) s (placeOf e) : ℝ) : EReal) := by
  have T := S.full (U := U)
  refine (pairVal_real s T P3.full h6 h7 e (pairVal_real s T P2.full h4 h5 e (pairVal_real s T P1.full h2 h3 e (pairVal_real s T P0.full h0 h1 e (zeros_at s e))))).trans ?_
  unfold dvalue
  rw [Fin.sum_univ_four, zero_add]

/-- The sink sums: all heads' parts, lane by lane, and then the sum over the queries. -/
theorem sinkChain (hl : ∀ r k j p (i : Fin 128), i.val = k.val * 8 + j.val * 2 + p.val → l (ix2 r i) = ((logDen Q K σ n k j p r : ℝ) : EReal))
    {g0 g1 g2 g3 g4 g5 g6 g7 o0 o1 o2 o3 o4 o5 o6 o7 : FVec Ideal S128x128 .f32} {u0 u1 u2 u3 u4 u5 u6 u7 u8 u9 u10 u11 u12 u13 u14 u15 : Ideal .f32}
    (P0 : OwnS Q K U σ D n 0 0 g0 o0)    (P1 : OwnS Q K U σ D n 0 1 g1 o1)
    (P2 : OwnS Q K U σ D n 0 2 g2 o2)    (P3 : OwnS Q K U σ D n 0 3 g3 o3)
    (P4 : OwnS Q K U σ D n 1 0 g4 o4)    (P5 : OwnS Q K U σ D n 1 1 g5 o5)
    (P6 : OwnS Q K U σ D n 1 2 g6 o6)    (P7 : OwnS Q K U σ D n 1 3 g7 o7)
    (h0 : u0 = ((σ (head 0 0 0) : ℝ) : EReal))    (h1 : u1 = ((σ (head 0 0 1) : ℝ) : EReal))    (h2 : u2 = ((σ (head 0 1 0) : ℝ) : EReal))    (h3 : u3 = ((σ (head 0 1 1) : ℝ) : EReal))
    (h4 : u4 = ((σ (head 0 2 0) : ℝ) : EReal))    (h5 : u5 = ((σ (head 0 2 1) : ℝ) : EReal))    (h6 : u6 = ((σ (head 0 3 0) : ℝ) : EReal))    (h7 : u7 = ((σ (head 0 3 1) : ℝ) : EReal))
    (h8 : u8 = ((σ (head 1 0 0) : ℝ) : EReal))    (h9 : u9 = ((σ (head 1 0 1) : ℝ) : EReal))    (h10 : u10 = ((σ (head 1 1 0) : ℝ) : EReal))    (h11 : u11 = ((σ (head 1 1 1) : ℝ) : EReal))
    (h12 : u12 = ((σ (head 1 2 0) : ℝ) : EReal))    (h13 : u13 = ((σ (head 1 2 1) : ℝ) : EReal))    (h14 : u14 = ((σ (head 1 3 0) : ℝ) : EReal))    (h15 : u15 = ((σ (head 1 3 1) : ℝ) : EReal))
    (r e : Fin 128) :
    pairSink l g7 o7 u14 u15 14#32 15#32 (pairSink l g6 o6 u12 u13 12#32 13#32 (
      pairSink l g5 o5 u10 u11 10#32 11#32 (pairSink l g4 o4 u8 u9 8#32 9#32 (
      pairSink l g3 o3 u6 u7 6#32 7#32 (pairSink l g2 o2 u4 u5 4#32 5#32 (
      pairSink l g1 o1 u2 u3 2#32 3#32 (pairSink l g0 o0 u0 u1 0#32 1#32 (
      broadcast S128x128 (Scalar.ofBits .f32 0x00000000#32))))))))) (ix2 r e) = (((if e.val < 16 then sinkAt Q K U σ D n r e else 0) : ℝ) : EReal) := by
  have T : ∀ k, Shared Q K U σ n k (someMask n) (someKeys K n k) (someKeys U n k) l := fun k => ⟨fun _ _ => rfl, fun _ _ => rfl, fun _ _ => rfl, fun r => hl r k⟩
  have z : (broadcast S128x128 (Scalar.ofBits .f32 0x00000000#32) : FVec Ideal S128x128 .f32) (ix2 r e)
      = (((if e.val < 0 then sinkAt Q K U σ D n r e else 0) : ℝ) : EReal) := by
    rw [if_neg (Nat.not_lt_zero _)]
    pointwise []
    exact EReal.coe_zero.symm
  have p0 := pairSink_real r (T 0) P0.full (i := 0#32) (i' := 1#32) rfl rfl h0 h1 e 0 rfl z
  have p1 := pairSink_real r (T 0) P1.full (i := 2#32) (i' := 3#32) rfl rfl h2 h3 e 2 rfl p0
  have p2 := pairSink_real r (T 0) P2.full (i := 4#32) (i' := 5#32) rfl rfl h4 h5 e 4 rfl p1
  have p3 := pairSink_real r (T 0) P3.full (i := 6#32) (i' := 7#32) rfl rfl h6 h7 e 6 rfl p2
  have p4 := pairSink_real r (T 1) P4.full (i := 8#32) (i' := 9#32) rfl rfl h8 h9 e 8 rfl p3
  have p5 := pairSink_real r (T 1) P5.full (i := 10#32) (i' := 11#32) rfl rfl h10 h11 e 10 rfl p4
  have p6 := pairSink_real r (T 1) P6.full (i := 12#32) (i' := 13#32) rfl rfl h12 h13 e 12 rfl p5
  exact pairSink_real r (T 1) P7.full (i := 14#32) (i' := 15#32) rfl rfl h14 h15 e 14 rfl p6

theorem lane_sum (z : FVec Ideal S1x128 .f32) (F : FVec Ideal S128x128 .f32) (w : Fin 1) (e : Fin 128) :
    addf z (shapeCast S1x128 (multiReduction .add [0] S128 F 0x00000000#32 reduces_S128x128_S128_2 (.inl rfl) rfl) shapeCasts_S128_S1x128) (ix2 w e)
      = z (ix2 w e) + ∑ r, F (ix2 r e) := by pointwise []

/-- Where the results' entries lie. -/
theorem queryOut_at (n : Fin 65) (k : Fin 2) (j : Fin 4) (r e : Fin 128) (a : Fin 8320) (b : Fin 1024) (ha : a.val = n.val * 128 + r.val) (hb : b.val = (lane k j e).val) :
    queryOut Q K U σ D a b = ((dquery Q K U σ D n k j (halfOf e) r (placeOf e) : ℝ) : EReal) := by
  unfold queryOut
  simp only at hb
  congr 2 <;> apply Fin.ext <;> simp only <;> omega
theorem keyOut_at (o : Nat) (ho : o ≤ 144) (n : Fin 65) (k : Fin 2) (r e : Fin 128) (a : Fin 8320) (b : Fin 256) (ha : a.val = n.val * 128 + r.val) (hb : b.val = (klane k e).val) :
    keyOut Q K U σ D o ho a b = ((dkey Q K U σ D n k (halfOf e) ⟨o + r.val, by omega⟩ (placeOf e) : ℝ) : EReal) := by
  unfold keyOut
  simp only at hb
  congr 2 <;> apply Fin.ext <;> simp only <;> omega
theorem valueOut_at (o : Nat) (ho : o ≤ 144) (n : Fin 65) (k : Fin 2) (r e : Fin 128) (a : Fin 8320) (b : Fin 256) (ha : a.val = n.val * 128 + r.val) (hb : b.val = (klane k e).val) :
    valueOut Q K σ D o ho a b = ((dvalue Q K σ D n k (halfOf e) ⟨o + r.val, by omega⟩ (placeOf e) : ℝ) : EReal) := by
  unfold valueOut
  simp only at hb
  congr 2 <;> apply Fin.ext <;> simp only <;> omega

/-- Rows cut out of a stack. -/
theorem own_rows (F : FVec Ideal S272x128 .f32) (a e : Fin 128) :
    extractStridedSlice S128x128 ![144, 0] F slices_S272x128_o144_0_S128x128 (ix2 a e) = F (ix2 ⟨144 + a.val, by omega⟩ e) := by pointwise []
theorem previous_rows (F : FVec Ideal S272x128 .f32) (a e : Fin 128) :
    extractStridedSlice S128x128 ![16, 0] F slices_S272x128_o16_0_S128x128 (ix2 a e) = F (ix2 ⟨16 + a.val, by omega⟩ e) := by pointwise []
theorem first_rows (z : FVec Ideal S16x128 .f32) (F : FVec Ideal S272x128 .f32) (a : Fin 16) (e : Fin 128) :
    addf (shapeCast S16x128 z shapeCasts_S16x128_S16x128) (extractStridedSlice S16x128 ![0, 0] F slices_S272x128_o0_0_S16x128) (ix2 a e)
      = z (ix2 a e) + F (ix2 ⟨a.val, by omega⟩ e) := by pointwise []

end Cert.AttnIdeal.Kernel
end
-- ==== Proof.AttnWinQ.lean ====
/- What the kernel leaves for the queries. -/
module
public import proofs.«01_k».proof.Proof.AttnStore
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable {m : (ℓ : Loc nD τ sig) → Buf (Elt Ideal) ℓ} {c : Dev nD}
variable {Q : Fin 8320 → Fin 1024 → ℝ} {K U : Fin 8320 → Fin 256 → ℝ} {σ : Fin 16 → ℝ} {D : Fin 8320 → Fin 1024 → ℝ}

/-- A tile of the queries' gradient, at the first point. -/
theorem queries_tileA (H : Inputs m c Q K U σ D) (t : Fin cfg0.N) (first : t.val % 65 = 0) (y : S128x1024.Idx) (a : Fin 8320) (b : Fin 1024) (ha : a.val = t.val * 128 + (y 0).val)
    (hb : b.val = (y 1).val) : (outsAt0 m c t.val t.isLt).1 y = queryOut Q K U σ D a b := by
  rw [outsAt0_A m c t first]; frame_out
  canon_tiles x h
  · idx_vars x
    refine Eq.trans ?_ (queryOut_at (blockOf t) 1 3 x0 x1 a b (ha.trans (congrArg (t.val * 128 + ·) h0)) (hb.trans (h1.trans (by simp)))).symm
    refine pairQuery_real (Q := Q) (K := K) (V := U) (σ := σ) (D := D) (n := blockOf t) (k := 1) (j := 3) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 1 2 x0 x1 a b (ha.trans (congrArg (t.val * 128 + ·) h0)) (hb.trans (h1.trans (by simp)))).symm
    refine pairQuery_real (Q := Q) (K := K) (V := U) (σ := σ) (D := D) (n := blockOf t) (k := 1) (j := 2) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 1 1 x0 x1 a b (ha.trans (congrArg (t.val * 128 + ·) h0)) (hb.trans (h1.trans (by simp)))).symm
    refine pairQuery_real (Q := Q) (K := K) (V := U) (σ := σ) (D := D) (n := blockOf t) (k := 1) (j := 1) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 1 0 x0 x1 a b (ha.trans (congrArg (t.val * 128 + ·) h0)) (hb.trans (h1.trans (by simp)))).symm
    refine pairQuery_real (Q := Q) (K := K) (V := U) (σ := σ) (D := D) (n := blockOf t) (k := 1) (j := 0) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 3 x0 x1 a b (ha.trans (congrArg (t.val * 128 + ·) h0)) (hb.trans (h1.trans (by simp)))).symm
    refine pairQuery_real (Q := Q) (K := K) (V := U) (σ := σ) (D := D) (n := blockOf t) (k := 0) (j := 3) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 2 x0 x1 a b (ha.trans (congrArg (t.val * 128 + ·) h0)) (hb.trans (h1.trans (by simp)))).symm
    refine pairQuery_real (Q := Q) (K := K) (V := U) (σ := σ) (D := D) (n := blockOf t) (k := 0) (j := 2) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 1 x0 x1 a b (ha.trans (congrArg (t.val * 128 + ·) h0)) (hb.trans (h1.trans (by simp)))).symm
    refine pairQuery_real (Q := Q) (K := K) (V := U) (σ := σ) (D := D) (n := blockOf t) (k := 0) (j := 1) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 0 x0 x1 a b (ha.trans (congrArg (t.val * 128 + ·) h0)) (hb.trans (h1.trans (by simp)))).symm
    refine pairQuery_real (Q := Q) (K := K) (V := U) (σ := σ) (D := D) (n := blockOf t) (k := 0) (j := 0) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
/-- A tile of the queries' gradient, at the later points. -/
theorem queries_tileB (H : Inputs m c Q K U σ D) (t : Fin cfg0.N) (first : ¬t.val % 65 = 0) (y : S128x1024.Idx) (a : Fin 8320) (b : Fin 1024) (ha : a.val = t.val * 128 + (y 0).val)
    (hb : b.val = (y 1).val) : (outsAt0 m c t.val t.isLt).1 y = queryOut Q K U σ D a b := by
  rw [outsAt0_B m c t first]; frame_out
  canon_tiles x h
  · idx_vars x
    refine Eq.trans ?_ (queryOut_at (blockOf t) 1 3 x0 x1 a b (ha.trans (congrArg (t.val * 128 + ·) h0)) (hb.trans (h1.trans (by simp)))).symm
    refine pairQuery_real (Q := Q) (K := K) (V := U) (σ := σ) (D := D) (n := blockOf t) (k := 1) (j := 3) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 1 2 x0 x1 a b (ha.trans (congrArg (t.val * 128 + ·) h0)) (hb.trans (h1.trans (by simp)))).symm
    refine pairQuery_real (Q := Q) (K := K) (V := U) (σ := σ) (D := D) (n := blockOf t) (k := 1) (j := 2) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 1 1 x0 x1 a b (ha.trans (congrArg (t.val * 128 + ·) h0)) (hb.trans (h1.trans (by simp)))).symm
    refine pairQuery_real (Q := Q) (K := K) (V := U) (σ := σ) (D := D) (n := blockOf t) (k := 1) (j := 1) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 1 0 x0 x1 a b (ha.trans (congrArg (t.val * 128 + ·) h0)) (hb.trans (h1.trans (by simp)))).symm
    refine pairQuery_real (Q := Q) (K := K) (V := U) (σ := σ) (D := D) (n := blockOf t) (k := 1) (j := 0) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 3 x0 x1 a b (ha.trans (congrArg (t.val * 128 + ·) h0)) (hb.trans (h1.trans (by simp)))).symm
    refine pairQuery_real (Q := Q) (K := K) (V := U) (σ := σ) (D := D) (n := blockOf t) (k := 0) (j := 3) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 2 x0 x1 a b (ha.trans (congrArg (t.val * 128 + ·) h0)) (hb.trans (h1.trans (by simp)))).symm
    refine pairQuery_real (Q := Q) (K := K) (V := U) (σ := σ) (D := D) (n := blockOf t) (k := 0) (j := 2) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 1 x0 x1 a b (ha.trans (congrArg (t.val * 128 + ·) h0)) (hb.trans (h1.trans (by simp)))).symm
    refine pairQuery_real (Q := Q) (K := K) (V := U) (σ := σ) (D := D) (n := blockOf t) (k := 0) (j := 1) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
  · idx_vars x
    refine Eq.trans ?_ (queryOut_at (blockOf t) 0 0 x0 x1 a b (ha.trans (congrArg (t.val * 128 + ·) h0)) (hb.trans (h1.trans (by simp)))).symm
    refine pairQuery_real (Q := Q) (K := K) (V := U) (σ := σ) (D := D) (n := blockOf t) (k := 0) (j := 0) _ ?_ ?_ rfl rfl _
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)

theorem queries_tile (H : Inputs m c Q K U σ D) (t : Fin cfg0.N) (y : S128x1024.Idx) (a : Fin 8320) (b : Fin 1024) (ha : a.val = t.val * 128 + (y 0).val)
    (hb : b.val = (y 1).val) : (outsAt0 m c t.val t.isLt).1 y = queryOut Q K U σ D a b := by
  by_cases first : t.val % 65 = 0
  · exact queries_tileA H t first y a b ha hb
  · exact queries_tileB H t first y a b ha hb

/-- The array the kernel leaves. -/
theorem queries (H : Inputs m c Q K U σ D) : (dats m 0 c).arrAt 11 (cfgs 0).N = fun i => queryOut Q K U σ D (i 0) (i 1) := by
  refine (dats m 0 c).arrAt_eq_of_covers 11 _ (by decide +kernel) fun t _ y => ?_
  blk_simp
  rw [after0_11]
  refine queries_tile H t y _ _ ?_ ?_
  · blk_simp [blocks t]
  · blk_simp [blocks t]

end Cert.AttnIdeal.Kernel
end
-- ==== Proof.AttnWinK.lean ====
/- What the kernel leaves for the keys of each block's own rows and of the rows before it. -/
module
public import proofs.«01_k».proof.Proof.AttnStore
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable {m : (ℓ : Loc nD τ sig) → Buf (Elt Ideal) ℓ} {c : Dev nD}
variable {Q : Fin 8320 → Fin 1024 → ℝ} {K U : Fin 8320 → Fin 256 → ℝ} {σ : Fin 16 → ℝ} {D : Fin 8320 → Fin 1024 → ℝ}

/-- A tile of the own keys' gradient. -/
theorem ownKeys_tile (H : Inputs m c Q K U σ D) (t : Fin cfg0.N) (y : S128x256.Idx) (a : Fin 8320) (b : Fin 256) (ha : a.val = t.val * 128 + (y 0).val) (hb : b.val = (y 1).val) :
    (outsAt0 m c t.val t.isLt).2.1 y = keyOut Q K U σ D 144 (by omega) a b := by
  by_cases first : t.val % 65 = 0
  · rw [outsAt0_A m c t first]; frame_out
    canon_tiles x h
    · idx_vars x
      refine Eq.trans ?_ (keyOut_at 144 (by omega) (blockOf t) 1 x0 x1 a b (ha.trans (congrArg (t.val * 128 + ·) h0)) (hb.trans (h1.trans (by simp)))).symm
      refine (own_rows _ _ _).trans (keyChain (Q := Q) (K := K) (U := U) (σ := σ) (D := D) (n := blockOf t) (k := 1) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
    · idx_vars x
      refine Eq.trans ?_ (keyOut_at 144 (by omega) (blockOf t) 0 x0 x1 a b (ha.trans (congrArg (t.val * 128 + ·) h0)) (hb.trans (h1.trans (by simp)))).symm
      refine (own_rows _ _ _).trans (keyChain (Q := Q) (K := K) (U := U) (σ := σ) (D := D) (n := blockOf t) (k := 0) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
  · rw [outsAt0_B m c t first]; frame_out
    canon_tiles x h
    · idx_vars x
      refine Eq.trans ?_ (keyOut_at 144 (by omega) (blockOf t) 1 x0 x1 a b (ha.trans (congrArg (t.val * 128 + ·) h0)) (hb.trans (h1.trans (by simp)))).symm
      refine (own_rows _ _ _).trans (keyChain (Q := Q) (K := K) (U := U) (σ := σ) (D := D) (n := blockOf t) (k := 1) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
    · idx_vars x
      refine Eq.trans ?_ (keyOut_at 144 (by omega) (blockOf t) 0 x0 x1 a b (ha.trans (congrArg (t.val * 128 + ·) h0)) (hb.trans (h1.trans (by simp)))).symm
      refine (own_rows _ _ _).trans (keyChain (Q := Q) (K := K) (U := U) (σ := σ) (D := D) (n := blockOf t) (k := 0) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)

/-- The array the kernel leaves. -/
theorem ownKeys (H : Inputs m c Q K U σ D) : (dats m 0 c).arrAt 12 (cfgs 0).N = fun i => keyOut Q K U σ D 144 (by omega) (i 0) (i 1) := by
  refine (dats m 0 c).arrAt_eq_of_covers 12 _ (by decide +kernel) fun t _ y => ?_
  blk_simp
  rw [after0_12]
  refine ownKeys_tile H t y _ _ ?_ ?_
  · blk_simp [blocks t]
  · blk_simp [blocks t]

/-- A tile of the previous keys' gradient. -/
theorem previousKeys_tile (H : Inputs m c Q K U σ D) (t : Fin cfg0.N) (y : S128x256.Idx) (a : Fin 8320) (b : Fin 256) (ha : a.val = t.val * 128 + (y 0).val) (hb : b.val = (y 1).val) :
    (outsAt0 m c t.val t.isLt).2.2.1 y = keyOut Q K U σ D 16 (by omega) a b := by
  by_cases first : t.val % 65 = 0
  · rw [outsAt0_A m c t first]; frame_out
    canon_tiles x h
    · idx_vars x
      refine Eq.trans ?_ (keyOut_at 16 (by omega) (blockOf t) 1 x0 x1 a b (ha.trans (congrArg (t.val * 128 + ·) h0)) (hb.trans (h1.trans (by simp)))).symm
      refine (previous_rows _ _ _).trans (keyChain (Q := Q) (K := K) (U := U) (σ := σ) (D := D) (n := blockOf t) (k := 1) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
    · idx_vars x
      refine Eq.trans ?_ (keyOut_at 16 (by omega) (blockOf t) 0 x0 x1 a b (ha.trans (congrArg (t.val * 128 + ·) h0)) (hb.trans (h1.trans (by simp)))).symm
      refine (previous_rows _ _ _).trans (keyChain (Q := Q) (K := K) (U := U) (σ := σ) (D := D) (n := blockOf t) (k := 0) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
  · rw [outsAt0_B m c t first]; frame_out
    canon_tiles x h
    · idx_vars x
      refine Eq.trans ?_ (keyOut_at 16 (by omega) (blockOf t) 1 x0 x1 a b (ha.trans (congrArg (t.val * 128 + ·) h0)) (hb.trans (h1.trans (by simp)))).symm
      refine (previous_rows _ _ _).trans (keyChain (Q := Q) (K := K) (U := U) (σ := σ) (D := D) (n := blockOf t) (k := 1) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
    · idx_vars x
      refine Eq.trans ?_ (keyOut_at 16 (by omega) (blockOf t) 0 x0 x1 a b (ha.trans (congrArg (t.val * 128 + ·) h0)) (hb.trans (h1.trans (by simp)))).symm
      refine (previous_rows _ _ _).trans (keyChain (Q := Q) (K := K) (U := U) (σ := σ) (D := D) (n := blockOf t) (k := 0) ?_ ?_ ?_ ?_ ?_ rfl rfl rfl rfl rfl rfl rfl rfl _ _)
      · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · rw [Memref.IsWhole.read_unread]; pointwise; exact val7 t H _ _ _ (by simp)
        · rw [Memref.IsWhole.read_unread]; pointwise; exact val6 t H _ _ _ (by simp)
        · rw [Memref.IsWhole.read_unread]; pointwise; exact val5 t H _ _ _ (by simp)
        · pointwise; exact log_at t H _ j p _ _ hi
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)
      · refine ⟨fun r e => ?_, fun r e => ?_, fun r e => ?_⟩
        · pointwise; exact query_at t H _ _ _ (by simp)
        · pointwise; exact grad_at t H _ _ _ (by simp)
        · pointwise; exact out_at t H _ _ _ _ _ (by simp)

/-- The array the kernel leaves. -/
theorem previousKeys (H : Inputs m c Q K U σ D) : (dats m 0 c).arrAt 13 (cfgs 0).N = fun i => keyOut Q K U σ D 16 (by omega) (i 0) (i 1) := by
  refine (dats m 0 c).arrAt_eq_of_covers 13 _ (by decide +kernel) fun t _ y => ?_
  blk_simp
  rw [after0_13]
  refine previousKeys_tile H t y _ _ ?_ ?_
  · blk_simp [blocks t]
  · blk_simp [blocks t]

end Cert.AttnIdeal.Kernel
end
-- ==== Proof.AttnWinV.lean ====
/- What the kernel leaves for the values of each block's own rows and of the rows before it. -/
module
public import proofs.«01_k».proof.Proof.AttnStore
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable {m : (ℓ : Loc nD τ sig) → Buf (Elt Ideal) ℓ} {c : Dev nD}
variable {Q : Fin 8320 → Fin 1024 → ℝ} {K U : Fin 8320 → Fin 256 → ℝ} {σ : Fin 16 → ℝ} {D : Fin 8320 → Fin 1024 → ℝ}

/-- A tile of the own values' gradient. -/
theorem ownValues_tile (H : Inputs m c Q K U σ D) (t : Fin cfg0.N) (y : S128x256.Idx) (a : Fin 8320) (b : Fin 256) (ha : a.val = t.val * 128 + (y 0).val) (hb : b.val = (y 1).val) :
    (outsAt0 m c t.val t.isLt).2.2.2.1 y = valueOut Q K σ D 144 (by omega) a b := by
  by_cases first : t.val % 65 = 0
  · rw [outsAt0_A m c t first]; frame_out
    canon_tiles x h
    · idx_vars x
      refine Eq.trans ?_ (valueOut_at 144 (by omega) (blockOf t) 1 x0 x1 a b (ha.trans (congrArg (t.val * 128 + ·) h0)) (hb.trans (h1.trans (by simp)))).symm
      refine (own_rows _ _ _).trans (valChain (Q := Q) (K := K) (σ := σ) (D := D) (n := blockOf t) (k := 1) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
    · idx_vars x
      refine Eq.trans ?_ (valueOut_at 144 (by omega) (blockOf t) 0 x0 x1 a b (ha.trans (congrArg (t.val * 128 + ·) h0)) (hb.trans (h1.trans (by simp)))).symm
      refine (own_rows _ _ _).trans (valChain (Q := Q) (K := K) (σ := σ) (D := D) (n := blockOf t) (k := 0) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
  · rw [outsAt0_B m c t first]; frame_out
    canon_tiles x h
    · idx_vars x
      refine Eq.trans ?_ (valueOut_at 144 (by omega) (blockOf t) 1 x0 x1 a b (ha.trans (congrArg (t.val * 128 + ·) h0)) (hb.trans (h1.trans (by simp)))).symm
      refine (own_rows _ _ _).trans (valChain (Q := Q) (K := K) (σ := σ) (D := D) (n := blockOf t) (k := 1) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
    · idx_vars x
      refine Eq.trans ?_ (valueOut_at 144 (by omega) (blockOf t) 0 x0 x1 a b (ha.trans (congrArg (t.val * 128 + ·) h0)) (hb.trans (h1.trans (by simp)))).symm
      refine (own_rows _ _ _).trans (valChain (Q := Q) (K := K) (σ := σ) (D := D) (n := blockOf t) (k := 0) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)

/-- The array the kernel leaves. -/
theorem ownValues (H : Inputs m c Q K U σ D) : (dats m 0 c).arrAt 14 (cfgs 0).N = fun i => valueOut Q K σ D 144 (by omega) (i 0) (i 1) := by
  refine (dats m 0 c).arrAt_eq_of_covers 14 _ (by decide +kernel) fun t _ y => ?_
  blk_simp
  rw [after0_14]
  refine ownValues_tile H t y _ _ ?_ ?_
  · blk_simp [blocks t]
  · blk_simp [blocks t]

/-- A tile of the previous values' gradient. -/
theorem previousValues_tile (H : Inputs m c Q K U σ D) (t : Fin cfg0.N) (y : S128x256.Idx) (a : Fin 8320) (b : Fin 256) (ha : a.val = t.val * 128 + (y 0).val) (hb : b.val = (y 1).val) :
    (outsAt0 m c t.val t.isLt).2.2.2.2.1 y = valueOut Q K σ D 16 (by omega) a b := by
  by_cases first : t.val % 65 = 0
  · rw [outsAt0_A m c t first]; frame_out
    canon_tiles x h
    · idx_vars x
      refine Eq.trans ?_ (valueOut_at 16 (by omega) (blockOf t) 1 x0 x1 a b (ha.trans (congrArg (t.val * 128 + ·) h0)) (hb.trans (h1.trans (by simp)))).symm
      refine (previous_rows _ _ _).trans (valChain (Q := Q) (K := K) (σ := σ) (D := D) (n := blockOf t) (k := 1) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
    · idx_vars x
      refine Eq.trans ?_ (valueOut_at 16 (by omega) (blockOf t) 0 x0 x1 a b (ha.trans (congrArg (t.val * 128 + ·) h0)) (hb.trans (h1.trans (by simp)))).symm
      refine (previous_rows _ _ _).trans (valChain (Q := Q) (K := K) (σ := σ) (D := D) (n := blockOf t) (k := 0) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
  · rw [outsAt0_B m c t first]; frame_out
    canon_tiles x h
    · idx_vars x
      refine Eq.trans ?_ (valueOut_at 16 (by omega) (blockOf t) 1 x0 x1 a b (ha.trans (congrArg (t.val * 128 + ·) h0)) (hb.trans (h1.trans (by simp)))).symm
      refine (previous_rows _ _ _).trans (valChain (Q := Q) (K := K) (σ := σ) (D := D) (n := blockOf t) (k := 1) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
    · idx_vars x
      refine Eq.trans ?_ (valueOut_at 16 (by omega) (blockOf t) 0 x0 x1 a b (ha.trans (congrArg (t.val * 128 + ·) h0)) (hb.trans (h1.trans (by simp)))).symm
      refine (previous_rows _ _ _).trans (valChain (Q := Q) (K := K) (σ := σ) (D := D) (n := blockOf t) (k := 0) U ?_ ?_ ?_ ?_ ?_ rfl rfl rfl rfl rfl rfl rfl rfl _ _)
      · refine ⟨fun r s => mask_at _ _ (coord t) r s, stack _ _ _ _ _ (fun a e => ?_) (fun a e => ?_) (fun a e => ?_), fun r j p i hi => ?_⟩
        · rw [Memref.IsWhole.read_unread]; pointwise; exact key4 t H _ _ _ (by simp)
        · rw [Memref.IsWhole.read_unread]; pointwise; exact key3 t H _ _ _ (by simp)
        · rw [Memref.IsWhole.read_unread]; pointwise; exact key2 t H _ _ _ (by simp)
        · pointwise; exact log_at t H _ j p _ _ hi
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)
      · refine ⟨fun r e => ?_, fun r e => ?_⟩
        · pointwise; exact query_at t H _ _ _ (by simp)
        · pointwise; exact grad_at t H _ _ _ (by simp)

/-- The array the kernel leaves. -/
theorem previousValues (H : Inputs m c Q K U σ D) : (dats m 0 c).arrAt 15 (cfgs 0).N = fun i => valueOut Q K σ D 16 (by omega) (i 0) (i 1) := by
  refine (dats m 0 c).arrAt_eq_of_covers 15 _ (by decide +kernel) fun t _ y => ?_
  blk_simp
  rw [after0_15]
  refine previousValues_tile H t y _ _ ?_ ?_
  · blk_simp [blocks t]
  · blk_simp [blocks t]

end Cert.AttnIdeal.Kernel
end
-- ==== Proof.AttnFirst.lean ====
/- Two tiles stored side by side over whatever was stored before. -/
module
public import proofs.«01_k».proof.Proof.AttnStore
@[expose] public section
noncomputable section
namespace Cert.AttnIdeal.Kernel
open Cert.AttnIdeal Cert.AttnIdeal.Gen Idealize.ShloMosaic

/-- The left and the right half of a 16 × 256 array, stored last, are all that is read. -/
theorem two_tiles {Val : EltTy → Type} {e : EltTy} [∀ e, Nonempty (Val e)] {i0 : ∀ a, ![0, 128] a + ![16, 128] a ≤ S16x256.size a}
    {i1 : ∀ a, ![0, 0] a + ![16, 128] a ≤ S16x256.size a}
    (w0 : (Rect.unit (s := S16x256) ![0, 128] ![16, 128] i0).shape.Idx → Val e) (w1 : (Rect.unit (s := S16x256) ![0, 0] ![16, 128] i1).shape.Idx → Val e)
    (L : List (View.Piece Val S16x256 e)) (y : S16x256.Idx) (v : Val e)
    (h0 : ∀ x : S16x128.Idx, (∀ a, (y a).val = ![0, 128] a + (x a).val) → w0 x = v)
    (h1 : ∀ x : S16x128.Idx, (∀ a, (y a).val = ![0, 0] a + (x a).val) → w1 x = v) :
    View.canon (⟨Rect.unit (s := S16x256) ![0, 128] ![16, 128] i0, w0⟩ :: ⟨Rect.unit (s := S16x256) ![0, 0] ![16, 128] i1, w1⟩ :: L) y = v := by
  have here : ∀ (off : Fin 2 → Nat) (i : ∀ a, off a + ![16, 128] a ≤ S16x256.size a) (x : S16x128.Idx) (a : Fin 2),
      (((Rect.unit (s := S16x256) off ![16, 128] i).emb x) a).val = off a + (x a).val := fun off i x a => by
    rw [Rect.emb_apply]; show off a + 1 * (x a).val = _; omega
  by_cases hm : y ∈ (Rect.unit (s := S16x256) ![0, 128] ![16, 128] i0).set
  · obtain ⟨x, rfl⟩ := (Rect.unit (s := S16x256) ![0, 128] ![16, 128] i0).exists_idx_of_mem hm
    exact (View.canon_cons_emb _ w0 _ x).trans (h0 x (here _ i0 x))
  · rw [View.canon_cons_of_not_mem ⟨_, w0⟩ _ hm]
    obtain ⟨q, hq, hy⟩ := View.cover_of_tiled (Val := Val) (e := e) [⟨Rect.unit (s := S16x256) ![0, 128] ![16, 128] i0, w0⟩, ⟨Rect.unit (s := S16x256) ![0, 0] ![16, 128] i1, w1⟩] ![16, 128] rfl y
    rcases List.mem_cons.mp hq with rfl | hq
    · exact absurd hy hm
    · obtain rfl := List.mem_singleton.mp hq
      obtain ⟨x, rfl⟩ := (Rect.unit (s := S16x256) ![0, 0] ![16, 128] i1).exists_idx_of_mem hy
      exact (View.canon_cons_emb _ w1 _ x).trans (h1 x (here _ i1 x))

/-- A tile of an array, read at a place of the tile. -/
theorem ld_tile {Val : EltTy → Type} {e : EltTy} (X : S16x256.Idx → Val e) (off : Fin 2 → Nat) (i : ∀ a, off a + ![16, 128] a ≤ S16x256.size a)
    (x : S16x128.Idx) (y : S16x256.Idx) (h : ∀ a, (y a).val = off a + (x a).val) :
    View.ld X (Rect.unit (s := S16x256) off ![16, 128] i) x = X y := by
  have q : (Rect.unit (s := S16x256) off ![16, 128] i).emb x = y := funext fun a => Fin.ext (by
    rw [Rect.emb_apply, h a]; show off a + 1 * (x a).val = _; omega)
  exact congrArg X q

end Cert.AttnIdeal.Kernel
end
-- ==== Proof.AttnWinF.lean ====
/- What the kernel leaves for the keys of the first rows: a sum over the grid points. -/
module
public import proofs.«01_k».proof.Proof.AttnFirst
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable {m : (ℓ : Loc nD τ sig) → Buf (Elt Ideal) ℓ} {c : Dev nD}
variable {Q : Fin 8320 → Fin 1024 → ℝ} {K U : Fin 8320 → Fin 256 → ℝ} {σ : Fin 16 → ℝ} {D : Fin 8320 → Fin 1024 → ℝ}

/-- What a grid point adds to the first keys' gradient. -/
def firstKeyPart (Q : Fin 8320 → Fin 1024 → ℝ) (K U : Fin 8320 → Fin 256 → ℝ) (σ : Fin 16 → ℝ) (D : Fin 8320 → Fin 1024 → ℝ) (t : Fin cfg0.N) (y : S16x256.Idx) : EReal :=
  ((dkey Q K U σ D (blockOf t) ⟨(y 1).val / 128, by have := (y 1).isLt; simp only [Matrix.cons_val_one, Matrix.cons_val_fin_one] at this; omega⟩ ⟨(y 1).val / 64 % 2, by omega⟩
    ⟨(y 0).val, by have := (y 0).isLt; simp only [Matrix.cons_val_zero] at this; omega⟩ ⟨(y 1).val % 64, by omega⟩ : ℝ) : EReal)
theorem firstKeyPart_at (t : Fin cfg0.N) (y : S16x256.Idx) (a : Fin 16) (e : Fin 128) (k : Fin 2) (ha : (y 0).val = a.val) (hb : (y 1).val = (klane k e).val) :
    firstKeyPart Q K U σ D t y = ((dkey Q K U σ D (blockOf t) k (halfOf e) ⟨a.val, by omega⟩ (placeOf e) : ℝ) : EReal) := by
  unfold firstKeyPart
  simp only at hb
  congr 2 <;> apply Fin.ext <;> simp only <;> omega
/-- A point's part of it, at the first point. -/
theorem firstKey_stepA (H : Inputs m c Q K U σ D) (t : Fin cfg0.N) (first : t.val % 65 = 0) (y : S16x256.Idx) :
    (outsAt0 m c t.val t.isLt).2.2.2.2.2.1 y = 0 + firstKeyPart Q K U σ D t y := by
  rw [outsAt0_A m c t first]; frame_out
  refine two_tiles _ _ _ _ _ ?_ ?_
  · intro x h
    have h0 := h 0
    have h1 := h 1
    idx_vars x
    refine (first_rows _ _ _ _).trans (congrArg₂ (· + ·) ?_ (Eq.trans (keyChain (Q := Q) (K := K) (U := U) (σ := σ) (D := D) (n := blockOf t) (k := 1) ?_ ?_ ?_ ?_ ?_ rfl rfl rfl rfl rfl rfl rfl rfl _ _) (firstKeyPart_at t y x0 x1 1 (h0.trans (by simp)) (h1.trans (by simp))).symm))
    · rw [View.readCov_skip _ _ _ _ _ (by decide)]; rw [View.readCov_fill _ _ _ _ _ (by decide)]; pointwise
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
  · intro x h
    have h0 := h 0
    have h1 := h 1
    idx_vars x
    refine (first_rows _ _ _ _).trans (congrArg₂ (· + ·) ?_ (Eq.trans (keyChain (Q := Q) (K := K) (U := U) (σ := σ) (D := D) (n := blockOf t) (k := 0) ?_ ?_ ?_ ?_ ?_ rfl rfl rfl rfl rfl rfl rfl rfl _ _) (firstKeyPart_at t y x0 x1 0 (h0.trans (by simp)) (h1.trans (by simp))).symm))
    · rw [View.readCov_fill _ _ _ _ _ (by decide)]; pointwise
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
/-- A point's part of it, at the later points. -/
theorem firstKey_stepB (H : Inputs m c Q K U σ D) (t : Fin cfg0.N) (first : ¬t.val % 65 = 0) (y : S16x256.Idx) :
    (outsAt0 m c t.val t.isLt).2.2.2.2.2.1 y = (outsAt0 m c (t.val - 1) (by omega)).2.2.2.2.2.1 y + firstKeyPart Q K U σ D t y := by
  rw [outsAt0_B m c t first]; frame_out
  refine two_tiles _ _ _ _ _ ?_ ?_
  · intro x h
    have h0 := h 0
    have h1 := h 1
    idx_vars x
    refine (first_rows _ _ _ _).trans (congrArg₂ (· + ·) ?_ (Eq.trans (keyChain (Q := Q) (K := K) (U := U) (σ := σ) (D := D) (n := blockOf t) (k := 1) ?_ ?_ ?_ ?_ ?_ rfl rfl rfl rfl rfl rfl rfl rfl _ _) (firstKeyPart_at t y x0 x1 1 (h0.trans (by simp)) (h1.trans (by simp))).symm))
    · exact ld_tile _ _ _ _ _ h
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
  · intro x h
    have h0 := h 0
    have h1 := h 1
    idx_vars x
    refine (first_rows _ _ _ _).trans (congrArg₂ (· + ·) ?_ (Eq.trans (keyChain (Q := Q) (K := K) (U := U) (σ := σ) (D := D) (n := blockOf t) (k := 0) ?_ ?_ ?_ ?_ ?_ rfl rfl rfl rfl rfl rfl rfl rfl _ _) (firstKeyPart_at t y x0 x1 0 (h0.trans (by simp)) (h1.trans (by simp))).symm))
    · exact ld_tile _ _ _ _ _ h
    · refine ⟨fun r s => mask_at _ _ (coord t) r s, stack _ _ _ _ _ (fun a e => ?_) (fun a e => ?_) (fun a e => ?_), stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · rw [Memref.IsWhole.read_unread]; pointwise; exact val7 t H _ _ _ (by simp)
      · rw [Memref.IsWhole.read_unread]; pointwise; exact val6 t H _ _ _ (by simp)
      · rw [Memref.IsWhole.read_unread]; pointwise; exact val5 t H _ _ _ (by simp)
      · pointwise; exact log_at t H _ j p _ _ hi
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)
    · refine ⟨fun r e => ?_, fun r e => ?_, fun r e => ?_⟩
      · pointwise; exact query_at t H _ _ _ (by simp)
      · pointwise; exact grad_at t H _ _ _ (by simp)
      · pointwise; exact out_at t H _ _ _ _ _ (by simp)

/-- The part of a grid point, read at the array's own index. -/
theorem firstKeyPart_point (t : Fin cfg0.N) (n : Fin 65) (hn : t.val = n.val) (y : S16x256.Idx) (a : Fin 16) (b : Fin 256) (ha : a.val = (y 0).val) (hb : b.val = (y 1).val) :
    firstKeyPart Q K U σ D t y = ((dkey Q K U σ D n ⟨b.val / 128, by omega⟩ ⟨b.val / 64 % 2, by omega⟩ ⟨a.val, by omega⟩ ⟨b.val % 64, by omega⟩ : ℝ) : EReal) := by
  unfold firstKeyPart
  congr 2 <;> apply Fin.ext <;> simp only <;> omega

/-- What the array holds after the last point. -/
theorem firstKeys_tile (H : Inputs m c Q K U σ D) (t : Fin cfg0.N) (last : t.val % 65 = 64) (y : S16x256.Idx) (a : Fin 16) (b : Fin 256) (ha : a.val = (y 0).val) (hb : b.val = (y 1).val) :
    (outsAt0 m c t.val t.isLt).2.2.2.2.2.1 y = firstKeyOut Q K U σ D a b := by
  refine (Pipeline.eq_sum_fin_of_reset_step_apply_of_flush (M := EReal) (fun n h => (outsAt0 m c n h).2.2.2.2.2.1) 65 (fun _ => 0) (firstKeyPart Q K U σ D)
    (fun t h y => firstKey_stepA H t h y) (fun t h y => firstKey_stepB H t h y) t last y).trans ?_
  rw [zero_add]
  unfold firstKeyOut
  refine Finset.sum_congr rfl fun s _ => firstKeyPart_point _ s ?_ y a b ha hb
  have h : t.val < 65 := t.isLt
  simp only
  omega

/-- The array the kernel leaves. -/
theorem firstKeys (H : Inputs m c Q K U σ D) : (dats m 0 c).arrAt 16 (cfgs 0).N = fun i => firstKeyOut Q K U σ D (i 0) (i 1) := by
  refine (dats m 0 c).arrAt_eq_of_covers 16 _ (by decide +kernel) fun t hf y => ?_
  blk_simp
  rw [after0_16]
  refine firstKeys_tile H t ((flush0_16 t).mp hf) y _ _ ?_ ?_
  · blk_simp [blocks t]
  · blk_simp [blocks t]

end Cert.AttnIdeal.Kernel
end
-- ==== Proof.AttnWinG.lean ====
/- What the kernel leaves for the values of the first rows: a sum over the grid points. -/
module
public import proofs.«01_k».proof.Proof.AttnFirst
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable {m : (ℓ : Loc nD τ sig) → Buf (Elt Ideal) ℓ} {c : Dev nD}
variable {Q : Fin 8320 → Fin 1024 → ℝ} {K U : Fin 8320 → Fin 256 → ℝ} {σ : Fin 16 → ℝ} {D : Fin 8320 → Fin 1024 → ℝ}

/-- What a grid point adds to the first values' gradient. -/
def firstValuePart (Q : Fin 8320 → Fin 1024 → ℝ) (K : Fin 8320 → Fin 256 → ℝ) (σ : Fin 16 → ℝ) (D : Fin 8320 → Fin 1024 → ℝ) (t : Fin cfg0.N) (y : S16x256.Idx) : EReal :=
  ((dvalue Q K σ D (blockOf t) ⟨(y 1).val / 128, by have := (y 1).isLt; simp only [Matrix.cons_val_one, Matrix.cons_val_fin_one] at this; omega⟩ ⟨(y 1).val / 64 % 2, by omega⟩
    ⟨(y 0).val, by have := (y 0).isLt; simp only [Matrix.cons_val_zero] at this; omega⟩ ⟨(y 1).val % 64, by omega⟩ : ℝ) : EReal)
theorem firstValuePart_at (t : Fin cfg0.N) (y : S16x256.Idx) (a : Fin 16) (e : Fin 128) (k : Fin 2) (ha : (y 0).val = a.val) (hb : (y 1).val = (klane k e).val) :
    firstValuePart Q K σ D t y = ((dvalue Q K σ D (blockOf t) k (halfOf e) ⟨a.val, by omega⟩ (placeOf e) : ℝ) : EReal) := by
  unfold firstValuePart
  simp only at hb
  congr 2 <;> apply Fin.ext <;> simp only <;> omega
/-- A point's part of it, at the first point. -/
theorem firstValue_stepA (H : Inputs m c Q K U σ D) (t : Fin cfg0.N) (first : t.val % 65 = 0) (y : S16x256.Idx) :
    (outsAt0 m c t.val t.isLt).2.2.2.2.2.2.1 y = 0 + firstValuePart Q K σ D t y := by
  rw [outsAt0_A m c t first]; frame_out
  refine two_tiles _ _ _ _ _ ?_ ?_
  · intro x h
    have h0 := h 0
    have h1 := h 1
    idx_vars x
    refine (first_rows _ _ _ _).trans (congrArg₂ (· + ·) ?_ (Eq.trans (valChain (Q := Q) (K := K) (σ := σ) (D := D) (n := blockOf t) (k := 1) U ?_ ?_ ?_ ?_ ?_ rfl rfl rfl rfl rfl rfl rfl rfl _ _) (firstValuePart_at t y x0 x1 1 (h0.trans (by simp)) (h1.trans (by simp))).symm))
    · rw [View.readCov_skip _ _ _ _ _ (by decide)]; rw [View.readCov_fill _ _ _ _ _ (by decide)]; pointwise
    · refine ⟨fun r s => mask_at _ _ (coord t) r s, stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · pointwise; exact log_at t H _ j p _ _ hi
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
  · intro x h
    have h0 := h 0
    have h1 := h 1
    idx_vars x
    refine (first_rows _ _ _ _).trans (congrArg₂ (· + ·) ?_ (Eq.trans (valChain (Q := Q) (K := K) (σ := σ) (D := D) (n := blockOf t) (k := 0) U ?_ ?_ ?_ ?_ ?_ rfl rfl rfl rfl rfl rfl rfl rfl _ _) (firstValuePart_at t y x0 x1 0 (h0.trans (by simp)) (h1.trans (by simp))).symm))
    · rw [View.readCov_fill _ _ _ _ _ (by decide)]; pointwise
    · refine ⟨fun r s => mask_at _ _ (coord t) r s, stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · pointwise; exact log_at t H _ j p _ _ hi
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
/-- A point's part of it, at the later points. -/
theorem firstValue_stepB (H : Inputs m c Q K U σ D) (t : Fin cfg0.N) (first : ¬t.val % 65 = 0) (y : S16x256.Idx) :
    (outsAt0 m c t.val t.isLt).2.2.2.2.2.2.1 y = (outsAt0 m c (t.val - 1) (by omega)).2.2.2.2.2.2.1 y + firstValuePart Q K σ D t y := by
  rw [outsAt0_B m c t first]; frame_out
  refine two_tiles _ _ _ _ _ ?_ ?_
  · intro x h
    have h0 := h 0
    have h1 := h 1
    idx_vars x
    refine (first_rows _ _ _ _).trans (congrArg₂ (· + ·) ?_ (Eq.trans (valChain (Q := Q) (K := K) (σ := σ) (D := D) (n := blockOf t) (k := 1) U ?_ ?_ ?_ ?_ ?_ rfl rfl rfl rfl rfl rfl rfl rfl _ _) (firstValuePart_at t y x0 x1 1 (h0.trans (by simp)) (h1.trans (by simp))).symm))
    · exact ld_tile _ _ _ _ _ h
    · refine ⟨fun r s => mask_at _ _ (coord t) r s, stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · pointwise; exact log_at t H _ j p _ _ hi
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
  · intro x h
    have h0 := h 0
    have h1 := h 1
    idx_vars x
    refine (first_rows _ _ _ _).trans (congrArg₂ (· + ·) ?_ (Eq.trans (valChain (Q := Q) (K := K) (σ := σ) (D := D) (n := blockOf t) (k := 0) U ?_ ?_ ?_ ?_ ?_ rfl rfl rfl rfl rfl rfl rfl rfl _ _) (firstValuePart_at t y x0 x1 0 (h0.trans (by simp)) (h1.trans (by simp))).symm))
    · exact ld_tile _ _ _ _ _ h
    · refine ⟨fun r s => mask_at _ _ (coord t) r s, stack _ _ _ _ _ (fun a e => ?_) (fun a e => ?_) (fun a e => ?_), fun r j p i hi => ?_⟩
      · rw [Memref.IsWhole.read_unread]; pointwise; exact key4 t H _ _ _ (by simp)
      · rw [Memref.IsWhole.read_unread]; pointwise; exact key3 t H _ _ _ (by simp)
      · rw [Memref.IsWhole.read_unread]; pointwise; exact key2 t H _ _ _ (by simp)
      · pointwise; exact log_at t H _ j p _ _ hi
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)
    · refine ⟨fun r e => ?_, fun r e => ?_⟩
      · pointwise; exact query_at t H _ _ _ (by simp)
      · pointwise; exact grad_at t H _ _ _ (by simp)

/-- The part of a grid point, read at the array's own index. -/
theorem firstValuePart_point (t : Fin cfg0.N) (n : Fin 65) (hn : t.val = n.val) (y : S16x256.Idx) (a : Fin 16) (b : Fin 256) (ha : a.val = (y 0).val) (hb : b.val = (y 1).val) :
    firstValuePart Q K σ D t y = ((dvalue Q K σ D n ⟨b.val / 128, by omega⟩ ⟨b.val / 64 % 2, by omega⟩ ⟨a.val, by omega⟩ ⟨b.val % 64, by omega⟩ : ℝ) : EReal) := by
  unfold firstValuePart
  congr 2 <;> apply Fin.ext <;> simp only <;> omega

/-- What the array holds after the last point. -/
theorem firstValues_tile (H : Inputs m c Q K U σ D) (t : Fin cfg0.N) (last : t.val % 65 = 64) (y : S16x256.Idx) (a : Fin 16) (b : Fin 256) (ha : a.val = (y 0).val) (hb : b.val = (y 1).val) :
    (outsAt0 m c t.val t.isLt).2.2.2.2.2.2.1 y = firstValueOut Q K σ D a b := by
  refine (Pipeline.eq_sum_fin_of_reset_step_apply_of_flush (M := EReal) (fun n h => (outsAt0 m c n h).2.2.2.2.2.2.1) 65 (fun _ => 0) (firstValuePart Q K σ D)
    (fun t h y => firstValue_stepA H t h y) (fun t h y => firstValue_stepB H t h y) t last y).trans ?_
  rw [zero_add]
  unfold firstValueOut
  refine Finset.sum_congr rfl fun s _ => firstValuePart_point _ s ?_ y a b ha hb
  have h : t.val < 65 := t.isLt
  simp only
  omega

/-- The array the kernel leaves. -/
theorem firstValues (H : Inputs m c Q K U σ D) : (dats m 0 c).arrAt 17 (cfgs 0).N = fun i => firstValueOut Q K σ D (i 0) (i 1) := by
  refine (dats m 0 c).arrAt_eq_of_covers 17 _ (by decide +kernel) fun t hf y => ?_
  blk_simp
  rw [after0_17]
  refine firstValues_tile H t ((flush0_17 t).mp hf) y _ _ ?_ ?_
  · blk_simp [blocks t]
  · blk_simp [blocks t]

end Cert.AttnIdeal.Kernel
end
-- ==== Proof.AttnWinS.lean ====
/- What the kernel leaves for the sinks: a sum over the grid points. -/
module
public import proofs.«01_k».proof.Proof.AttnStore
@[expose] public section
set_option maxRecDepth 16384
noncomputable section
namespace Cert.AttnIdeal.Kernel
open Cert.AttnIdeal Cert.AttnIdeal.Gen Idealize.ShloMosaic Idealize.ShloMosaic.TcCoe Idealize.SL.Sem Cert.AttnIdeal.Tile Cert.AttnIdeal.Host Idealize.ShloMosaic.Pointwise
open Cert.Hand Cert.Hand.Attn
open Idealize.ShloMosaic.Pipeline (Dat)

variable {m : (ℓ : Loc nD τ sig) → Buf (Elt Ideal) ℓ} {c : Dev nD}
variable {Q : Fin 8320 → Fin 1024 → ℝ} {K U : Fin 8320 → Fin 256 → ℝ} {σ : Fin 16 → ℝ} {D : Fin 8320 → Fin 1024 → ℝ}

/-- What a grid point adds to the sinks' gradient. -/
def sinkPart (Q : Fin 8320 → Fin 1024 → ℝ) (K U : Fin 8320 → Fin 256 → ℝ) (σ : Fin 16 → ℝ) (D : Fin 8320 → Fin 1024 → ℝ) (t : Fin cfg0.N) (e : Fin 128) : EReal :=
  ∑ r, (((if e.val < 16 then sinkAt Q K U σ D (blockOf t) r e else 0) : ℝ) : EReal)
/-- A point's part of it, at the first point. -/
theorem sink_stepA (H : Inputs m c Q K U σ D) (t : Fin cfg0.N) (first : t.val % 65 = 0) (y : S1x128.Idx) :
    (outsAt0 m c t.val t.isLt).2.2.2.2.2.2.2 y = 0 + sinkPart Q K U σ D t (y 1) := by
  rw [outsAt0_A m c t first]; frame_out
  idx_vars y
  refine (lane_sum _ _ _ _).trans (congrArg₂ (· + ·) ?_ (Finset.sum_congr rfl fun r _ => sinkChain (Q := Q) (K := K) (U := U) (σ := σ) (D := D) (n := blockOf t) ?_ ?_ ?_ ?_ ?_ ?_ ?_ ?_ ?_ ?_ ?_ ?_ ?_ ?_ ?_ ?_ ?_ ?_ ?_ ?_ ?_ ?_ ?_ ?_ ?_  r _))
  · pointwise [k0_pay242]
  · intro r k j p i hi
    pointwise; exact log_at t H k j p _ _ hi
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
/-- A point's part of it, at the later points. -/
theorem sink_stepB (H : Inputs m c Q K U σ D) (t : Fin cfg0.N) (first : ¬t.val % 65 = 0) (y : S1x128.Idx) :
    (outsAt0 m c t.val t.isLt).2.2.2.2.2.2.2 y = (outsAt0 m c (t.val - 1) (by omega)).2.2.2.2.2.2.2 y + sinkPart Q K U σ D t (y 1) := by
  rw [outsAt0_B m c t first]; frame_out
  idx_vars y
  refine (lane_sum _ _ _ _).trans (congrArg₂ (· + ·) ?_ (Finset.sum_congr rfl fun r _ => sinkChain (Q := Q) (K := K) (U := U) (σ := σ) (D := D) (n := blockOf t) ?_ ?_ ?_ ?_ ?_ ?_ ?_ ?_ ?_ ?_ ?_ ?_ ?_ ?_ ?_ ?_ ?_ ?_ ?_ ?_ ?_ ?_ ?_ ?_ ?_  r _))
  · pointwise [k0_pay242]
  · intro r k j p i hi
    pointwise; exact log_at t H k j p _ _ hi
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · refine ⟨fun r e => ?_, fun r e => ?_⟩
    · pointwise; exact grad_at t H _ _ _ (by simp)
    · pointwise; exact out_at t H _ _ _ _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)
  · pointwise; exact sink_at t H _ _ (by simp)

/-- What the array holds after the last point. -/
theorem sinks_tile (H : Inputs m c Q K U σ D) (t : Fin cfg0.N) (last : t.val % 65 = 64) (y : S1x128.Idx) (b : Fin 128) (hb : b.val = (y 1).val) :
    (outsAt0 m c t.val t.isLt).2.2.2.2.2.2.2 y = sinkOut Q K U σ D b := by
  refine (Pipeline.eq_sum_fin_of_reset_step_apply_of_flush (M := EReal) (fun n h => (outsAt0 m c n h).2.2.2.2.2.2.2) 65 (fun _ => 0) (fun t (y : S1x128.Idx) => sinkPart Q K U σ D t (y 1))
    (fun t h y => sink_stepA H t h y) (fun t h y => sink_stepB H t h y) t last y).trans ?_
  rw [zero_add]
  obtain rfl : b = y 1 := Fin.ext hb
  have h : t.val < 65 := t.isLt
  have p : ∀ (s : Fin 65) (hs : 65 * (t.val / 65) + s.val < cfg0.N), blockOf ⟨65 * (t.val / 65) + s.val, hs⟩ = s := fun s hs => Fin.ext (by simp only; omega)
  unfold sinkOut sinkPart
  simp only [p]
  by_cases small : (y 1).val < 16
  · simp only [dif_pos small, if_pos small]
    refine Finset.sum_congr rfl fun s _ => ?_
    rw [coe_sum]
    refine congrArg Real.toEReal (Finset.sum_congr rfl fun r _ => ?_)
    unfold sinkAt
    congr 1 <;> apply Fin.ext <;> simp only <;> omega
  · simp only [dif_neg small, if_neg small, EReal.coe_zero, Finset.sum_const_zero]

/-- The array the kernel leaves. -/
theorem sinks (H : Inputs m c Q K U σ D) : (dats m 0 c).arrAt 18 (cfgs 0).N = fun i => sinkOut Q K U σ D (i 1) := by
  refine (dats m 0 c).arrAt_eq_of_covers 18 _ (by decide +kernel) fun t hf y => ?_
  blk_simp
  rw [after0_18]
  refine sinks_tile H t ((flush0_18 t).mp hf) y _ ?_
  blk_simp [blocks t]

end Cert.AttnIdeal.Kernel
end
-- ==== Proof.Attn.lean ====
/- The attention's gradient: the kernel's results are the reference's. -/
module
public import proofs.«01_k».proof.Defs
public import proofs.«01_k».proof.Proof.Reals
public import proofs.«01_k».proof.Proof.AttnRef
public import proofs.«01_k».proof.Proof.AttnWinQ
public import proofs.«01_k».proof.Proof.AttnWinK
public import proofs.«01_k».proof.Proof.AttnWinV
public import proofs.«01_k».proof.Proof.AttnWinF
public import proofs.«01_k».proof.Proof.AttnWinG
public import proofs.«01_k».proof.Proof.AttnWinS
@[expose] public section
set_option maxRecDepth 16384
noncomputable section
namespace Cert.Hand.Attn
open Idealize.ShloMosaic Idealize.ShloMosaic.TcCoe Idealize.SL.Sem Idealize.ShloMosaic.Pointwise

/-- The constant −1e30 of the printed kernel stands for minus infinity. -/
theorem mask : Cert.preserves_Attn_AttnIdeal :=
  IdealRules.named_const.statement Cert.AttnIdeal.κ "mask" .f32 0xF149F2CA#32 ⊥ rfl

/-- What lies strictly between the infinities is a real number. -/
theorem real_of_between {x lo hi : EReal} (hlo : lo = ⊥) (hhi : hi = ⊤)
    (h : IntOp.andi (BitVec.ofBool (decide (lo < x))) (BitVec.ofBool (decide (x < hi))) = 1#1) : x = ((x.toReal : ℝ) : EReal) := by
  subst hlo hhi
  refine (EReal.coe_toReal ?_ ?_).symm
  · rintro rfl
    rw [decide_eq_false (lt_irrefl _)] at h
    revert h; cases decide ((⊥ : EReal) < ⊤) <;> decide
  · rintro rfl
    rw [decide_eq_false (lt_irrefl (⊥ : EReal))] at h
    revert h; cases decide ((⊥ : EReal) < ⊤) <;> decide

section
variable [Cert.Pre_finite.Facts]
variable {a0 : FVec Ideal Cert.Pre_finite.S8320x1024 .bf16} {a1 a2 : FVec Ideal Cert.Pre_finite.S8320x256 .bf16} {a3 : FVec Ideal Cert.Pre_finite.S16 .f32} {a4 : FVec Ideal Cert.Pre_finite.S8320x1024 .f32}

/-- The condition on each argument, at an entry. -/
theorem real0 (h : (Cert.Pre_finite.fn (F := Ideal) a0 a1 a2 a3 a4).1 = fun _ => 1#1) (a : Fin 8320) (b : Fin 1024) :
    a0 (ix2 a b) = (((a0 (ix2 a b) : EReal).toReal : ℝ) : EReal) := by
  have e := congrFun h (ix2 a b)
  unfold Cert.Pre_finite.fn Cert.Pre_finite.fn_part1 at e
  pointwise at e
  exact real_of_between bits_bot_bf16 bits_top_bf16 e
theorem real1 (h : (Cert.Pre_finite.fn (F := Ideal) a0 a1 a2 a3 a4).2.1 = fun _ => 1#1) (a : Fin 8320) (b : Fin 256) :
    a1 (ix2 a b) = (((a1 (ix2 a b) : EReal).toReal : ℝ) : EReal) := by
  have e := congrFun h (ix2 a b)
  unfold Cert.Pre_finite.fn Cert.Pre_finite.fn_part1 at e
  pointwise at e
  exact real_of_between bits_bot_bf16 bits_top_bf16 e
theorem real2 (h : (Cert.Pre_finite.fn (F := Ideal) a0 a1 a2 a3 a4).2.2.1 = fun _ => 1#1) (a : Fin 8320) (b : Fin 256) :
    a2 (ix2 a b) = (((a2 (ix2 a b) : EReal).toReal : ℝ) : EReal) := by
  have e := congrFun h (ix2 a b)
  unfold Cert.Pre_finite.fn Cert.Pre_finite.fn_part1 at e
  pointwise at e
  exact real_of_between bits_bot_bf16 bits_top_bf16 e
theorem real3 (h : (Cert.Pre_finite.fn (F := Ideal) a0 a1 a2 a3 a4).2.2.2.1 = fun _ => 1#1) (a : Fin 16) :
    a3 (ix1 a) = (((a3 (ix1 a) : EReal).toReal : ℝ) : EReal) := by
  have e := congrFun h (ix1 a)
  unfold Cert.Pre_finite.fn Cert.Pre_finite.fn_part1 at e
  pointwise at e
  exact real_of_between bits_bot bits_top e
theorem real4 (h : (Cert.Pre_finite.fn (F := Ideal) a0 a1 a2 a3 a4).2.2.2.2 = fun _ => 1#1) (a : Fin 8320) (b : Fin 1024) :
    a4 (ix2 a b) = (((a4 (ix2 a b) : EReal).toReal : ℝ) : EReal) := by
  have e := congrFun h (ix2 a b)
  unfold Cert.Pre_finite.fn Cert.Pre_finite.fn_part1 at e
  pointwise at e
  exact real_of_between bits_bot bits_top e
end

section
variable [Cert.Pre_finite.Facts] (m : (ℓ : Loc Cert.AttnIdeal.nD Cert.AttnIdeal.τ Cert.AttnIdeal.sig) → Buf (Elt Ideal) ℓ) (c : Dev Cert.AttnIdeal.nD)

/-- The arguments as arrays of real numbers. -/
def Qr (a : Fin 8320) (b : Fin 1024) : ℝ := ((m ((c : Thread Cert.AttnIdeal.nD Cert.AttnIdeal.τ).loc Cert.AttnIdeal.main_arg0) : FVec Ideal Cert.AttnIdeal.S8320x1024 .bf16) (ix2 a b) : EReal).toReal
def Kr (a : Fin 8320) (b : Fin 256) : ℝ := ((m ((c : Thread Cert.AttnIdeal.nD Cert.AttnIdeal.τ).loc Cert.AttnIdeal.main_arg1) : FVec Ideal Cert.AttnIdeal.S8320x256 .bf16) (ix2 a b) : EReal).toReal
def Ur (a : Fin 8320) (b : Fin 256) : ℝ := ((m ((c : Thread Cert.AttnIdeal.nD Cert.AttnIdeal.τ).loc Cert.AttnIdeal.main_arg2) : FVec Ideal Cert.AttnIdeal.S8320x256 .bf16) (ix2 a b) : EReal).toReal
def Sr (a : Fin 16) : ℝ := ((m ((c : Thread Cert.AttnIdeal.nD Cert.AttnIdeal.τ).loc Cert.AttnIdeal.main_arg3) : FVec Ideal Cert.AttnIdeal.S16 .f32) (ix1 a) : EReal).toReal
def Dr (a : Fin 8320) (b : Fin 1024) : ℝ := ((m ((c : Thread Cert.AttnIdeal.nD Cert.AttnIdeal.τ).loc Cert.AttnIdeal.main_arg4) : FVec Ideal Cert.AttnIdeal.S8320x1024 .f32) (ix2 a b) : EReal).toReal

theorem inputs (P : Pre_AttnIdeal_finite m) : Cert.AttnIdeal.Kernel.Inputs m c (Qr m c) (Kr m c) (Ur m c) (Sr m c) (Dr m c) := by
  obtain ⟨p0, p1, p2, p3, p4⟩ := P c
  exact ⟨⟨fun a b => real0 p0 a b, fun a b => real1 p1 a b, fun a b => real2 p2 a b, fun a => real3 p3 a⟩, fun a b => real4 p4 a b⟩
end

/-- The reference starts from the same real arrays. -/
theorem same (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ) (c : Dev Cert.AttnIdeal.nD)
    {Q : Fin 8320 → Fin 1024 → ℝ} {K U : Fin 8320 → Fin 256 → ℝ} {σ : Fin 16 → ℝ} {D : Fin 8320 → Fin 1024 → ℝ} (H : Cert.AttnIdeal.Kernel.Inputs m c Q K U σ D)
    (h : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) :
    Cert.AttnRefIdeal.Value.Holds (fun b => m' (c, b)) Q K U σ D := by
  obtain ⟨h0, h1, h2, h3, h4⟩ := h
  exact ⟨fun a b => (congrFun h0 (ix2 a b)).trans (H.args.q a b), fun a b => (congrFun h1 (ix2 a b)).trans (H.args.k a b),
    fun a b => (congrFun h2 (ix2 a b)).trans (H.args.v a b), fun a => (congrFun h3 (ix1 a)).trans (H.args.s a), fun a b => (congrFun h4 (ix2 a b)).trans (H.grad a b)⟩

set_option maxHeartbeats 2000000 in
/-- The kernel's eight results are the reference's. -/
theorem equal [Cert.Pre_finite.Facts] : Cert.algebraic_AttnIdeal_AttnRefIdeal_pre_finite := by
  intro m g m' g' hpre hagree
  refine ⟨fun c i => queryOut (Qr m c) (Kr m c) (Ur m c) (Sr m c) (Dr m c) (i 0) (i 1),
    fun c i => keyOut (Qr m c) (Kr m c) (Ur m c) (Sr m c) (Dr m c) 144 (by decide) (i 0) (i 1),
    fun c i => keyOut (Qr m c) (Kr m c) (Ur m c) (Sr m c) (Dr m c) 16 (by decide) (i 0) (i 1),
    fun c i => valueOut (Qr m c) (Kr m c) (Sr m c) (Dr m c) 144 (by decide) (i 0) (i 1),
    fun c i => valueOut (Qr m c) (Kr m c) (Sr m c) (Dr m c) 16 (by decide) (i 0) (i 1),
    fun c i => firstKeyOut (Qr m c) (Kr m c) (Ur m c) (Sr m c) (Dr m c) (i 0) (i 1),
    fun c i => firstValueOut (Qr m c) (Kr m c) (Sr m c) (Dr m c) (i 0) (i 1),
    fun c i => sinkOut (Qr m c) (Kr m c) (Ur m c) (Sr m c) (Dr m c) (i 1), ?_, ?_⟩
  · refine θ_run_mono (θ_run_and (Cert.AttnIdeal.Gen.run_main m g) (Cert.AttnIdeal.Gen.unchanged m g)) fun r hr c => ?_
    have H := inputs m c hpre
    have e := (hr.1 c).1
    exact ⟨(e 11).trans (Cert.AttnIdeal.Kernel.queries H),
      (e 12).trans (Cert.AttnIdeal.Kernel.ownKeys H),
      (e 13).trans (Cert.AttnIdeal.Kernel.previousKeys H),
      (e 14).trans (Cert.AttnIdeal.Kernel.ownValues H),
      (e 15).trans (Cert.AttnIdeal.Kernel.previousValues H),
      (e 16).trans (Cert.AttnIdeal.Kernel.firstKeys H),
      (e 17).trans (Cert.AttnIdeal.Kernel.firstValues H),
      (e 18).trans (Cert.AttnIdeal.Kernel.sinks H), hr.2 c⟩
  · refine θ_run_mono (Cert.AttnRefIdeal.Value.run m' g') fun r hr c => ?_
    obtain ⟨e0, e1, e2, e3, e4, e5, e6, e7, h0, h1, h2, h3, h4⟩ := hr c
    have R := same m m' c (inputs m c hpre) (hagree c)
    exact ⟨e0.trans (Cert.AttnRefIdeal.Value.o0 R), e1.trans (Cert.AttnRefIdeal.Value.o1 R), e2.trans (Cert.AttnRefIdeal.Value.o2 R), e3.trans (Cert.AttnRefIdeal.Value.o3 R), e4.trans (Cert.AttnRefIdeal.Value.o4 R), e5.trans (Cert.AttnRefIdeal.Value.o5 R), e6.trans (Cert.AttnRefIdeal.Value.o6 R), e7.trans (Cert.AttnRefIdeal.Value.o7 R _),
      h0, h1, h2, h3, h4⟩
end Cert.Hand.Attn
end
-- ==== Proof.lean ====
/- The certificate's claim, put together: the frames are those of the generated runs, the equalities those of the modules next to this file. -/
module

public import proofs.«01_k».proof.Defs
public import Idealize.ShloMosaic.Init
public import proofs.«01_k».proof.Proof.Gen.Norm.Frame
public import proofs.«01_k».proof.Proof.Gen.NormIdeal.Value
public import proofs.«01_k».proof.Proof.Gen.NormRefIdeal.Run
public import proofs.«01_k».proof.Proof.Norm
public import proofs.«01_k».proof.Proof.Gen.NormFirst.Launch
public import proofs.«01_k».proof.Proof.Gen.NormFirst.Skeleton
public import proofs.«01_k».proof.Proof.Gen.NormFirst.Points
public import proofs.«01_k».proof.Proof.Gen.NormFirstIdeal.Launch
public import proofs.«01_k».proof.Proof.Gen.NormFirstIdeal.Skeleton
public import proofs.«01_k».proof.Proof.Gen.NormFirstIdeal.Points
public import proofs.«01_k».proof.Proof.Gen.NormFirstRefIdeal.Run
public import proofs.«01_k».proof.Proof.NormFirstFrame
public import proofs.«01_k».proof.Proof.NormFirst
public import proofs.«01_k».proof.Proof.Gen.Loss.Frame
public import proofs.«01_k».proof.Proof.Gen.LossIdeal.Value
public import proofs.«01_k».proof.Proof.Gen.LossRefIdeal.Run
public import proofs.«01_k».proof.Proof.Loss
public import proofs.«01_k».proof.Proof.Gen.InProj.Frame
public import proofs.«01_k».proof.Proof.Gen.InProjIdeal.Value
public import proofs.«01_k».proof.Proof.Gen.InProjRefIdeal.Run
public import proofs.«01_k».proof.Proof.InProj
public import proofs.«01_k».proof.Proof.Gen.OutProj.Frame
public import proofs.«01_k».proof.Proof.Gen.OutProjIdeal.Value
public import proofs.«01_k».proof.Proof.Gen.OutProjRefIdeal.Run
public import proofs.«01_k».proof.Proof.OutProj
public import proofs.«01_k».proof.Proof.Gen.DMixed.Frame
public import proofs.«01_k».proof.Proof.Gen.DMixedIdeal.Value
public import proofs.«01_k».proof.Proof.Gen.DMixedRefIdeal.Run
public import proofs.«01_k».proof.Proof.DMixed
public import proofs.«01_k».proof.Proof.Gen.DwOut.Frame
public import proofs.«01_k».proof.Proof.Gen.DwOutIdeal.Value
public import proofs.«01_k».proof.Proof.Gen.DwOutRefIdeal.Run
public import proofs.«01_k».proof.Proof.DwOut
public import proofs.«01_k».proof.Proof.Gen.DwIn.Frame
public import proofs.«01_k».proof.Proof.Gen.DwInIdeal.Value
public import proofs.«01_k».proof.Proof.Gen.DwInRefIdeal.Run
public import proofs.«01_k».proof.Proof.DwIn
public import proofs.«01_k».proof.Proof.Gen.DwInB.Frame
public import proofs.«01_k».proof.Proof.Gen.DwInBIdeal.Value
public import proofs.«01_k».proof.Proof.Gen.DwInBRefIdeal.Run
public import proofs.«01_k».proof.Proof.DwInB
public import proofs.«01_k».proof.Proof.Gen.DXn.Frame
public import proofs.«01_k».proof.Proof.Gen.DXnIdeal.Value
public import proofs.«01_k».proof.Proof.Gen.DXnRefIdeal.Run
public import proofs.«01_k».proof.Proof.DXn
public import proofs.«01_k».proof.Proof.Gen.AdamIn.Frame
public import proofs.«01_k».proof.Proof.Gen.AdamInIdeal.Value
public import proofs.«01_k».proof.Proof.Gen.AdamInRefIdeal.Run
public import proofs.«01_k».proof.Proof.AdamIn
public import proofs.«01_k».proof.Proof.Gen.AdamOut.Frame
public import proofs.«01_k».proof.Proof.Gen.AdamOutIdeal.Value
public import proofs.«01_k».proof.Proof.Gen.AdamOutRefIdeal.Run
public import proofs.«01_k».proof.Proof.AdamOut
public import proofs.«01_k».proof.Proof.Gen.AdamMeta.Frame
public import proofs.«01_k».proof.Proof.Gen.AdamMetaIdeal.Value
public import proofs.«01_k».proof.Proof.Gen.AdamMetaRefIdeal.Run
public import proofs.«01_k».proof.Proof.AdamMeta
public import proofs.«01_k».proof.Proof.Gen.AdamNorm.Frame
public import proofs.«01_k».proof.Proof.Gen.AdamNormIdeal.Value
public import proofs.«01_k».proof.Proof.Gen.AdamNormRefIdeal.Run
public import proofs.«01_k».proof.Proof.AdamNorm
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.AdamSmall
public import proofs.«01_k».proof.Proof.Gen.Attn.Frame
public import proofs.«01_k».proof.Proof.Gen.AttnIdeal.Value
public import proofs.«01_k».proof.Proof.Gen.AttnRefIdeal.Run
public import proofs.«01_k».proof.Proof.Attn
public import proofs.«01_k».proof.Proof.Gen.Pre_finite

@[expose] public section

noncomputable section

namespace Cert.Proof

open Idealize.ShloMosaic Idealize.SL.Sem

/-- Norm: the kernel at the machine's floats, the kernel at the ideal floats and the reference run, keep their arguments and leave every counter at zero. -/
theorem frame_Norm : (∀ h : Cert.Norm.Facts, @Cert.quiescent_Norm h) ∧ (∀ h : Cert.NormIdeal.Facts, @Cert.quiescent_NormIdeal h)
    ∧ (∀ h : Cert.NormRefIdeal.Facts, @Cert.quiescent_NormRefIdeal h) :=
  ⟨fun _ m ρ _ => Cert.Norm.Gen.frame m ρ, fun _ m ρ _ => Cert.NormIdeal.Gen.frame m ρ,
   fun _ m ρ _ => (θ_run Cert.NormRefIdeal.defs _ _).mono
     (fun r h => ⟨fun c => (h c).2.2.2, sem_eq_zero_of_no_sems (by decide) r.2⟩) (Cert.NormRefIdeal.Value.run m ρ)⟩

/-- NormFirst: the kernel at the machine's floats, the kernel at the ideal floats and the reference run, keep their arguments and leave every counter at zero. -/
theorem frame_NormFirst : (∀ h : Cert.NormFirst.Facts, @Cert.quiescent_NormFirst h) ∧ (∀ h : Cert.NormFirstIdeal.Facts, @Cert.quiescent_NormFirstIdeal h)
    ∧ (∀ h : Cert.NormFirstRefIdeal.Facts, @Cert.quiescent_NormFirstRefIdeal h) :=
  ⟨fun _ m ρ _ => Cert.NormFirst.Hand.frame m ρ, fun _ m ρ _ => Cert.NormFirstIdeal.Hand.frame m ρ,
   fun _ m ρ _ => (θ_run Cert.NormFirstRefIdeal.defs _ _).mono
     (fun r h => ⟨fun c => (h c).2.2.2, sem_eq_zero_of_no_sems (by decide) r.2⟩) (Cert.NormFirstRefIdeal.Value.run m ρ)⟩

/-- Loss: the kernel at the machine's floats, the kernel at the ideal floats and the reference run, keep their arguments and leave every counter at zero. -/
theorem frame_Loss : (∀ h : Cert.Loss.Facts, @Cert.quiescent_Loss h) ∧ (∀ h : Cert.LossIdeal.Facts, @Cert.quiescent_LossIdeal h)
    ∧ (∀ h : Cert.LossRefIdeal.Facts, @Cert.quiescent_LossRefIdeal h) :=
  ⟨fun _ m ρ _ => Cert.Loss.Gen.frame m ρ, fun _ m ρ _ => Cert.LossIdeal.Gen.frame m ρ,
   fun _ m ρ _ => (θ_run Cert.LossRefIdeal.defs _ _).mono
     (fun r h => ⟨fun c => (h c).2.2.2, sem_eq_zero_of_no_sems (by decide) r.2⟩) (Cert.LossRefIdeal.Value.run m ρ)⟩

/-- InProj: the kernel at the machine's floats, the kernel at the ideal floats and the reference run, keep their arguments and leave every counter at zero. -/
theorem frame_InProj : (∀ h : Cert.InProj.Facts, @Cert.quiescent_InProj h) ∧ (∀ h : Cert.InProjIdeal.Facts, @Cert.quiescent_InProjIdeal h)
    ∧ (∀ h : Cert.InProjRefIdeal.Facts, @Cert.quiescent_InProjRefIdeal h) :=
  ⟨fun _ m ρ _ => Cert.InProj.Gen.frame m ρ, fun _ m ρ _ => Cert.InProjIdeal.Gen.frame m ρ,
   fun _ m ρ _ => (θ_run Cert.InProjRefIdeal.defs _ _).mono
     (fun r h => ⟨fun c => (h c).2, sem_eq_zero_of_no_sems (by decide) r.2⟩) (Cert.InProjRefIdeal.Value.run m ρ)⟩

/-- OutProj: the kernel at the machine's floats, the kernel at the ideal floats and the reference run, keep their arguments and leave every counter at zero. -/
theorem frame_OutProj : (∀ h : Cert.OutProj.Facts, @Cert.quiescent_OutProj h) ∧ (∀ h : Cert.OutProjIdeal.Facts, @Cert.quiescent_OutProjIdeal h)
    ∧ (∀ h : Cert.OutProjRefIdeal.Facts, @Cert.quiescent_OutProjRefIdeal h) :=
  ⟨fun _ m ρ _ => Cert.OutProj.Gen.frame m ρ, fun _ m ρ _ => Cert.OutProjIdeal.Gen.frame m ρ,
   fun _ m ρ _ => (θ_run Cert.OutProjRefIdeal.defs _ _).mono
     (fun r h => ⟨fun c => (h c).2, sem_eq_zero_of_no_sems (by decide) r.2⟩) (Cert.OutProjRefIdeal.Value.run m ρ)⟩

/-- DMixed: the kernel at the machine's floats, the kernel at the ideal floats and the reference run, keep their arguments and leave every counter at zero. -/
theorem frame_DMixed : (∀ h : Cert.DMixed.Facts, @Cert.quiescent_DMixed h) ∧ (∀ h : Cert.DMixedIdeal.Facts, @Cert.quiescent_DMixedIdeal h)
    ∧ (∀ h : Cert.DMixedRefIdeal.Facts, @Cert.quiescent_DMixedRefIdeal h) :=
  ⟨fun _ m ρ _ => Cert.DMixed.Gen.frame m ρ, fun _ m ρ _ => Cert.DMixedIdeal.Gen.frame m ρ,
   fun _ m ρ _ => (θ_run Cert.DMixedRefIdeal.defs _ _).mono
     (fun r h => ⟨fun c => (h c).2, sem_eq_zero_of_no_sems (by decide) r.2⟩) (Cert.DMixedRefIdeal.Value.run m ρ)⟩

/-- DwOut: the kernel at the machine's floats, the kernel at the ideal floats and the reference run, keep their arguments and leave every counter at zero. -/
theorem frame_DwOut : (∀ h : Cert.DwOut.Facts, @Cert.quiescent_DwOut h) ∧ (∀ h : Cert.DwOutIdeal.Facts, @Cert.quiescent_DwOutIdeal h)
    ∧ (∀ h : Cert.DwOutRefIdeal.Facts, @Cert.quiescent_DwOutRefIdeal h) :=
  ⟨fun _ m ρ _ => Cert.DwOut.Gen.frame m ρ, fun _ m ρ _ => Cert.DwOutIdeal.Gen.frame m ρ,
   fun _ m ρ _ => (θ_run Cert.DwOutRefIdeal.defs _ _).mono
     (fun r h => ⟨fun c => (h c).2, sem_eq_zero_of_no_sems (by decide) r.2⟩) (Cert.DwOutRefIdeal.Value.run m ρ)⟩

/-- DwIn: the kernel at the machine's floats, the kernel at the ideal floats and the reference run, keep their arguments and leave every counter at zero. -/
theorem frame_DwIn : (∀ h : Cert.DwIn.Facts, @Cert.quiescent_DwIn h) ∧ (∀ h : Cert.DwInIdeal.Facts, @Cert.quiescent_DwInIdeal h)
    ∧ (∀ h : Cert.DwInRefIdeal.Facts, @Cert.quiescent_DwInRefIdeal h) :=
  ⟨fun _ m ρ _ => Cert.DwIn.Gen.frame m ρ, fun _ m ρ _ => Cert.DwInIdeal.Gen.frame m ρ,
   fun _ m ρ _ => (θ_run Cert.DwInRefIdeal.defs _ _).mono
     (fun r h => ⟨fun c => (h c).2, sem_eq_zero_of_no_sems (by decide) r.2⟩) (Cert.DwInRefIdeal.Value.run m ρ)⟩

/-- DwInB: the kernel at the machine's floats, the kernel at the ideal floats and the reference run, keep their arguments and leave every counter at zero. -/
theorem frame_DwInB : (∀ h : Cert.DwInB.Facts, @Cert.quiescent_DwInB h) ∧ (∀ h : Cert.DwInBIdeal.Facts, @Cert.quiescent_DwInBIdeal h)
    ∧ (∀ h : Cert.DwInBRefIdeal.Facts, @Cert.quiescent_DwInBRefIdeal h) :=
  ⟨fun _ m ρ _ => Cert.DwInB.Gen.frame m ρ, fun _ m ρ _ => Cert.DwInBIdeal.Gen.frame m ρ,
   fun _ m ρ _ => (θ_run Cert.DwInBRefIdeal.defs _ _).mono
     (fun r h => ⟨fun c => (h c).2, sem_eq_zero_of_no_sems (by decide) r.2⟩) (Cert.DwInBRefIdeal.Value.run m ρ)⟩

/-- DXn: the kernel at the machine's floats, the kernel at the ideal floats and the reference run, keep their arguments and leave every counter at zero. -/
theorem frame_DXn : (∀ h : Cert.DXn.Facts, @Cert.quiescent_DXn h) ∧ (∀ h : Cert.DXnIdeal.Facts, @Cert.quiescent_DXnIdeal h)
    ∧ (∀ h : Cert.DXnRefIdeal.Facts, @Cert.quiescent_DXnRefIdeal h) :=
  ⟨fun _ m ρ _ => Cert.DXn.Gen.frame m ρ, fun _ m ρ _ => Cert.DXnIdeal.Gen.frame m ρ,
   fun _ m ρ _ => (θ_run Cert.DXnRefIdeal.defs _ _).mono
     (fun r h => ⟨fun c => (h c).2, sem_eq_zero_of_no_sems (by decide) r.2⟩) (Cert.DXnRefIdeal.Value.run m ρ)⟩

/-- AdamIn: the kernel at the machine's floats, the kernel at the ideal floats and the reference run, keep their arguments and leave every counter at zero. -/
theorem frame_AdamIn : (∀ h : Cert.AdamIn.Facts, @Cert.quiescent_AdamIn h) ∧ (∀ h : Cert.AdamInIdeal.Facts, @Cert.quiescent_AdamInIdeal h)
    ∧ (∀ h : Cert.AdamInRefIdeal.Facts, @Cert.quiescent_AdamInRefIdeal h) :=
  ⟨fun _ m ρ _ => Cert.AdamIn.Gen.frame m ρ, fun _ m ρ _ => Cert.AdamInIdeal.Gen.frame m ρ,
   fun _ m ρ _ => (θ_run Cert.AdamInRefIdeal.defs _ _).mono
     (fun r h => ⟨fun c => (h c).2.2.2.2, sem_eq_zero_of_no_sems (by decide) r.2⟩) (Cert.AdamInRefIdeal.Value.run m ρ)⟩

/-- AdamOut: the kernel at the machine's floats, the kernel at the ideal floats and the reference run, keep their arguments and leave every counter at zero. -/
theorem frame_AdamOut : (∀ h : Cert.AdamOut.Facts, @Cert.quiescent_AdamOut h) ∧ (∀ h : Cert.AdamOutIdeal.Facts, @Cert.quiescent_AdamOutIdeal h)
    ∧ (∀ h : Cert.AdamOutRefIdeal.Facts, @Cert.quiescent_AdamOutRefIdeal h) :=
  ⟨fun _ m ρ _ => Cert.AdamOut.Gen.frame m ρ, fun _ m ρ _ => Cert.AdamOutIdeal.Gen.frame m ρ,
   fun _ m ρ _ => (θ_run Cert.AdamOutRefIdeal.defs _ _).mono
     (fun r h => ⟨fun c => (h c).2.2.2.2, sem_eq_zero_of_no_sems (by decide) r.2⟩) (Cert.AdamOutRefIdeal.Value.run m ρ)⟩

/-- AdamMeta: the kernel at the machine's floats, the kernel at the ideal floats and the reference run, keep their arguments and leave every counter at zero. -/
theorem frame_AdamMeta : (∀ h : Cert.AdamMeta.Facts, @Cert.quiescent_AdamMeta h) ∧ (∀ h : Cert.AdamMetaIdeal.Facts, @Cert.quiescent_AdamMetaIdeal h)
    ∧ (∀ h : Cert.AdamMetaRefIdeal.Facts, @Cert.quiescent_AdamMetaRefIdeal h) :=
  ⟨fun _ m ρ _ => Cert.AdamMeta.Gen.frame m ρ, fun _ m ρ _ => Cert.AdamMetaIdeal.Gen.frame m ρ,
   fun _ m ρ _ => (θ_run Cert.AdamMetaRefIdeal.defs _ _).mono
     (fun r h => ⟨fun c => (h c).2.2.2.2, sem_eq_zero_of_no_sems (by decide) r.2⟩) (Cert.AdamMetaRefIdeal.Value.run m ρ)⟩

/-- AdamNorm: the kernel at the machine's floats, the kernel at the ideal floats and the reference run, keep their arguments and leave every counter at zero. -/
theorem frame_AdamNorm : (∀ h : Cert.AdamNorm.Facts, @Cert.quiescent_AdamNorm h) ∧ (∀ h : Cert.AdamNormIdeal.Facts, @Cert.quiescent_AdamNormIdeal h)
    ∧ (∀ h : Cert.AdamNormRefIdeal.Facts, @Cert.quiescent_AdamNormRefIdeal h) :=
  ⟨fun _ m ρ _ => Cert.AdamNorm.Gen.frame m ρ, fun _ m ρ _ => Cert.AdamNormIdeal.Gen.frame m ρ,
   fun _ m ρ _ => (θ_run Cert.AdamNormRefIdeal.defs _ _).mono
     (fun r h => ⟨fun c => (h c).2.2.2.2, sem_eq_zero_of_no_sems (by decide) r.2⟩) (Cert.AdamNormRefIdeal.Value.run m ρ)⟩

/-- AdamSmall: the kernel at the machine's floats, the kernel at the ideal floats and the reference run, keep their arguments and leave every counter at zero. -/
theorem frame_AdamSmall : (∀ h : Cert.AdamSmall.Facts, @Cert.quiescent_AdamSmall h) ∧ (∀ h : Cert.AdamSmallIdeal.Facts, @Cert.quiescent_AdamSmallIdeal h)
    ∧ (∀ h : Cert.AdamSmallRefIdeal.Facts, @Cert.quiescent_AdamSmallRefIdeal h) :=
  ⟨fun _ m ρ _ => Cert.AdamSmall.Gen.frame m ρ, fun _ m ρ _ => Cert.AdamSmallIdeal.Gen.frame m ρ,
   fun _ m ρ _ => (θ_run Cert.AdamSmallRefIdeal.defs _ _).mono
     (fun r h => ⟨fun c => (h c).2.2.2.2, sem_eq_zero_of_no_sems (by decide) r.2⟩) (Cert.AdamSmallRefIdeal.Value.run m ρ)⟩

/-- Attn: likewise, with its condition on the arguments and without. -/
theorem frame_Attn : (∀ h : Cert.Attn.Facts, @Cert.quiescent_Attn h) ∧ (∀ h : Cert.AttnIdeal.Facts, @Cert.quiescent_AttnIdeal h)
    ∧ (∀ h : Cert.AttnRefIdeal.Facts, @Cert.quiescent_AttnRefIdeal h) :=
  ⟨fun _ m ρ _ => Cert.Attn.Gen.frame m ρ, fun _ m ρ _ => Cert.AttnIdeal.Gen.frame m ρ,
   fun _ m ρ _ => (θ_run Cert.AttnRefIdeal.defs _ _).mono
     (fun r h => ⟨fun c => (h c).2.2.2.2.2.2.2.2, sem_eq_zero_of_no_sems (by decide) r.2⟩) (Cert.AttnRefIdeal.Value.run m ρ)⟩
theorem frame_Attn_finite : (∀ (h : Cert.AttnIdeal.Facts) (h' : Cert.Pre_finite.Facts), @Cert.quiescent_AttnIdeal_pre_finite h h')
    ∧ (∀ (h : Cert.AttnRefIdeal.Facts) (h' : Cert.Pre_finite.Facts), @Cert.quiescent_AttnRefIdeal_pre_finite h h') :=
  ⟨fun _ _ m ρ _ => frame_Attn.2.1 _ m ρ True.intro, fun _ _ m ρ _ => frame_Attn.2.2 _ m ρ True.intro⟩

theorem claim : Cert.Claim := ⟨Cert.Norm.Gen.facts, Cert.NormIdeal.Gen.facts, Cert.NormRefIdeal.Gen.facts, Cert.NormFirst.Gen.facts, Cert.NormFirstIdeal.Gen.facts, Cert.NormFirstRefIdeal.Gen.facts, Cert.Loss.Gen.facts, Cert.LossIdeal.Gen.facts, Cert.LossRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.DMixed.Gen.facts, Cert.DMixedIdeal.Gen.facts, Cert.DMixedRefIdeal.Gen.facts, Cert.DwOut.Gen.facts, Cert.DwOutIdeal.Gen.facts, Cert.DwOutRefIdeal.Gen.facts, Cert.DwIn.Gen.facts, Cert.DwInIdeal.Gen.facts, Cert.DwInRefIdeal.Gen.facts, Cert.DwInB.Gen.facts, Cert.DwInBIdeal.Gen.facts, Cert.DwInBRefIdeal.Gen.facts, Cert.DXn.Gen.facts, Cert.DXnIdeal.Gen.facts, Cert.DXnRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamMeta.Gen.facts, Cert.AdamMetaIdeal.Gen.facts, Cert.AdamMetaRefIdeal.Gen.facts, Cert.AdamNorm.Gen.facts, Cert.AdamNormIdeal.Gen.facts, Cert.AdamNormRefIdeal.Gen.facts, Cert.AdamSmall.Gen.facts, Cert.AdamSmallIdeal.Gen.facts, Cert.AdamSmallRefIdeal.Gen.facts, Cert.Attn.Gen.facts, Cert.AttnIdeal.Gen.facts, Cert.AttnRefIdeal.Gen.facts, Cert.Pre_finite.Gen.facts,
  frame_Norm.1 _, frame_Norm.2.1 _, frame_Norm.2.2 _,
  frame_NormFirst.1 _, frame_NormFirst.2.1 _, frame_NormFirst.2.2 _,
  frame_Loss.1 _, frame_Loss.2.1 _, frame_Loss.2.2 _,
  frame_InProj.1 _, frame_InProj.2.1 _, frame_InProj.2.2 _,
  frame_OutProj.1 _, frame_OutProj.2.1 _, frame_OutProj.2.2 _,
  frame_DMixed.1 _, frame_DMixed.2.1 _, frame_DMixed.2.2 _,
  frame_DwOut.1 _, frame_DwOut.2.1 _, frame_DwOut.2.2 _,
  frame_DwIn.1 _, frame_DwIn.2.1 _, frame_DwIn.2.2 _,
  frame_DwInB.1 _, frame_DwInB.2.1 _, frame_DwInB.2.2 _,
  frame_DXn.1 _, frame_DXn.2.1 _, frame_DXn.2.2 _,
  frame_AdamIn.1 _, frame_AdamIn.2.1 _, frame_AdamIn.2.2 _,
  frame_AdamOut.1 _, frame_AdamOut.2.1 _, frame_AdamOut.2.2 _,
  frame_AdamMeta.1 _, frame_AdamMeta.2.1 _, frame_AdamMeta.2.2 _,
  frame_AdamNorm.1 _, frame_AdamNorm.2.1 _, frame_AdamNorm.2.2 _,
  frame_AdamSmall.1 _, frame_AdamSmall.2.1 _, frame_AdamSmall.2.2 _,
  frame_Attn.1 _, frame_Attn.2.1 _, frame_Attn_finite.1 _ _, frame_Attn.2.2 _, frame_Attn_finite.2 _ _,
  trivial, Cert.Hand.Norm.equal, trivial, Cert.Hand.NormFirst.equal, trivial, Cert.Hand.Loss.equal, trivial, Cert.Hand.InProj.equal, trivial, Cert.Hand.OutProj.equal, trivial, Cert.Hand.DMixed.equal, trivial, Cert.Hand.DwOut.equal, trivial, Cert.Hand.DwIn.equal, trivial, Cert.Hand.DwInB.equal, trivial, Cert.Hand.DXn.equal, trivial, Cert.Hand.AdamIn.equal, trivial, Cert.Hand.AdamOut.equal, trivial, Cert.Hand.AdamMeta.equal, trivial, Cert.Hand.AdamNorm.equal, trivial, Cert.Hand.AdamSmall.equal, Cert.Hand.Attn.mask, Cert.Hand.Attn.equal⟩

end Cert.Proof

end
